-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def preserves_Kernel_KernelIdeal : Prop :=
  IdealRules.named_const.Statement Cert.KernelIdeal.κ "cap" .f32 0x42FC0000#32 ⊤
  ∧ IdealRules.named_const.Statement Cert.KernelIdeal.κ "log2e" .f32 0x3FB8AA3B#32 (((Real.log 2)⁻¹ : ℝ) : EReal)
  ∧ IdealRules.named_const.Statement Cert.KernelIdeal.κ "mask" .f32 0xF149F2CA#32 ⊥

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v4) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v16) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v3) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v3) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v3_0)) (v1 : (c : Dev Cert.Kernel4Ideal.nD) → Buf (Elt Ideal) ((c.tc : Thread Cert.Kernel4Ideal.nD Cert.Kernel4Ideal.τ).loc Cert.Kernel4Ideal.main_v3_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v3_0) = v0 c
          ∧ r.2.mem ((c.tc : Thread Cert.Kernel4Ideal.nD Cert.Kernel4Ideal.τ).loc Cert.Kernel4Ideal.main_v3_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v17) = v0 c
          ∧ r.2.mem ((c.tc : Thread Cert.Reference4Ideal.nD Cert.Reference4Ideal.τ).loc Cert.Reference4Ideal.main_v19) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  IdealRules.named_const.Statement Cert.Kernel5Ideal.κ "scale" .f32 0x3DB8AA3B#32 (((Real.log 65536)⁻¹ : ℝ) : EReal)

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v3_0)) (v1 : (c : Dev Cert.Kernel5Ideal.nD) → Buf (Elt Ideal) ((c.tc : Thread Cert.Kernel5Ideal.nD Cert.Kernel5Ideal.τ).loc Cert.Kernel5Ideal.main_v3_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v3_0) = v0 c
          ∧ r.2.mem ((c.tc : Thread Cert.Kernel5Ideal.nD Cert.Kernel5Ideal.τ).loc Cert.Kernel5Ideal.main_v3_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v22) = v0 c
          ∧ r.2.mem ((c.tc : Thread Cert.Reference5Ideal.nD Cert.Reference5Ideal.τ).loc Cert.Reference5Ideal.main_v23) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)) →
    ∃ (v0 : (c : Dev Cert.Kernel6Ideal.nD) → Buf (Elt Ideal) ((c.tc : Thread Cert.Kernel6Ideal.nD Cert.Kernel6Ideal.τ).loc Cert.Kernel6Ideal.main_v4)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v4) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v83) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
-- ==== Kernel.lean ====
abbrev S2x16384x2048 : Shape := ⟨3, ![2, 16384, 2048]⟩
abbrev S256x256 : Shape := ⟨2, ![256, 256]⟩
abbrev S_ : Shape := ⟨0, ![]⟩
abbrev S1x1024x256 : Shape := ⟨3, ![1, 1024, 256]⟩
abbrev S1x16384x256 : Shape := ⟨3, ![1, 16384, 256]⟩
abbrev S1024x256 : Shape := ⟨2, ![1024, 256]⟩
abbrev S1024x512 : Shape := ⟨2, ![1024, 512]⟩
abbrev S1024x1 : Shape := ⟨2, ![1024, 1]⟩
abbrev S512x1 : Shape := ⟨2, ![512, 1]⟩
abbrev S1x512x256 : Shape := ⟨3, ![1, 512, 256]⟩
abbrev S512x256 : Shape := ⟨2, ![512, 256]⟩
abbrev S512x512 : Shape := ⟨2, ![512, 512]⟩
abbrev S1x512 : Shape := ⟨2, ![1, 512]⟩
abbrev S512 : Shape := ⟨1, ![512]⟩

abbrev nBuf : Space → Nat
  | .hbm => 14
  | .vmem => 14
  | .smem => 0
  | _ => 0

abbrev bufTy : (tb : Table) → Fin (tcTables nBuf tb) → BufTy
  | .hbm, ⟨0, _⟩ => ⟨S2x16384x2048, .bf16⟩
  | .hbm, ⟨1, _⟩ => ⟨S2x16384x2048, .bf16⟩
  | .hbm, ⟨2, _⟩ => ⟨S2x16384x2048, .bf16⟩
  | .hbm, ⟨3, _⟩ => ⟨S2x16384x2048, .f32⟩
  | .hbm, ⟨4, _⟩ => ⟨S256x256, .i32⟩
  | .hbm, ⟨5, _⟩ => ⟨S256x256, .i32⟩
  | .hbm, ⟨6, _⟩ => ⟨S256x256, .i1⟩
  | .hbm, ⟨7, _⟩ => ⟨S_, .f32⟩
  | .hbm, ⟨8, _⟩ => ⟨S_, .f32⟩
  | .hbm, ⟨9, _⟩ => ⟨S256x256, .f32⟩
  | .hbm, ⟨10, _⟩ => ⟨S256x256, .f32⟩
  | .hbm, ⟨11, _⟩ => ⟨S256x256, .f32⟩
  | .hbm, ⟨12, _⟩ => ⟨S256x256, .bf16⟩
  | .hbm, ⟨13, _⟩ => ⟨S2x16384x2048, .bf16⟩
  | .local _ .vmem, ⟨0, _⟩ => ⟨S1x1024x256, .bf16⟩
  | .local _ .vmem, ⟨1, _⟩ => ⟨S1x1024x256, .bf16⟩
  | .local _ .vmem, ⟨2, _⟩ => ⟨S1x16384x256, .bf16⟩
  | .local _ .vmem, ⟨3, _⟩ => ⟨S1x16384x256, .bf16⟩
  | .local _ .vmem, ⟨4, _⟩ => ⟨S1x1024x256, .f32⟩
  | .local _ .vmem, ⟨5, _⟩ => ⟨S1x1024x256, .f32⟩
  | .local _ .vmem, ⟨6, _⟩ => ⟨S256x256, .bf16⟩
  | .local _ .vmem, ⟨7, _⟩ => ⟨S1x1024x256, .bf16⟩
  | .local _ .vmem, ⟨8, _⟩ => ⟨S1x1024x256, .bf16⟩
  | .local _ .vmem, ⟨9, _⟩ => ⟨S1024x256, .f32⟩
  | .local _ .vmem, ⟨10, _⟩ => ⟨S1024x512, .bf16⟩
  | .local _ .vmem, ⟨11, _⟩ => ⟨S1024x512, .f32⟩
  | .local _ .vmem, ⟨12, _⟩ => ⟨S1024x512, .bf16⟩
  | .local _ .vmem, ⟨13, _⟩ => ⟨S1024x512, .f32⟩
  | _, _ => ⟨S2x16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_cst_0 : Ref sig .tc := ⟨.hbm, 8, rfl⟩
abbrev main_call0_v0 : Ref sig .tc := ⟨.hbm, 9, rfl⟩
abbrev main_call0_v1 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_scratch3 : Ref sig .tc := ⟨.vmem, 12, rfl⟩
abbrev cc0_scratch4 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨3, ![2, 8, 16], ![false, false, false]⟩

def k0_mult1 (i : grid0.Coords) : BitVec 32 :=
  let arg2 : BitVec 32 := BitVec.ofNat 32 (i 2).val
  let c1_i32 : BitVec 32 := 1#32
  let v9 : BitVec 32 := Scalar.addi arg2 c1_i32
  let c1024_i32_2 : BitVec 32 := 1024#32
  let v10 : BitVec 32 := Scalar.muli v9 c1024_i32_2
  let c512_i32 : BitVec 32 := 512#32
  let v11 : BitVec 32 := Scalar.subi v10 c512_i32
  v11
def k0_off1 (i : grid0.Coords) (c512_i32 : BitVec 32) : Fin 3 → Nat :=
  let c0_5 : Index := 0#32
  let arg2 : BitVec 32 := BitVec.ofNat 32 (i 2).val
  let c1_i32 : BitVec 32 := 1#32
  let v9 : BitVec 32 := Scalar.addi arg2 c1_i32
  let c1024_i32_2 : BitVec 32 := 1024#32
  let v10 : BitVec 32 := Scalar.muli v9 c1024_i32_2
  let v11 : BitVec 32 := Scalar.subi v10 c512_i32
  let v12 : BitVec 32 := v11
  let v15 : Index := Scalar.indexCast v12
  let c0_6 : Index := 0#32
  ![0, v15.toNat, 0]
def k0_mult2 (i : grid0.Coords) : BitVec 32 :=
  let arg2 : BitVec 32 := BitVec.ofNat 32 (i 2).val
  let c1_i32_20 : BitVec 32 := 1#32
  let v63 : BitVec 32 := Scalar.addi arg2 c1_i32_20
  let c1024_i32_21 : BitVec 32 := 1024#32
  let v64 : BitVec 32 := Scalar.muli v63 c1024_i32_21
  let c1024_i32_22 : BitVec 32 := 1024#32
  let v65 : BitVec 32 := Scalar.subi v64 c1024_i32_22
  v65
def k0_mult3 (i : grid0.Coords) : BitVec 32 :=
  let arg2 : BitVec 32 := BitVec.ofNat 32 (i 2).val
  let c1_i32_64 : BitVec 32 := 1#32
  let v154 : BitVec 32 := Scalar.addi arg2 c1_i32_64
  let c1024_i32_65 : BitVec 32 := 1024#32
  let v155 : BitVec 32 := Scalar.muli v154 c1024_i32_65
  let c512_i32_66 : BitVec 32 := 512#32
  let v156 : BitVec 32 := Scalar.subi v155 c512_i32_66
  v156
@[reducible] def k0_t1_loop (i : grid0.Coords) : Scf.Loop 32 :=
  let c0_i32_77 : BitVec 32 := 0#32
  let arg2 : BitVec 32 := BitVec.ofNat 32 (i 2).val
  let c0_i32 : BitVec 32 := 0#32
  let v167 : BitVec 1 := Scalar.cmpi .sgt arg2 c0_i32
  let v168 : BitVec 32 := Scalar.extui v167
  let c0_i32_72 : BitVec 32 := 0#32
  let v169 : BitVec 1 := Scalar.cmpi .slt arg2 c0_i32_72
  let v170 : BitVec 32 := Scalar.extui v169
  let v171 : BitVec 32 := Scalar.subi v168 v170
  let c4_i32 : BitVec 32 := 4#32
  let c0_i32_73 : BitVec 32 := 0#32
  let v172 : BitVec 1 := Scalar.cmpi .sgt c4_i32 c0_i32_73
  let v173 : BitVec 32 := Scalar.extui v172
  let c0_i32_74 : BitVec 32 := 0#32
  let v174 : BitVec 1 := Scalar.cmpi .slt c4_i32 c0_i32_74
  let v175 : BitVec 32 := Scalar.extui v174
  let v176 : BitVec 32 := Scalar.subi v173 v175
  let v177 : BitVec 1 := Scalar.cmpi .ne v171 v176
  let v178 : BitVec 32 := Scalar.remsi arg2 c4_i32
  let c0_i32_75 : BitVec 32 := 0#32
  let v179 : BitVec 1 := Scalar.cmpi .ne v178 c0_i32_75
  let v180 : BitVec 1 := Scalar.andi v177 v179
  let v166 : BitVec 32 := Scalar.divsi arg2 c4_i32
  let c1_i32_76 : BitVec 32 := 1#32
  let v181 : BitVec 32 := Scalar.subi v166 c1_i32_76
  let v182 : BitVec 32 := Scalar.select v180 v181 v166
  let v183 : BitVec 32 := Scalar.subi v182 c0_i32_77
  let c1_i32_78 : BitVec 32 := 1#32
  let v185 : BitVec 32 := Scalar.divsi v183 c1_i32_78
  let v186 : BitVec 32 := Scalar.muli v185 c1_i32_78
  let v187 : BitVec 32 := Scalar.addi c0_i32_77 v186
  let c1_i32_79 : BitVec 32 := 1#32
  ⟨c0_i32_77, v187, c1_i32_79⟩
def k0_mult4 (i : grid0.Coords) (k0_t1 : Fin (k0_t1_loop i).trips) : BitVec 32 :=
  let arg2 : BitVec 32 := BitVec.ofNat 32 (i 2).val
  let c1_i32_128 : BitVec 32 := 1#32
  let v255 : BitVec 32 := Scalar.addi arg2 c1_i32_128
  let c1024_i32_129 : BitVec 32 := 1024#32
  let v256 : BitVec 32 := Scalar.muli v255 c1024_i32_129
  let c8_i32 : BitVec 32 := 8#32
  let c0_i32_77 : BitVec 32 := 0#32
  let c1_i32_79 : BitVec 32 := 1#32
  let arg14 : BitVec 32 := Scf.iv c0_i32_77 c1_i32_79 k0_t1
  let v251 : BitVec 32 := Scalar.muli c8_i32 arg14
  let c0_i32_125 : BitVec 32 := 0#32
  let v252 : BitVec 32 := Scalar.addi v251 c0_i32_125
  let c1_i32_126 : BitVec 32 := 1#32
  let v253 : BitVec 32 := Scalar.addi v252 c1_i32_126
  let c1_i32_127 : BitVec 32 := 1#32
  let v254 : BitVec 32 := Scalar.addi v253 c1_i32_127
  let c1_i32_130 : BitVec 32 := 1#32
  let v257 : BitVec 32 := Scalar.addi v254 c1_i32_130
  let c512_i32_131 : BitVec 32 := 512#32
  let v258 : BitVec 32 := Scalar.muli v257 c512_i32_131
  let v259 : BitVec 32 := Scalar.subi v256 v258
  v259
def k0_off2 (i : grid0.Coords) (k0_t1 : Fin (k0_t1_loop i).trips) (c0_i32_125 : BitVec 32) (c1_i32_127 : BitVec 32) : Fin 3 → Nat :=
  let c0_135 : Index := 0#32
  let arg2 : BitVec 32 := BitVec.ofNat 32 (i 2).val
  let c1_i32_128 : BitVec 32 := 1#32
  let v255 : BitVec 32 := Scalar.addi arg2 c1_i32_128
  let c1024_i32_129 : BitVec 32 := 1024#32
  let v256 : BitVec 32 := Scalar.muli v255 c1024_i32_129
  let c8_i32 : BitVec 32 := 8#32
  let c0_i32_77 : BitVec 32 := 0#32
  let c1_i32_79 : BitVec 32 := 1#32
  let arg14 : BitVec 32 := Scf.iv c0_i32_77 c1_i32_79 k0_t1
  let v251 : BitVec 32 := Scalar.muli c8_i32 arg14
  let v252 : BitVec 32 := Scalar.addi v251 c0_i32_125
  let c1_i32_126 : BitVec 32 := 1#32
  let v253 : BitVec 32 := Scalar.addi v252 c1_i32_126
  let v254 : BitVec 32 := Scalar.addi v253 c1_i32_127
  let c1_i32_130 : BitVec 32 := 1#32
  let v257 : BitVec 32 := Scalar.addi v254 c1_i32_130
  let c512_i32_131 : BitVec 32 := 512#32
  let v258 : BitVec 32 := Scalar.muli v257 c512_i32_131
  let v259 : BitVec 32 := Scalar.subi v256 v258
  let v260 : BitVec 32 := v259
  let v263 : Index := Scalar.indexCast v260
  let c0_136 : Index := 0#32
  ![0, v263.toNat, 0]
def k0_mult5 (i : grid0.Coords) (k0_t1 : Fin (k0_t1_loop i).trips) : BitVec 32 :=
  let arg2 : BitVec 32 := BitVec.ofNat 32 (i 2).val
  let c1_i32_171 : BitVec 32 := 1#32
  let v338 : BitVec 32 := Scalar.addi arg2 c1_i32_171
  let c1024_i32_172 : BitVec 32 := 1024#32
  let v339 : BitVec 32 := Scalar.muli v338 c1024_i32_172
  let c8_i32 : BitVec 32 := 8#32
  let c0_i32_77 : BitVec 32 := 0#32
  let c1_i32_79 : BitVec 32 := 1#32
  let arg14 : BitVec 32 := Scf.iv c0_i32_77 c1_i32_79 k0_t1
  let v251 : BitVec 32 := Scalar.muli c8_i32 arg14
  let c0_i32_125 : BitVec 32 := 0#32
  let v252 : BitVec 32 := Scalar.addi v251 c0_i32_125
  let c1_i32_126 : BitVec 32 := 1#32
  let v253 : BitVec 32 := Scalar.addi v252 c1_i32_126
  let c1_i32_173 : BitVec 32 := 1#32
  let v340 : BitVec 32 := Scalar.addi v253 c1_i32_173
  let c512_i32_174 : BitVec 32 := 512#32
  let v341 : BitVec 32 := Scalar.muli v340 c512_i32_174
  let v342 : BitVec 32 := Scalar.subi v339 v341
  v342
def k0_off3 (i : grid0.Coords) (k0_t1 : Fin (k0_t1_loop i).trips) (c0_i32_125 : BitVec 32) : Fin 3 → Nat :=
  let c0_175 : Index := 0#32
  let arg2 : BitVec 32 := BitVec.ofNat 32 (i 2).val
  let c1_i32_171 : BitVec 32 := 1#32
  let v338 : BitVec 32 := Scalar.addi arg2 c1_i32_171
  let c1024_i32_172 : BitVec 32 := 1024#32
  let v339 : BitVec 32 := Scalar.muli v338 c1024_i32_172
  let c8_i32 : BitVec 32 := 8#32
  let c0_i32_77 : BitVec 32 := 0#32
  let c1_i32_79 : BitVec 32 := 1#32
  let arg14 : BitVec 32 := Scf.iv c0_i32_77 c1_i32_79 k0_t1
  let v251 : BitVec 32 := Scalar.muli c8_i32 arg14
  let v252 : BitVec 32 := Scalar.addi v251 c0_i32_125
  let c1_i32_126 : BitVec 32 := 1#32
  let v253 : BitVec 32 := Scalar.addi v252 c1_i32_126
  let c1_i32_173 : BitVec 32 := 1#32
  let v340 : BitVec 32 := Scalar.addi v253 c1_i32_173
  let c512_i32_174 : BitVec 32 := 512#32
  let v341 : BitVec 32 := Scalar.muli v340 c512_i32_174
  let v342 : BitVec 32 := Scalar.subi v339 v341
  let v343 : BitVec 32 := v342
  let v344 : Index := Scalar.indexCast v343
  let c0_176 : Index := 0#32
  ![0, v344.toNat, 0]
def k0_mult6 (i : grid0.Coords) (k0_t1 : Fin (k0_t1_loop i).trips) : BitVec 32 :=
  let arg2 : BitVec 32 := BitVec.ofNat 32 (i 2).val
  let c1_i32_181 : BitVec 32 := 1#32
  let v353 : BitVec 32 := Scalar.addi arg2 c1_i32_181
  let c1024_i32_182 : BitVec 32 := 1024#32
  let v354 : BitVec 32 := Scalar.muli v353 c1024_i32_182
  let c8_i32 : BitVec 32 := 8#32
  let c0_i32_77 : BitVec 32 := 0#32
  let c1_i32_79 : BitVec 32 := 1#32
  let arg14 : BitVec 32 := Scf.iv c0_i32_77 c1_i32_79 k0_t1
  let v251 : BitVec 32 := Scalar.muli c8_i32 arg14
  let c0_i32_125 : BitVec 32 := 0#32
  let v252 : BitVec 32 := Scalar.addi v251 c0_i32_125
  let c1_i32_126 : BitVec 32 := 1#32
  let v253 : BitVec 32 := Scalar.addi v252 c1_i32_126
  let c2_i32_180 : BitVec 32 := 2#32
  let v352 : BitVec 32 := Scalar.addi v253 c2_i32_180
  let c1_i32_183 : BitVec 32 := 1#32
  let v355 : BitVec 32 := Scalar.addi v352 c1_i32_183
  let c512_i32_184 : BitVec 32 := 512#32
  let v356 : BitVec 32 := Scalar.muli v355 c512_i32_184
  let v357 : BitVec 32 := Scalar.subi v354 v356
  v357
def k0_mult7 (i : grid0.Coords) (k0_t1 : Fin (k0_t1_loop i).trips) : BitVec 32 :=
  let arg2 : BitVec 32 := BitVec.ofNat 32 (i 2).val
  let c1_i32_225 : BitVec 32 := 1#32
  let v437 : BitVec 32 := Scalar.addi arg2 c1_i32_225
  let c1024_i32_226 : BitVec 32 := 1024#32
  let v438 : BitVec 32 := Scalar.muli v437 c1024_i32_226
  let c8_i32 : BitVec 32 := 8#32
  let c0_i32_77 : BitVec 32 := 0#32
  let c1_i32_79 : BitVec 32 := 1#32
  let arg14 : BitVec 32 := Scf.iv c0_i32_77 c1_i32_79 k0_t1
  let v251 : BitVec 32 := Scalar.muli c8_i32 arg14
  let c0_i32_125 : BitVec 32 := 0#32
  let v252 : BitVec 32 := Scalar.addi v251 c0_i32_125
  let c1_i32_126 : BitVec 32 := 1#32
  let v253 : BitVec 32 := Scalar.addi v252 c1_i32_126
  let c1_i32_208 : BitVec 32 := 1#32
  let v418 : BitVec 32 := Scalar.addi v253 c1_i32_208
  let c1_i32_227 : BitVec 32 := 1#32
  let v439 : BitVec 32 := Scalar.addi v418 c1_i32_227
  let c512_i32_228 : BitVec 32 := 512#32
  let v440 : BitVec 32 := Scalar.muli v439 c512_i32_228
  let v441 : BitVec 32 := Scalar.subi v438 v440
  v441
def k0_mult8 (i : grid0.Coords) (k0_t1 : Fin (k0_t1_loop i).trips) : BitVec 32 :=
  let arg2 : BitVec 32 := BitVec.ofNat 32 (i 2).val
  let c1_i32_238 : BitVec 32 := 1#32
  let v455 : BitVec 32 := Scalar.addi arg2 c1_i32_238
  let c1024_i32_239 : BitVec 32 := 1024#32
  let v456 : BitVec 32 := Scalar.muli v455 c1024_i32_239
  let c8_i32_234 : BitVec 32 := 8#32
  let c0_i32_77 : BitVec 32 := 0#32
  let c1_i32_79 : BitVec 32 := 1#32
  let arg14 : BitVec 32 := Scf.iv c0_i32_77 c1_i32_79 k0_t1
  let v451 : BitVec 32 := Scalar.muli c8_i32_234 arg14
  let c2_i32_235 : BitVec 32 := 2#32
  let v452 : BitVec 32 := Scalar.addi v451 c2_i32_235
  let c1_i32_236 : BitVec 32 := 1#32
  let v453 : BitVec 32 := Scalar.addi v452 c1_i32_236
  let c1_i32_237 : BitVec 32 := 1#32
  let v454 : BitVec 32 := Scalar.addi v453 c1_i32_237
  let c1_i32_240 : BitVec 32 := 1#32
  let v457 : BitVec 32 := Scalar.addi v454 c1_i32_240
  let c512_i32_241 : BitVec 32 := 512#32
  let v458 : BitVec 32 := Scalar.muli v457 c512_i32_241
  let v459 : BitVec 32 := Scalar.subi v456 v458
  v459
def k0_mult9 (i : grid0.Coords) (k0_t1 : Fin (k0_t1_loop i).trips) : BitVec 32 :=
  let arg2 : BitVec 32 := BitVec.ofNat 32 (i 2).val
  let c1_i32_281 : BitVec 32 := 1#32
  let v538 : BitVec 32 := Scalar.addi arg2 c1_i32_281
  let c1024_i32_282 : BitVec 32 := 1024#32
  let v539 : BitVec 32 := Scalar.muli v538 c1024_i32_282
  let c8_i32_234 : BitVec 32 := 8#32
  let c0_i32_77 : BitVec 32 := 0#32
  let c1_i32_79 : BitVec 32 := 1#32
  let arg14 : BitVec 32 := Scf.iv c0_i32_77 c1_i32_79 k0_t1
  let v451 : BitVec 32 := Scalar.muli c8_i32_234 arg14
  let c2_i32_235 : BitVec 32 := 2#32
  let v452 : BitVec 32 := Scalar.addi v451 c2_i32_235
  let c1_i32_236 : BitVec 32 := 1#32
  let v453 : BitVec 32 := Scalar.addi v452 c1_i32_236
  let c1_i32_283 : BitVec 32 := 1#32
  let v540 : BitVec 32 := Scalar.addi v453 c1_i32_283
  let c512_i32_284 : BitVec 32 := 512#32
  let v541 : BitVec 32 := Scalar.muli v540 c512_i32_284
  let v542 : BitVec 32 := Scalar.subi v539 v541
  v542
def k0_mult10 (i : grid0.Coords) (k0_t1 : Fin (k0_t1_loop i).trips) : BitVec 32 :=
  let arg2 : BitVec 32 := BitVec.ofNat 32 (i 2).val
  let c1_i32_291 : BitVec 32 := 1#32
  let v553 : BitVec 32 := Scalar.addi arg2 c1_i32_291
  let c1024_i32_292 : BitVec 32 := 1024#32
  let v554 : BitVec 32 := Scalar.muli v553 c1024_i32_292
  let c8_i32_234 : BitVec 32 := 8#32
  let c0_i32_77 : BitVec 32 := 0#32
  let c1_i32_79 : BitVec 32 := 1#32
  let arg14 : BitVec 32 := Scf.iv c0_i32_77 c1_i32_79 k0_t1
  let v451 : BitVec 32 := Scalar.muli c8_i32_234 arg14
  let c2_i32_235 : BitVec 32 := 2#32
  let v452 : BitVec 32 := Scalar.addi v451 c2_i32_235
  let c1_i32_236 : BitVec 32 := 1#32
  let v453 : BitVec 32 := Scalar.addi v452 c1_i32_236
  let c2_i32_290 : BitVec 32 := 2#32
  let v552 : BitVec 32 := Scalar.addi v453 c2_i32_290
  let c1_i32_293 : BitVec 32 := 1#32
  let v555 : BitVec 32 := Scalar.addi v552 c1_i32_293
  let c512_i32_294 : BitVec 32 := 512#32
  let v556 : BitVec 32 := Scalar.muli v555 c512_i32_294
  let v557 : BitVec 32 := Scalar.subi v554 v556
  v557
def k0_mult11 (i : grid0.Coords) (k0_t1 : Fin (k0_t1_loop i).trips) : BitVec 32 :=
  let arg2 : BitVec 32 := BitVec.ofNat 32 (i 2).val
  let c1_i32_335 : BitVec 32 := 1#32
  let v637 : BitVec 32 := Scalar.addi arg2 c1_i32_335
  let c1024_i32_336 : BitVec 32 := 1024#32
  let v638 : BitVec 32 := Scalar.muli v637 c1024_i32_336
  let c8_i32_234 : BitVec 32 := 8#32
  let c0_i32_77 : BitVec 32 := 0#32
  let c1_i32_79 : BitVec 32 := 1#32
  let arg14 : BitVec 32 := Scf.iv c0_i32_77 c1_i32_79 k0_t1
  let v451 : BitVec 32 := Scalar.muli c8_i32_234 arg14
  let c2_i32_235 : BitVec 32 := 2#32
  let v452 : BitVec 32 := Scalar.addi v451 c2_i32_235
  let c1_i32_236 : BitVec 32 := 1#32
  let v453 : BitVec 32 := Scalar.addi v452 c1_i32_236
  let c1_i32_318 : BitVec 32 := 1#32
  let v618 : BitVec 32 := Scalar.addi v453 c1_i32_318
  let c1_i32_337 : BitVec 32 := 1#32
  let v639 : BitVec 32 := Scalar.addi v618 c1_i32_337
  let c512_i32_338 : BitVec 32 := 512#32
  let v640 : BitVec 32 := Scalar.muli v639 c512_i32_338
  let v641 : BitVec 32 := Scalar.subi v638 v640
  v641
def k0_mult12 (i : grid0.Coords) (k0_t1 : Fin (k0_t1_loop i).trips) : BitVec 32 :=
  let arg2 : BitVec 32 := BitVec.ofNat 32 (i 2).val
  let c1_i32_348 : BitVec 32 := 1#32
  let v655 : BitVec 32 := Scalar.addi arg2 c1_i32_348
  let c1024_i32_349 : BitVec 32 := 1024#32
  let v656 : BitVec 32 := Scalar.muli v655 c1024_i32_349
  let c8_i32_344 : BitVec 32 := 8#32
  let c0_i32_77 : BitVec 32 := 0#32
  let c1_i32_79 : BitVec 32 := 1#32
  let arg14 : BitVec 32 := Scf.iv c0_i32_77 c1_i32_79 k0_t1
  let v651 : BitVec 32 := Scalar.muli c8_i32_344 arg14
  let c4_i32_345 : BitVec 32 := 4#32
  let v652 : BitVec 32 := Scalar.addi v651 c4_i32_345
  let c1_i32_346 : BitVec 32 := 1#32
  let v653 : BitVec 32 := Scalar.addi v652 c1_i32_346
  let c1_i32_347 : BitVec 32 := 1#32
  let v654 : BitVec 32 := Scalar.addi v653 c1_i32_347
  let c1_i32_350 : BitVec 32 := 1#32
  let v657 : BitVec 32 := Scalar.addi v654 c1_i32_350
  let c512_i32_351 : BitVec 32 := 512#32
  let v658 : BitVec 32 := Scalar.muli v657 c512_i32_351
  let v659 : BitVec 32 := Scalar.subi v656 v658
  v659
def k0_mult13 (i : grid0.Coords) (k0_t1 : Fin (k0_t1_loop i).trips) : BitVec 32 :=
  let arg2 : BitVec 32 := BitVec.ofNat 32 (i 2).val
  let c1_i32_391 : BitVec 32 := 1#32
  let v738 : BitVec 32 := Scalar.addi arg2 c1_i32_391
  let c1024_i32_392 : BitVec 32 := 1024#32
  let v739 : BitVec 32 := Scalar.muli v738 c1024_i32_392
  let c8_i32_344 : BitVec 32 := 8#32
  let c0_i32_77 : BitVec 32 := 0#32
  let c1_i32_79 : BitVec 32 := 1#32
  let arg14 : BitVec 32 := Scf.iv c0_i32_77 c1_i32_79 k0_t1
  let v651 : BitVec 32 := Scalar.muli c8_i32_344 arg14
  let c4_i32_345 : BitVec 32 := 4#32
  let v652 : BitVec 32 := Scalar.addi v651 c4_i32_345
  let c1_i32_346 : BitVec 32 := 1#32
  let v653 : BitVec 32 := Scalar.addi v652 c1_i32_346
  let c1_i32_393 : BitVec 32 := 1#32
  let v740 : BitVec 32 := Scalar.addi v653 c1_i32_393
  let c512_i32_394 : BitVec 32 := 512#32
  let v741 : BitVec 32 := Scalar.muli v740 c512_i32_394
  let v742 : BitVec 32 := Scalar.subi v739 v741
  v742
def k0_mult14 (i : grid0.Coords) (k0_t1 : Fin (k0_t1_loop i).trips) : BitVec 32 :=
  let arg2 : BitVec 32 := BitVec.ofNat 32 (i 2).val
  let c1_i32_401 : BitVec 32 := 1#32
  let v753 : BitVec 32 := Scalar.addi arg2 c1_i32_401
  let c1024_i32_402 : BitVec 32 := 1024#32
  let v754 : BitVec 32 := Scalar.muli v753 c1024_i32_402
  let c8_i32_344 : BitVec 32 := 8#32
  let c0_i32_77 : BitVec 32 := 0#32
  let c1_i32_79 : BitVec 32 := 1#32
  let arg14 : BitVec 32 := Scf.iv c0_i32_77 c1_i32_79 k0_t1
  let v651 : BitVec 32 := Scalar.muli c8_i32_344 arg14
  let c4_i32_345 : BitVec 32 := 4#32
  let v652 : BitVec 32 := Scalar.addi v651 c4_i32_345
  let c1_i32_346 : BitVec 32 := 1#32
  let v653 : BitVec 32 := Scalar.addi v652 c1_i32_346
  let c2_i32_400 : BitVec 32 := 2#32
  let v752 : BitVec 32 := Scalar.addi v653 c2_i32_400
  let c1_i32_403 : BitVec 32 := 1#32
  let v755 : BitVec 32 := Scalar.addi v752 c1_i32_403
  let c512_i32_404 : BitVec 32 := 512#32
  let v756 : BitVec 32 := Scalar.muli v755 c512_i32_404
  let v757 : BitVec 32 := Scalar.subi v754 v756
  v757
def k0_mult15 (i : grid0.Coords) (k0_t1 : Fin (k0_t1_loop i).trips) : BitVec 32 :=
  let arg2 : BitVec 32 := BitVec.ofNat 32 (i 2).val
  let c1_i32_445 : BitVec 32 := 1#32
  let v837 : BitVec 32 := Scalar.addi arg2 c1_i32_445
  let c1024_i32_446 : BitVec 32 := 1024#32
  let v838 : BitVec 32 := Scalar.muli v837 c1024_i32_446
  let c8_i32_344 : BitVec 32 := 8#32
  let c0_i32_77 : BitVec 32 := 0#32
  let c1_i32_79 : BitVec 32 := 1#32
  let arg14 : BitVec 32 := Scf.iv c0_i32_77 c1_i32_79 k0_t1
  let v651 : BitVec 32 := Scalar.muli c8_i32_344 arg14
  let c4_i32_345 : BitVec 32 := 4#32
  let v652 : BitVec 32 := Scalar.addi v651 c4_i32_345
  let c1_i32_346 : BitVec 32 := 1#32
  let v653 : BitVec 32 := Scalar.addi v652 c1_i32_346
  let c1_i32_428 : BitVec 32 := 1#32
  let v818 : BitVec 32 := Scalar.addi v653 c1_i32_428
  let c1_i32_447 : BitVec 32 := 1#32
  let v839 : BitVec 32 := Scalar.addi v818 c1_i32_447
  let c512_i32_448 : BitVec 32 := 512#32
  let v840 : BitVec 32 := Scalar.muli v839 c512_i32_448
  let v841 : BitVec 32 := Scalar.subi v838 v840
  v841
def k0_mult16 (i : grid0.Coords) (k0_t1 : Fin (k0_t1_loop i).trips) : BitVec 32 :=
  let arg2 : BitVec 32 := BitVec.ofNat 32 (i 2).val
  let c1_i32_457 : BitVec 32 := 1#32
  let v855 : BitVec 32 := Scalar.addi arg2 c1_i32_457
  let c1024_i32_458 : BitVec 32 := 1024#32
  let v856 : BitVec 32 := Scalar.muli v855 c1024_i32_458
  let c8_i32_454 : BitVec 32 := 8#32
  let c0_i32_77 : BitVec 32 := 0#32
  let c1_i32_79 : BitVec 32 := 1#32
  let arg14 : BitVec 32 := Scf.iv c0_i32_77 c1_i32_79 k0_t1
  let v851 : BitVec 32 := Scalar.muli c8_i32_454 arg14
  let c6_i32 : BitVec 32 := 6#32
  let v852 : BitVec 32 := Scalar.addi v851 c6_i32
  let c1_i32_455 : BitVec 32 := 1#32
  let v853 : BitVec 32 := Scalar.addi v852 c1_i32_455
  let c1_i32_456 : BitVec 32 := 1#32
  let v854 : BitVec 32 := Scalar.addi v853 c1_i32_456
  let c1_i32_459 : BitVec 32 := 1#32
  let v857 : BitVec 32 := Scalar.addi v854 c1_i32_459
  let c512_i32_460 : BitVec 32 := 512#32
  let v858 : BitVec 32 := Scalar.muli v857 c512_i32_460
  let v859 : BitVec 32 := Scalar.subi v856 v858
  v859
def k0_mult17 (i : grid0.Coords) (k0_t1 : Fin (k0_t1_loop i).trips) : BitVec 32 :=
  let arg2 : BitVec 32 := BitVec.ofNat 32 (i 2).val
  let c1_i32_500 : BitVec 32 := 1#32
  let v938 : BitVec 32 := Scalar.addi arg2 c1_i32_500
  let c1024_i32_501 : BitVec 32 := 1024#32
  let v939 : BitVec 32 := Scalar.muli v938 c1024_i32_501
  let c8_i32_454 : BitVec 32 := 8#32
  let c0_i32_77 : BitVec 32 := 0#32
  let c1_i32_79 : BitVec 32 := 1#32
  let arg14 : BitVec 32 := Scf.iv c0_i32_77 c1_i32_79 k0_t1
  let v851 : BitVec 32 := Scalar.muli c8_i32_454 arg14
  let c6_i32 : BitVec 32 := 6#32
  let v852 : BitVec 32 := Scalar.addi v851 c6_i32
  let c1_i32_455 : BitVec 32 := 1#32
  let v853 : BitVec 32 := Scalar.addi v852 c1_i32_455
  let c1_i32_502 : BitVec 32 := 1#32
  let v940 : BitVec 32 := Scalar.addi v853 c1_i32_502
  let c512_i32_503 : BitVec 32 := 512#32
  let v941 : BitVec 32 := Scalar.muli v940 c512_i32_503
  let v942 : BitVec 32 := Scalar.subi v939 v941
  v942
def k0_mult18 (i : grid0.Coords) (k0_t1 : Fin (k0_t1_loop i).trips) : BitVec 32 :=
  let arg2 : BitVec 32 := BitVec.ofNat 32 (i 2).val
  let c1_i32_510 : BitVec 32 := 1#32
  let v953 : BitVec 32 := Scalar.addi arg2 c1_i32_510
  let c1024_i32_511 : BitVec 32 := 1024#32
  let v954 : BitVec 32 := Scalar.muli v953 c1024_i32_511
  let c8_i32_454 : BitVec 32 := 8#32
  let c0_i32_77 : BitVec 32 := 0#32
  let c1_i32_79 : BitVec 32 := 1#32
  let arg14 : BitVec 32 := Scf.iv c0_i32_77 c1_i32_79 k0_t1
  let v851 : BitVec 32 := Scalar.muli c8_i32_454 arg14
  let c6_i32 : BitVec 32 := 6#32
  let v852 : BitVec 32 := Scalar.addi v851 c6_i32
  let c1_i32_455 : BitVec 32 := 1#32
  let v853 : BitVec 32 := Scalar.addi v852 c1_i32_455
  let c2_i32_509 : BitVec 32 := 2#32
  let v952 : BitVec 32 := Scalar.addi v853 c2_i32_509
  let c1_i32_512 : BitVec 32 := 1#32
  let v955 : BitVec 32 := Scalar.addi v952 c1_i32_512
  let c512_i32_513 : BitVec 32 := 512#32
  let v956 : BitVec 32 := Scalar.muli v955 c512_i32_513
  let v957 : BitVec 32 := Scalar.subi v954 v956
  v957
def k0_mult19 (i : grid0.Coords) (k0_t1 : Fin (k0_t1_loop i).trips) : BitVec 32 :=
  let arg2 : BitVec 32 := BitVec.ofNat 32 (i 2).val
  let c1_i32_554 : BitVec 32 := 1#32
  let v1037 : BitVec 32 := Scalar.addi arg2 c1_i32_554
  let c1024_i32_555 : BitVec 32 := 1024#32
  let v1038 : BitVec 32 := Scalar.muli v1037 c1024_i32_555
  let c8_i32_454 : BitVec 32 := 8#32
  let c0_i32_77 : BitVec 32 := 0#32
  let c1_i32_79 : BitVec 32 := 1#32
  let arg14 : BitVec 32 := Scf.iv c0_i32_77 c1_i32_79 k0_t1
  let v851 : BitVec 32 := Scalar.muli c8_i32_454 arg14
  let c6_i32 : BitVec 32 := 6#32
  let v852 : BitVec 32 := Scalar.addi v851 c6_i32
  let c1_i32_455 : BitVec 32 := 1#32
  let v853 : BitVec 32 := Scalar.addi v852 c1_i32_455
  let c1_i32_537 : BitVec 32 := 1#32
  let v1018 : BitVec 32 := Scalar.addi v853 c1_i32_537
  let c1_i32_556 : BitVec 32 := 1#32
  let v1039 : BitVec 32 := Scalar.addi v1018 c1_i32_556
  let c512_i32_557 : BitVec 32 := 512#32
  let v1040 : BitVec 32 := Scalar.muli v1039 c512_i32_557
  let v1041 : BitVec 32 := Scalar.subi v1038 v1040
  v1041
@[reducible] def k0_t2_loop (i : grid0.Coords) : Scf.Loop 32 :=
  let c0_i32_77 : BitVec 32 := 0#32
  let arg2 : BitVec 32 := BitVec.ofNat 32 (i 2).val
  let c0_i32 : BitVec 32 := 0#32
  let v167 : BitVec 1 := Scalar.cmpi .sgt arg2 c0_i32
  let v168 : BitVec 32 := Scalar.extui v167
  let c0_i32_72 : BitVec 32 := 0#32
  let v169 : BitVec 1 := Scalar.cmpi .slt arg2 c0_i32_72
  let v170 : BitVec 32 := Scalar.extui v169
  let v171 : BitVec 32 := Scalar.subi v168 v170
  let c4_i32 : BitVec 32 := 4#32
  let c0_i32_73 : BitVec 32 := 0#32
  let v172 : BitVec 1 := Scalar.cmpi .sgt c4_i32 c0_i32_73
  let v173 : BitVec 32 := Scalar.extui v172
  let c0_i32_74 : BitVec 32 := 0#32
  let v174 : BitVec 1 := Scalar.cmpi .slt c4_i32 c0_i32_74
  let v175 : BitVec 32 := Scalar.extui v174
  let v176 : BitVec 32 := Scalar.subi v173 v175
  let v177 : BitVec 1 := Scalar.cmpi .ne v171 v176
  let v178 : BitVec 32 := Scalar.remsi arg2 c4_i32
  let c0_i32_75 : BitVec 32 := 0#32
  let v179 : BitVec 1 := Scalar.cmpi .ne v178 c0_i32_75
  let v180 : BitVec 1 := Scalar.andi v177 v179
  let v166 : BitVec 32 := Scalar.divsi arg2 c4_i32
  let c1_i32_76 : BitVec 32 := 1#32
  let v181 : BitVec 32 := Scalar.subi v166 c1_i32_76
  let v182 : BitVec 32 := Scalar.select v180 v181 v166
  let v183 : BitVec 32 := Scalar.subi v182 c0_i32_77
  let c1_i32_78 : BitVec 32 := 1#32
  let v185 : BitVec 32 := Scalar.divsi v183 c1_i32_78
  let v186 : BitVec 32 := Scalar.muli v185 c1_i32_78
  let v187 : BitVec 32 := Scalar.addi c0_i32_77 v186
  let v184 : BitVec 32 := Scalar.addi c0_i32_77 v183
  let c1_i32_80 : BitVec 32 := 1#32
  ⟨v187, v184, c1_i32_80⟩
def k0_mult20 (i : grid0.Coords) (k0_t2 : Fin (k0_t2_loop i).trips) : BitVec 32 :=
  let arg2 : BitVec 32 := BitVec.ofNat 32 (i 2).val
  let c1_i32_128 : BitVec 32 := 1#32
  let v255 : BitVec 32 := Scalar.addi arg2 c1_i32_128
  let c1024_i32_129 : BitVec 32 := 1024#32
  let v256 : BitVec 32 := Scalar.muli v255 c1024_i32_129
  let c8_i32 : BitVec 32 := 8#32
  let c0_i32_77 : BitVec 32 := 0#32
  let c0_i32 : BitVec 32 := 0#32
  let v167 : BitVec 1 := Scalar.cmpi .sgt arg2 c0_i32
  let v168 : BitVec 32 := Scalar.extui v167
  let c0_i32_72 : BitVec 32 := 0#32
  let v169 : BitVec 1 := Scalar.cmpi .slt arg2 c0_i32_72
  let v170 : BitVec 32 := Scalar.extui v169
  let v171 : BitVec 32 := Scalar.subi v168 v170
  let c4_i32 : BitVec 32 := 4#32
  let c0_i32_73 : BitVec 32 := 0#32
  let v172 : BitVec 1 := Scalar.cmpi .sgt c4_i32 c0_i32_73
  let v173 : BitVec 32 := Scalar.extui v172
  let c0_i32_74 : BitVec 32 := 0#32
  let v174 : BitVec 1 := Scalar.cmpi .slt c4_i32 c0_i32_74
  let v175 : BitVec 32 := Scalar.extui v174
  let v176 : BitVec 32 := Scalar.subi v173 v175
  let v177 : BitVec 1 := Scalar.cmpi .ne v171 v176
  let v178 : BitVec 32 := Scalar.remsi arg2 c4_i32
  let c0_i32_75 : BitVec 32 := 0#32
  let v179 : BitVec 1 := Scalar.cmpi .ne v178 c0_i32_75
  let v180 : BitVec 1 := Scalar.andi v177 v179
  let v166 : BitVec 32 := Scalar.divsi arg2 c4_i32
  let c1_i32_76 : BitVec 32 := 1#32
  let v181 : BitVec 32 := Scalar.subi v166 c1_i32_76
  let v182 : BitVec 32 := Scalar.select v180 v181 v166
  let v183 : BitVec 32 := Scalar.subi v182 c0_i32_77
  let c1_i32_78 : BitVec 32 := 1#32
  let v185 : BitVec 32 := Scalar.divsi v183 c1_i32_78
  let v186 : BitVec 32 := Scalar.muli v185 c1_i32_78
  let v187 : BitVec 32 := Scalar.addi c0_i32_77 v186
  let c1_i32_80 : BitVec 32 := 1#32
  let arg14 : BitVec 32 := Scf.iv v187 c1_i32_80 k0_t2
  let v251 : BitVec 32 := Scalar.muli c8_i32 arg14
  let c0_i32_125 : BitVec 32 := 0#32
  let v252 : BitVec 32 := Scalar.addi v251 c0_i32_125
  let c1_i32_126 : BitVec 32 := 1#32
  let v253 : BitVec 32 := Scalar.addi v252 c1_i32_126
  let c1_i32_127 : BitVec 32 := 1#32
  let v254 : BitVec 32 := Scalar.addi v253 c1_i32_127
  let c1_i32_130 : BitVec 32 := 1#32
  let v257 : BitVec 32 := Scalar.addi v254 c1_i32_130
  let c512_i32_131 : BitVec 32 := 512#32
  let v258 : BitVec 32 := Scalar.muli v257 c512_i32_131
  let v259 : BitVec 32 := Scalar.subi v256 v258
  v259
def k0_off4 (i : grid0.Coords) (k0_t2 : Fin (k0_t2_loop i).trips) (c0_i32_125 : BitVec 32) (c1_i32_127 : BitVec 32) : Fin 3 → Nat :=
  let c0_135 : Index := 0#32
  let arg2 : BitVec 32 := BitVec.ofNat 32 (i 2).val
  let c1_i32_128 : BitVec 32 := 1#32
  let v255 : BitVec 32 := Scalar.addi arg2 c1_i32_128
  let c1024_i32_129 : BitVec 32 := 1024#32
  let v256 : BitVec 32 := Scalar.muli v255 c1024_i32_129
  let c8_i32 : BitVec 32 := 8#32
  let c0_i32_77 : BitVec 32 := 0#32
  let c0_i32 : BitVec 32 := 0#32
  let v167 : BitVec 1 := Scalar.cmpi .sgt arg2 c0_i32
  let v168 : BitVec 32 := Scalar.extui v167
  let c0_i32_72 : BitVec 32 := 0#32
  let v169 : BitVec 1 := Scalar.cmpi .slt arg2 c0_i32_72
  let v170 : BitVec 32 := Scalar.extui v169
  let v171 : BitVec 32 := Scalar.subi v168 v170
  let c4_i32 : BitVec 32 := 4#32
  let c0_i32_73 : BitVec 32 := 0#32
  let v172 : BitVec 1 := Scalar.cmpi .sgt c4_i32 c0_i32_73
  let v173 : BitVec 32 := Scalar.extui v172
  let c0_i32_74 : BitVec 32 := 0#32
  let v174 : BitVec 1 := Scalar.cmpi .slt c4_i32 c0_i32_74
  let v175 : BitVec 32 := Scalar.extui v174
  let v176 : BitVec 32 := Scalar.subi v173 v175
  let v177 : BitVec 1 := Scalar.cmpi .ne v171 v176
  let v178 : BitVec 32 := Scalar.remsi arg2 c4_i32
  let c0_i32_75 : BitVec 32 := 0#32
  let v179 : BitVec 1 := Scalar.cmpi .ne v178 c0_i32_75
  let v180 : BitVec 1 := Scalar.andi v177 v179
  let v166 : BitVec 32 := Scalar.divsi arg2 c4_i32
  let c1_i32_76 : BitVec 32 := 1#32
  let v181 : BitVec 32 := Scalar.subi v166 c1_i32_76
  let v182 : BitVec 32 := Scalar.select v180 v181 v166
  let v183 : BitVec 32 := Scalar.subi v182 c0_i32_77
  let c1_i32_78 : BitVec 32 := 1#32
  let v185 : BitVec 32 := Scalar.divsi v183 c1_i32_78
  let v186 : BitVec 32 := Scalar.muli v185 c1_i32_78
  let v187 : BitVec 32 := Scalar.addi c0_i32_77 v186
  let c1_i32_80 : BitVec 32 := 1#32
  let arg14 : BitVec 32 := Scf.iv v187 c1_i32_80 k0_t2
  let v251 : BitVec 32 := Scalar.muli c8_i32 arg14
  let v252 : BitVec 32 := Scalar.addi v251 c0_i32_125
  let c1_i32_126 : BitVec 32 := 1#32
  let v253 : BitVec 32 := Scalar.addi v252 c1_i32_126
  let v254 : BitVec 32 := Scalar.addi v253 c1_i32_127
  let c1_i32_130 : BitVec 32 := 1#32
  let v257 : BitVec 32 := Scalar.addi v254 c1_i32_130
  let c512_i32_131 : BitVec 32 := 512#32
  let v258 : BitVec 32 := Scalar.muli v257 c512_i32_131
  let v259 : BitVec 32 := Scalar.subi v256 v258
  let v260 : BitVec 32 := v259
  let v263 : Index := Scalar.indexCast v260
  let c0_136 : Index := 0#32
  ![0, v263.toNat, 0]
def k0_mult21 (i : grid0.Coords) (k0_t2 : Fin (k0_t2_loop i).trips) : BitVec 32 :=
  let arg2 : BitVec 32 := BitVec.ofNat 32 (i 2).val
  let c1_i32_171 : BitVec 32 := 1#32
  let v338 : BitVec 32 := Scalar.addi arg2 c1_i32_171
  let c1024_i32_172 : BitVec 32 := 1024#32
  let v339 : BitVec 32 := Scalar.muli v338 c1024_i32_172
  let c8_i32 : BitVec 32 := 8#32
  let c0_i32_77 : BitVec 32 := 0#32
  let c0_i32 : BitVec 32 := 0#32
  let v167 : BitVec 1 := Scalar.cmpi .sgt arg2 c0_i32
  let v168 : BitVec 32 := Scalar.extui v167
  let c0_i32_72 : BitVec 32 := 0#32
  let v169 : BitVec 1 := Scalar.cmpi .slt arg2 c0_i32_72
  let v170 : BitVec 32 := Scalar.extui v169
  let v171 : BitVec 32 := Scalar.subi v168 v170
  let c4_i32 : BitVec 32 := 4#32
  let c0_i32_73 : BitVec 32 := 0#32
  let v172 : BitVec 1 := Scalar.cmpi .sgt c4_i32 c0_i32_73
  let v173 : BitVec 32 := Scalar.extui v172
  let c0_i32_74 : BitVec 32 := 0#32
  let v174 : BitVec 1 := Scalar.cmpi .slt c4_i32 c0_i32_74
  let v175 : BitVec 32 := Scalar.extui v174
  let v176 : BitVec 32 := Scalar.subi v173 v175
  let v177 : BitVec 1 := Scalar.cmpi .ne v171 v176
  let v178 : BitVec 32 := Scalar.remsi arg2 c4_i32
  let c0_i32_75 : BitVec 32 := 0#32
  let v179 : BitVec 1 := Scalar.cmpi .ne v178 c0_i32_75
  let v180 : BitVec 1 := Scalar.andi v177 v179
  let v166 : BitVec 32 := Scalar.divsi arg2 c4_i32
  let c1_i32_76 : BitVec 32 := 1#32
  let v181 : BitVec 32 := Scalar.subi v166 c1_i32_76
  let v182 : BitVec 32 := Scalar.select v180 v181 v166
  let v183 : BitVec 32 := Scalar.subi v182 c0_i32_77
  let c1_i32_78 : BitVec 32 := 1#32
  let v185 : BitVec 32 := Scalar.divsi v183 c1_i32_78
  let v186 : BitVec 32 := Scalar.muli v185 c1_i32_78
  let v187 : BitVec 32 := Scalar.addi c0_i32_77 v186
  let c1_i32_80 : BitVec 32 := 1#32
  let arg14 : BitVec 32 := Scf.iv v187 c1_i32_80 k0_t2
  let v251 : BitVec 32 := Scalar.muli c8_i32 arg14
  let c0_i32_125 : BitVec 32 := 0#32
  let v252 : BitVec 32 := Scalar.addi v251 c0_i32_125
  let c1_i32_126 : BitVec 32 := 1#32
  let v253 : BitVec 32 := Scalar.addi v252 c1_i32_126
  let c1_i32_173 : BitVec 32 := 1#32
  let v340 : BitVec 32 := Scalar.addi v253 c1_i32_173
  let c512_i32_174 : BitVec 32 := 512#32
  let v341 : BitVec 32 := Scalar.muli v340 c512_i32_174
  let v342 : BitVec 32 := Scalar.subi v339 v341
  v342
def k0_off5 (i : grid0.Coords) (k0_t2 : Fin (k0_t2_loop i).trips) (c0_i32_125 : BitVec 32) : Fin 3 → Nat :=
  let c0_175 : Index := 0#32
  let arg2 : BitVec 32 := BitVec.ofNat 32 (i 2).val
  let c1_i32_171 : BitVec 32 := 1#32
  let v338 : BitVec 32 := Scalar.addi arg2 c1_i32_171
  let c1024_i32_172 : BitVec 32 := 1024#32
  let v339 : BitVec 32 := Scalar.muli v338 c1024_i32_172
  let c8_i32 : BitVec 32 := 8#32
  let c0_i32_77 : BitVec 32 := 0#32
  let c0_i32 : BitVec 32 := 0#32
  let v167 : BitVec 1 := Scalar.cmpi .sgt arg2 c0_i32
  let v168 : BitVec 32 := Scalar.extui v167
  let c0_i32_72 : BitVec 32 := 0#32
  let v169 : BitVec 1 := Scalar.cmpi .slt arg2 c0_i32_72
  let v170 : BitVec 32 := Scalar.extui v169
  let v171 : BitVec 32 := Scalar.subi v168 v170
  let c4_i32 : BitVec 32 := 4#32
  let c0_i32_73 : BitVec 32 := 0#32
  let v172 : BitVec 1 := Scalar.cmpi .sgt c4_i32 c0_i32_73
  let v173 : BitVec 32 := Scalar.extui v172
  let c0_i32_74 : BitVec 32 := 0#32
  let v174 : BitVec 1 := Scalar.cmpi .slt c4_i32 c0_i32_74
  let v175 : BitVec 32 := Scalar.extui v174
  let v176 : BitVec 32 := Scalar.subi v173 v175
  let v177 : BitVec 1 := Scalar.cmpi .ne v171 v176
  let v178 : BitVec 32 := Scalar.remsi arg2 c4_i32
  let c0_i32_75 : BitVec 32 := 0#32
  let v179 : BitVec 1 := Scalar.cmpi .ne v178 c0_i32_75
  let v180 : BitVec 1 := Scalar.andi v177 v179
  let v166 : BitVec 32 := Scalar.divsi arg2 c4_i32
  let c1_i32_76 : BitVec 32 := 1#32
  let v181 : BitVec 32 := Scalar.subi v166 c1_i32_76
  let v182 : BitVec 32 := Scalar.select v180 v181 v166
  let v183 : BitVec 32 := Scalar.subi v182 c0_i32_77
  let c1_i32_78 : BitVec 32 := 1#32
  let v185 : BitVec 32 := Scalar.divsi v183 c1_i32_78
  let v186 : BitVec 32 := Scalar.muli v185 c1_i32_78
  let v187 : BitVec 32 := Scalar.addi c0_i32_77 v186
  let c1_i32_80 : BitVec 32 := 1#32
  let arg14 : BitVec 32 := Scf.iv v187 c1_i32_80 k0_t2
  let v251 : BitVec 32 := Scalar.muli c8_i32 arg14
  let v252 : BitVec 32 := Scalar.addi v251 c0_i32_125
  let c1_i32_126 : BitVec 32 := 1#32
  let v253 : BitVec 32 := Scalar.addi v252 c1_i32_126
  let c1_i32_173 : BitVec 32 := 1#32
  let v340 : BitVec 32 := Scalar.addi v253 c1_i32_173
  let c512_i32_174 : BitVec 32 := 512#32
  let v341 : BitVec 32 := Scalar.muli v340 c512_i32_174
  let v342 : BitVec 32 := Scalar.subi v339 v341
  let v343 : BitVec 32 := v342
  let v344 : Index := Scalar.indexCast v343
  let c0_176 : Index := 0#32
  ![0, v344.toNat, 0]
def k0_mult22 (i : grid0.Coords) (k0_t2 : Fin (k0_t2_loop i).trips) : BitVec 32 :=
  let arg2 : BitVec 32 := BitVec.ofNat 32 (i 2).val
  let c1_i32_181 : BitVec 32 := 1#32
  let v353 : BitVec 32 := Scalar.addi arg2 c1_i32_181
  let c1024_i32_182 : BitVec 32 := 1024#32
  let v354 : BitVec 32 := Scalar.muli v353 c1024_i32_182
  let c8_i32 : BitVec 32 := 8#32
  let c0_i32_77 : BitVec 32 := 0#32
  let c0_i32 : BitVec 32 := 0#32
  let v167 : BitVec 1 := Scalar.cmpi .sgt arg2 c0_i32
  let v168 : BitVec 32 := Scalar.extui v167
  let c0_i32_72 : BitVec 32 := 0#32
  let v169 : BitVec 1 := Scalar.cmpi .slt arg2 c0_i32_72
  let v170 : BitVec 32 := Scalar.extui v169
  let v171 : BitVec 32 := Scalar.subi v168 v170
  let c4_i32 : BitVec 32 := 4#32
  let c0_i32_73 : BitVec 32 := 0#32
  let v172 : BitVec 1 := Scalar.cmpi .sgt c4_i32 c0_i32_73
  let v173 : BitVec 32 := Scalar.extui v172
  let c0_i32_74 : BitVec 32 := 0#32
  let v174 : BitVec 1 := Scalar.cmpi .slt c4_i32 c0_i32_74
  let v175 : BitVec 32 := Scalar.extui v174
  let v176 : BitVec 32 := Scalar.subi v173 v175
  let v177 : BitVec 1 := Scalar.cmpi .ne v171 v176
  let v178 : BitVec 32 := Scalar.remsi arg2 c4_i32
  let c0_i32_75 : BitVec 32 := 0#32
  let v179 : BitVec 1 := Scalar.cmpi .ne v178 c0_i32_75
  let v180 : BitVec 1 := Scalar.andi v177 v179
  let v166 : BitVec 32 := Scalar.divsi arg2 c4_i32
  let c1_i32_76 : BitVec 32 := 1#32
  let v181 : BitVec 32 := Scalar.subi v166 c1_i32_76
  let v182 : BitVec 32 := Scalar.select v180 v181 v166
  let v183 : BitVec 32 := Scalar.subi v182 c0_i32_77
  let c1_i32_78 : BitVec 32 := 1#32
  let v185 : BitVec 32 := Scalar.divsi v183 c1_i32_78
  let v186 : BitVec 32 := Scalar.muli v185 c1_i32_78
  let v187 : BitVec 32 := Scalar.addi c0_i32_77 v186
  let c1_i32_80 : BitVec 32 := 1#32
  let arg14 : BitVec 32 := Scf.iv v187 c1_i32_80 k0_t2
  let v251 : BitVec 32 := Scalar.muli c8_i32 arg14
  let c0_i32_125 : BitVec 32 := 0#32
  let v252 : BitVec 32 := Scalar.addi v251 c0_i32_125
  let c1_i32_126 : BitVec 32 := 1#32
  let v253 : BitVec 32 := Scalar.addi v252 c1_i32_126
  let c2_i32_180 : BitVec 32 := 2#32
  let v352 : BitVec 32 := Scalar.addi v253 c2_i32_180
  let c1_i32_183 : BitVec 32 := 1#32
  let v355 : BitVec 32 := Scalar.addi v352 c1_i32_183
  let c512_i32_184 : BitVec 32 := 512#32
  let v356 : BitVec 32 := Scalar.muli v355 c512_i32_184
  let v357 : BitVec 32 := Scalar.subi v354 v356
  v357
def k0_mult23 (i : grid0.Coords) (k0_t2 : Fin (k0_t2_loop i).trips) : BitVec 32 :=
  let arg2 : BitVec 32 := BitVec.ofNat 32 (i 2).val
  let c1_i32_225 : BitVec 32 := 1#32
  let v437 : BitVec 32 := Scalar.addi arg2 c1_i32_225
  let c1024_i32_226 : BitVec 32 := 1024#32
  let v438 : BitVec 32 := Scalar.muli v437 c1024_i32_226
  let c8_i32 : BitVec 32 := 8#32
  let c0_i32_77 : BitVec 32 := 0#32
  let c0_i32 : BitVec 32 := 0#32
  let v167 : BitVec 1 := Scalar.cmpi .sgt arg2 c0_i32
  let v168 : BitVec 32 := Scalar.extui v167
  let c0_i32_72 : BitVec 32 := 0#32
  let v169 : BitVec 1 := Scalar.cmpi .slt arg2 c0_i32_72
  let v170 : BitVec 32 := Scalar.extui v169
  let v171 : BitVec 32 := Scalar.subi v168 v170
  let c4_i32 : BitVec 32 := 4#32
  let c0_i32_73 : BitVec 32 := 0#32
  let v172 : BitVec 1 := Scalar.cmpi .sgt c4_i32 c0_i32_73
  let v173 : BitVec 32 := Scalar.extui v172
  let c0_i32_74 : BitVec 32 := 0#32
  let v174 : BitVec 1 := Scalar.cmpi .slt c4_i32 c0_i32_74
  let v175 : BitVec 32 := Scalar.extui v174
  let v176 : BitVec 32 := Scalar.subi v173 v175
  let v177 : BitVec 1 := Scalar.cmpi .ne v171 v176
  let v178 : BitVec 32 := Scalar.remsi arg2 c4_i32
  let c0_i32_75 : BitVec 32 := 0#32
  let v179 : BitVec 1 := Scalar.cmpi .ne v178 c0_i32_75
  let v180 : BitVec 1 := Scalar.andi v177 v179
  let v166 : BitVec 32 := Scalar.divsi arg2 c4_i32
  let c1_i32_76 : BitVec 32 := 1#32
  let v181 : BitVec 32 := Scalar.subi v166 c1_i32_76
  let v182 : BitVec 32 := Scalar.select v180 v181 v166
  let v183 : BitVec 32 := Scalar.subi v182 c0_i32_77
  let c1_i32_78 : BitVec 32 := 1#32
  let v185 : BitVec 32 := Scalar.divsi v183 c1_i32_78
  let v186 : BitVec 32 := Scalar.muli v185 c1_i32_78
  let v187 : BitVec 32 := Scalar.addi c0_i32_77 v186
  let c1_i32_80 : BitVec 32 := 1#32
  let arg14 : BitVec 32 := Scf.iv v187 c1_i32_80 k0_t2
  let v251 : BitVec 32 := Scalar.muli c8_i32 arg14
  let c0_i32_125 : BitVec 32 := 0#32
  let v252 : BitVec 32 := Scalar.addi v251 c0_i32_125
  let c1_i32_126 : BitVec 32 := 1#32
  let v253 : BitVec 32 := Scalar.addi v252 c1_i32_126
  let c1_i32_208 : BitVec 32 := 1#32
  let v418 : BitVec 32 := Scalar.addi v253 c1_i32_208
  let c1_i32_227 : BitVec 32 := 1#32
  let v439 : BitVec 32 := Scalar.addi v418 c1_i32_227
  let c512_i32_228 : BitVec 32 := 512#32
  let v440 : BitVec 32 := Scalar.muli v439 c512_i32_228
  let v441 : BitVec 32 := Scalar.subi v438 v440
  v441
def k0_mult24 (i : grid0.Coords) (k0_t2 : Fin (k0_t2_loop i).trips) : BitVec 32 :=
  let arg2 : BitVec 32 := BitVec.ofNat 32 (i 2).val
  let c1_i32_238 : BitVec 32 := 1#32
  let v455 : BitVec 32 := Scalar.addi arg2 c1_i32_238
  let c1024_i32_239 : BitVec 32 := 1024#32
  let v456 : BitVec 32 := Scalar.muli v455 c1024_i32_239
  let c8_i32_234 : BitVec 32 := 8#32
  let c0_i32_77 : BitVec 32 := 0#32
  let c0_i32 : BitVec 32 := 0#32
  let v167 : BitVec 1 := Scalar.cmpi .sgt arg2 c0_i32
  let v168 : BitVec 32 := Scalar.extui v167
  let c0_i32_72 : BitVec 32 := 0#32
  let v169 : BitVec 1 := Scalar.cmpi .slt arg2 c0_i32_72
  let v170 : BitVec 32 := Scalar.extui v169
  let v171 : BitVec 32 := Scalar.subi v168 v170
  let c4_i32 : BitVec 32 := 4#32
  let c0_i32_73 : BitVec 32 := 0#32
  let v172 : BitVec 1 := Scalar.cmpi .sgt c4_i32 c0_i32_73
  let v173 : BitVec 32 := Scalar.extui v172
  let c0_i32_74 : BitVec 32 := 0#32
  let v174 : BitVec 1 := Scalar.cmpi .slt c4_i32 c0_i32_74
  let v175 : BitVec 32 := Scalar.extui v174
  let v176 : BitVec 32 := Scalar.subi v173 v175
  let v177 : BitVec 1 := Scalar.cmpi .ne v171 v176
  let v178 : BitVec 32 := Scalar.remsi arg2 c4_i32
  let c0_i32_75 : BitVec 32 := 0#32
  let v179 : BitVec 1 := Scalar.cmpi .ne v178 c0_i32_75
  let v180 : BitVec 1 := Scalar.andi v177 v179
  let v166 : BitVec 32 := Scalar.divsi arg2 c4_i32
  let c1_i32_76 : BitVec 32 := 1#32
  let v181 : BitVec 32 := Scalar.subi v166 c1_i32_76
  let v182 : BitVec 32 := Scalar.select v180 v181 v166
  let v183 : BitVec 32 := Scalar.subi v182 c0_i32_77
  let c1_i32_78 : BitVec 32 := 1#32
  let v185 : BitVec 32 := Scalar.divsi v183 c1_i32_78
  let v186 : BitVec 32 := Scalar.muli v185 c1_i32_78
  let v187 : BitVec 32 := Scalar.addi c0_i32_77 v186
  let c1_i32_80 : BitVec 32 := 1#32
  let arg14 : BitVec 32 := Scf.iv v187 c1_i32_80 k0_t2
  let v451 : BitVec 32 := Scalar.muli c8_i32_234 arg14
  let c2_i32_235 : BitVec 32 := 2#32
  let v452 : BitVec 32 := Scalar.addi v451 c2_i32_235
  let c1_i32_236 : BitVec 32 := 1#32
  let v453 : BitVec 32 := Scalar.addi v452 c1_i32_236
  let c1_i32_237 : BitVec 32 := 1#32
  let v454 : BitVec 32 := Scalar.addi v453 c1_i32_237
  let c1_i32_240 : BitVec 32 := 1#32
  let v457 : BitVec 32 := Scalar.addi v454 c1_i32_240
  let c512_i32_241 : BitVec 32 := 512#32
  let v458 : BitVec 32 := Scalar.muli v457 c512_i32_241
  let v459 : BitVec 32 := Scalar.subi v456 v458
  v459
def k0_mult25 (i : grid0.Coords) (k0_t2 : Fin (k0_t2_loop i).trips) : BitVec 32 :=
  let arg2 : BitVec 32 := BitVec.ofNat 32 (i 2).val
  let c1_i32_281 : BitVec 32 := 1#32
  let v538 : BitVec 32 := Scalar.addi arg2 c1_i32_281
  let c1024_i32_282 : BitVec 32 := 1024#32
  let v539 : BitVec 32 := Scalar.muli v538 c1024_i32_282
  let c8_i32_234 : BitVec 32 := 8#32
  let c0_i32_77 : BitVec 32 := 0#32
  let c0_i32 : BitVec 32 := 0#32
  let v167 : BitVec 1 := Scalar.cmpi .sgt arg2 c0_i32
  let v168 : BitVec 32 := Scalar.extui v167
  let c0_i32_72 : BitVec 32 := 0#32
  let v169 : BitVec 1 := Scalar.cmpi .slt arg2 c0_i32_72
  let v170 : BitVec 32 := Scalar.extui v169
  let v171 : BitVec 32 := Scalar.subi v168 v170
  let c4_i32 : BitVec 32 := 4#32
  let c0_i32_73 : BitVec 32 := 0#32
  let v172 : BitVec 1 := Scalar.cmpi .sgt c4_i32 c0_i32_73
  let v173 : BitVec 32 := Scalar.extui v172
  let c0_i32_74 : BitVec 32 := 0#32
  let v174 : BitVec 1 := Scalar.cmpi .slt c4_i32 c0_i32_74
  let v175 : BitVec 32 := Scalar.extui v174
  let v176 : BitVec 32 := Scalar.subi v173 v175
  let v177 : BitVec 1 := Scalar.cmpi .ne v171 v176
  let v178 : BitVec 32 := Scalar.remsi arg2 c4_i32
  let c0_i32_75 : BitVec 32 := 0#32
  let v179 : BitVec 1 := Scalar.cmpi .ne v178 c0_i32_75
  let v180 : BitVec 1 := Scalar.andi v177 v179
  let v166 : BitVec 32 := Scalar.divsi arg2 c4_i32
  let c1_i32_76 : BitVec 32 := 1#32
  let v181 : BitVec 32 := Scalar.subi v166 c1_i32_76
  let v182 : BitVec 32 := Scalar.select v180 v181 v166
  let v183 : BitVec 32 := Scalar.subi v182 c0_i32_77
  let c1_i32_78 : BitVec 32 := 1#32
  let v185 : BitVec 32 := Scalar.divsi v183 c1_i32_78
  let v186 : BitVec 32 := Scalar.muli v185 c1_i32_78
  let v187 : BitVec 32 := Scalar.addi c0_i32_77 v186
  let c1_i32_80 : BitVec 32 := 1#32
  let arg14 : BitVec 32 := Scf.iv v187 c1_i32_80 k0_t2
  let v451 : BitVec 32 := Scalar.muli c8_i32_234 arg14
  let c2_i32_235 : BitVec 32 := 2#32
  let v452 : BitVec 32 := Scalar.addi v451 c2_i32_235
  let c1_i32_236 : BitVec 32 := 1#32
  let v453 : BitVec 32 := Scalar.addi v452 c1_i32_236
  let c1_i32_283 : BitVec 32 := 1#32
  let v540 : BitVec 32 := Scalar.addi v453 c1_i32_283
  let c512_i32_284 : BitVec 32 := 512#32
  let v541 : BitVec 32 := Scalar.muli v540 c512_i32_284
  let v542 : BitVec 32 := Scalar.subi v539 v541
  v542
def k0_mult26 (i : grid0.Coords) (k0_t2 : Fin (k0_t2_loop i).trips) : BitVec 32 :=
  let arg2 : BitVec 32 := BitVec.ofNat 32 (i 2).val
  let c1_i32_291 : BitVec 32 := 1#32
  let v553 : BitVec 32 := Scalar.addi arg2 c1_i32_291
  let c1024_i32_292 : BitVec 32 := 1024#32
  let v554 : BitVec 32 := Scalar.muli v553 c1024_i32_292
  let c8_i32_234 : BitVec 32 := 8#32
  let c0_i32_77 : BitVec 32 := 0#32
  let c0_i32 : BitVec 32 := 0#32
  let v167 : BitVec 1 := Scalar.cmpi .sgt arg2 c0_i32
  let v168 : BitVec 32 := Scalar.extui v167
  let c0_i32_72 : BitVec 32 := 0#32
  let v169 : BitVec 1 := Scalar.cmpi .slt arg2 c0_i32_72
  let v170 : BitVec 32 := Scalar.extui v169
  let v171 : BitVec 32 := Scalar.subi v168 v170
  let c4_i32 : BitVec 32 := 4#32
  let c0_i32_73 : BitVec 32 := 0#32
  let v172 : BitVec 1 := Scalar.cmpi .sgt c4_i32 c0_i32_73
  let v173 : BitVec 32 := Scalar.extui v172
  let c0_i32_74 : BitVec 32 := 0#32
  let v174 : BitVec 1 := Scalar.cmpi .slt c4_i32 c0_i32_74
  let v175 : BitVec 32 := Scalar.extui v174
  let v176 : BitVec 32 := Scalar.subi v173 v175
  let v177 : BitVec 1 := Scalar.cmpi .ne v171 v176
  let v178 : BitVec 32 := Scalar.remsi arg2 c4_i32
  let c0_i32_75 : BitVec 32 := 0#32
  let v179 : BitVec 1 := Scalar.cmpi .ne v178 c0_i32_75
  let v180 : BitVec 1 := Scalar.andi v177 v179
  let v166 : BitVec 32 := Scalar.divsi arg2 c4_i32
  let c1_i32_76 : BitVec 32 := 1#32
  let v181 : BitVec 32 := Scalar.subi v166 c1_i32_76
  let v182 : BitVec 32 := Scalar.select v180 v181 v166
  let v183 : BitVec 32 := Scalar.subi v182 c0_i32_77
  let c1_i32_78 : BitVec 32 := 1#32
  let v185 : BitVec 32 := Scalar.divsi v183 c1_i32_78
  let v186 : BitVec 32 := Scalar.muli v185 c1_i32_78
  let v187 : BitVec 32 := Scalar.addi c0_i32_77 v186
  let c1_i32_80 : BitVec 32 := 1#32
  let arg14 : BitVec 32 := Scf.iv v187 c1_i32_80 k0_t2
  let v451 : BitVec 32 := Scalar.muli c8_i32_234 arg14
  let c2_i32_235 : BitVec 32 := 2#32
  let v452 : BitVec 32 := Scalar.addi v451 c2_i32_235
  let c1_i32_236 : BitVec 32 := 1#32
  let v453 : BitVec 32 := Scalar.addi v452 c1_i32_236
  let c2_i32_290 : BitVec 32 := 2#32
  let v552 : BitVec 32 := Scalar.addi v453 c2_i32_290
  let c1_i32_293 : BitVec 32 := 1#32
  let v555 : BitVec 32 := Scalar.addi v552 c1_i32_293
  let c512_i32_294 : BitVec 32 := 512#32
  let v556 : BitVec 32 := Scalar.muli v555 c512_i32_294
  let v557 : BitVec 32 := Scalar.subi v554 v556
  v557
def k0_mult27 (i : grid0.Coords) (k0_t2 : Fin (k0_t2_loop i).trips) : BitVec 32 :=
  let arg2 : BitVec 32 := BitVec.ofNat 32 (i 2).val
  let c1_i32_335 : BitVec 32 := 1#32
  let v637 : BitVec 32 := Scalar.addi arg2 c1_i32_335
  let c1024_i32_336 : BitVec 32 := 1024#32
  let v638 : BitVec 32 := Scalar.muli v637 c1024_i32_336
  let c8_i32_234 : BitVec 32 := 8#32
  let c0_i32_77 : BitVec 32 := 0#32
  let c0_i32 : BitVec 32 := 0#32
  let v167 : BitVec 1 := Scalar.cmpi .sgt arg2 c0_i32
  let v168 : BitVec 32 := Scalar.extui v167
  let c0_i32_72 : BitVec 32 := 0#32
  let v169 : BitVec 1 := Scalar.cmpi .slt arg2 c0_i32_72
  let v170 : BitVec 32 := Scalar.extui v169
  let v171 : BitVec 32 := Scalar.subi v168 v170
  let c4_i32 : BitVec 32 := 4#32
  let c0_i32_73 : BitVec 32 := 0#32
  let v172 : BitVec 1 := Scalar.cmpi .sgt c4_i32 c0_i32_73
  let v173 : BitVec 32 := Scalar.extui v172
  let c0_i32_74 : BitVec 32 := 0#32
  let v174 : BitVec 1 := Scalar.cmpi .slt c4_i32 c0_i32_74
  let v175 : BitVec 32 := Scalar.extui v174
  let v176 : BitVec 32 := Scalar.subi v173 v175
  let v177 : BitVec 1 := Scalar.cmpi .ne v171 v176
  let v178 : BitVec 32 := Scalar.remsi arg2 c4_i32
  let c0_i32_75 : BitVec 32 := 0#32
  let v179 : BitVec 1 := Scalar.cmpi .ne v178 c0_i32_75
  let v180 : BitVec 1 := Scalar.andi v177 v179
  let v166 : BitVec 32 := Scalar.divsi arg2 c4_i32
  let c1_i32_76 : BitVec 32 := 1#32
  let v181 : BitVec 32 := Scalar.subi v166 c1_i32_76
  let v182 : BitVec 32 := Scalar.select v180 v181 v166
  let v183 : BitVec 32 := Scalar.subi v182 c0_i32_77
  let c1_i32_78 : BitVec 32 := 1#32
  let v185 : BitVec 32 := Scalar.divsi v183 c1_i32_78
  let v186 : BitVec 32 := Scalar.muli v185 c1_i32_78
  let v187 : BitVec 32 := Scalar.addi c0_i32_77 v186
  let c1_i32_80 : BitVec 32 := 1#32
  let arg14 : BitVec 32 := Scf.iv v187 c1_i32_80 k0_t2
  let v451 : BitVec 32 := Scalar.muli c8_i32_234 arg14
  let c2_i32_235 : BitVec 32 := 2#32
  let v452 : BitVec 32 := Scalar.addi v451 c2_i32_235
  let c1_i32_236 : BitVec 32 := 1#32
  let v453 : BitVec 32 := Scalar.addi v452 c1_i32_236
  let c1_i32_318 : BitVec 32 := 1#32
  let v618 : BitVec 32 := Scalar.addi v453 c1_i32_318
  let c1_i32_337 : BitVec 32 := 1#32
  let v639 : BitVec 32 := Scalar.addi v618 c1_i32_337
  let c512_i32_338 : BitVec 32 := 512#32
  let v640 : BitVec 32 := Scalar.muli v639 c512_i32_338
  let v641 : BitVec 32 := Scalar.subi v638 v640
  v641
def k0_mult28 (i : grid0.Coords) (k0_t2 : Fin (k0_t2_loop i).trips) : BitVec 32 :=
  let arg2 : BitVec 32 := BitVec.ofNat 32 (i 2).val
  let c1_i32_348 : BitVec 32 := 1#32
  let v655 : BitVec 32 := Scalar.addi arg2 c1_i32_348
  let c1024_i32_349 : BitVec 32 := 1024#32
  let v656 : BitVec 32 := Scalar.muli v655 c1024_i32_349
  let c8_i32_344 : BitVec 32 := 8#32
  let c0_i32_77 : BitVec 32 := 0#32
  let c0_i32 : BitVec 32 := 0#32
  let v167 : BitVec 1 := Scalar.cmpi .sgt arg2 c0_i32
  let v168 : BitVec 32 := Scalar.extui v167
  let c0_i32_72 : BitVec 32 := 0#32
  let v169 : BitVec 1 := Scalar.cmpi .slt arg2 c0_i32_72
  let v170 : BitVec 32 := Scalar.extui v169
  let v171 : BitVec 32 := Scalar.subi v168 v170
  let c4_i32 : BitVec 32 := 4#32
  let c0_i32_73 : BitVec 32 := 0#32
  let v172 : BitVec 1 := Scalar.cmpi .sgt c4_i32 c0_i32_73
  let v173 : BitVec 32 := Scalar.extui v172
  let c0_i32_74 : BitVec 32 := 0#32
  let v174 : BitVec 1 := Scalar.cmpi .slt c4_i32 c0_i32_74
  let v175 : BitVec 32 := Scalar.extui v174
  let v176 : BitVec 32 := Scalar.subi v173 v175
  let v177 : BitVec 1 := Scalar.cmpi .ne v171 v176
  let v178 : BitVec 32 := Scalar.remsi arg2 c4_i32
  let c0_i32_75 : BitVec 32 := 0#32
  let v179 : BitVec 1 := Scalar.cmpi .ne v178 c0_i32_75
  let v180 : BitVec 1 := Scalar.andi v177 v179
  let v166 : BitVec 32 := Scalar.divsi arg2 c4_i32
  let c1_i32_76 : BitVec 32 := 1#32
  let v181 : BitVec 32 := Scalar.subi v166 c1_i32_76
  let v182 : BitVec 32 := Scalar.select v180 v181 v166
  let v183 : BitVec 32 := Scalar.subi v182 c0_i32_77
  let c1_i32_78 : BitVec 32 := 1#32
  let v185 : BitVec 32 := Scalar.divsi v183 c1_i32_78
  let v186 : BitVec 32 := Scalar.muli v185 c1_i32_78
  let v187 : BitVec 32 := Scalar.addi c0_i32_77 v186
  let c1_i32_80 : BitVec 32 := 1#32
  let arg14 : BitVec 32 := Scf.iv v187 c1_i32_80 k0_t2
  let v651 : BitVec 32 := Scalar.muli c8_i32_344 arg14
  let c4_i32_345 : BitVec 32 := 4#32
  let v652 : BitVec 32 := Scalar.addi v651 c4_i32_345
  let c1_i32_346 : BitVec 32 := 1#32
  let v653 : BitVec 32 := Scalar.addi v652 c1_i32_346
  let c1_i32_347 : BitVec 32 := 1#32
  let v654 : BitVec 32 := Scalar.addi v653 c1_i32_347
  let c1_i32_350 : BitVec 32 := 1#32
  let v657 : BitVec 32 := Scalar.addi v654 c1_i32_350
  let c512_i32_351 : BitVec 32 := 512#32
  let v658 : BitVec 32 := Scalar.muli v657 c512_i32_351
  let v659 : BitVec 32 := Scalar.subi v656 v658
  v659
def k0_mult29 (i : grid0.Coords) (k0_t2 : Fin (k0_t2_loop i).trips) : BitVec 32 :=
  let arg2 : BitVec 32 := BitVec.ofNat 32 (i 2).val
  let c1_i32_391 : BitVec 32 := 1#32
  let v738 : BitVec 32 := Scalar.addi arg2 c1_i32_391
  let c1024_i32_392 : BitVec 32 := 1024#32
  let v739 : BitVec 32 := Scalar.muli v738 c1024_i32_392
  let c8_i32_344 : BitVec 32 := 8#32
  let c0_i32_77 : BitVec 32 := 0#32
  let c0_i32 : BitVec 32 := 0#32
  let v167 : BitVec 1 := Scalar.cmpi .sgt arg2 c0_i32
  let v168 : BitVec 32 := Scalar.extui v167
  let c0_i32_72 : BitVec 32 := 0#32
  let v169 : BitVec 1 := Scalar.cmpi .slt arg2 c0_i32_72
  let v170 : BitVec 32 := Scalar.extui v169
  let v171 : BitVec 32 := Scalar.subi v168 v170
  let c4_i32 : BitVec 32 := 4#32
  let c0_i32_73 : BitVec 32 := 0#32
  let v172 : BitVec 1 := Scalar.cmpi .sgt c4_i32 c0_i32_73
  let v173 : BitVec 32 := Scalar.extui v172
  let c0_i32_74 : BitVec 32 := 0#32
  let v174 : BitVec 1 := Scalar.cmpi .slt c4_i32 c0_i32_74
  let v175 : BitVec 32 := Scalar.extui v174
  let v176 : BitVec 32 := Scalar.subi v173 v175
  let v177 : BitVec 1 := Scalar.cmpi .ne v171 v176
  let v178 : BitVec 32 := Scalar.remsi arg2 c4_i32
  let c0_i32_75 : BitVec 32 := 0#32
  let v179 : BitVec 1 := Scalar.cmpi .ne v178 c0_i32_75
  let v180 : BitVec 1 := Scalar.andi v177 v179
  let v166 : BitVec 32 := Scalar.divsi arg2 c4_i32
  let c1_i32_76 : BitVec 32 := 1#32
  let v181 : BitVec 32 := Scalar.subi v166 c1_i32_76
  let v182 : BitVec 32 := Scalar.select v180 v181 v166
  let v183 : BitVec 32 := Scalar.subi v182 c0_i32_77
  let c1_i32_78 : BitVec 32 := 1#32
  let v185 : BitVec 32 := Scalar.divsi v183 c1_i32_78
  let v186 : BitVec 32 := Scalar.muli v185 c1_i32_78
  let v187 : BitVec 32 := Scalar.addi c0_i32_77 v186
  let c1_i32_80 : BitVec 32 := 1#32
  let arg14 : BitVec 32 := Scf.iv v187 c1_i32_80 k0_t2
  let v651 : BitVec 32 := Scalar.muli c8_i32_344 arg14
  let c4_i32_345 : BitVec 32 := 4#32
  let v652 : BitVec 32 := Scalar.addi v651 c4_i32_345
  let c1_i32_346 : BitVec 32 := 1#32
  let v653 : BitVec 32 := Scalar.addi v652 c1_i32_346
  let c1_i32_393 : BitVec 32 := 1#32
  let v740 : BitVec 32 := Scalar.addi v653 c1_i32_393
  let c512_i32_394 : BitVec 32 := 512#32
  let v741 : BitVec 32 := Scalar.muli v740 c512_i32_394
  let v742 : BitVec 32 := Scalar.subi v739 v741
  v742
def k0_mult30 (i : grid0.Coords) (k0_t2 : Fin (k0_t2_loop i).trips) : BitVec 32 :=
  let arg2 : BitVec 32 := BitVec.ofNat 32 (i 2).val
  let c1_i32_401 : BitVec 32 := 1#32
  let v753 : BitVec 32 := Scalar.addi arg2 c1_i32_401
  let c1024_i32_402 : BitVec 32 := 1024#32
  let v754 : BitVec 32 := Scalar.muli v753 c1024_i32_402
  let c8_i32_344 : BitVec 32 := 8#32
  let c0_i32_77 : BitVec 32 := 0#32
  let c0_i32 : BitVec 32 := 0#32
  let v167 : BitVec 1 := Scalar.cmpi .sgt arg2 c0_i32
  let v168 : BitVec 32 := Scalar.extui v167
  let c0_i32_72 : BitVec 32 := 0#32
  let v169 : BitVec 1 := Scalar.cmpi .slt arg2 c0_i32_72
  let v170 : BitVec 32 := Scalar.extui v169
  let v171 : BitVec 32 := Scalar.subi v168 v170
  let c4_i32 : BitVec 32 := 4#32
  let c0_i32_73 : BitVec 32 := 0#32
  let v172 : BitVec 1 := Scalar.cmpi .sgt c4_i32 c0_i32_73
  let v173 : BitVec 32 := Scalar.extui v172
  let c0_i32_74 : BitVec 32 := 0#32
  let v174 : BitVec 1 := Scalar.cmpi .slt c4_i32 c0_i32_74
  let v175 : BitVec 32 := Scalar.extui v174
  let v176 : BitVec 32 := Scalar.subi v173 v175
  let v177 : BitVec 1 := Scalar.cmpi .ne v171 v176
  let v178 : BitVec 32 := Scalar.remsi arg2 c4_i32
  let c0_i32_75 : BitVec 32 := 0#32
  let v179 : BitVec 1 := Scalar.cmpi .ne v178 c0_i32_75
  let v180 : BitVec 1 := Scalar.andi v177 v179
  let v166 : BitVec 32 := Scalar.divsi arg2 c4_i32
  let c1_i32_76 : BitVec 32 := 1#32
  let v181 : BitVec 32 := Scalar.subi v166 c1_i32_76
  let v182 : BitVec 32 := Scalar.select v180 v181 v166
  let v183 : BitVec 32 := Scalar.subi v182 c0_i32_77
  let c1_i32_78 : BitVec 32 := 1#32
  let v185 : BitVec 32 := Scalar.divsi v183 c1_i32_78
  let v186 : BitVec 32 := Scalar.muli v185 c1_i32_78
  let v187 : BitVec 32 := Scalar.addi c0_i32_77 v186
  let c1_i32_80 : BitVec 32 := 1#32
  let arg14 : BitVec 32 := Scf.iv v187 c1_i32_80 k0_t2
  let v651 : BitVec 32 := Scalar.muli c8_i32_344 arg14
  let c4_i32_345 : BitVec 32 := 4#32
  let v652 : BitVec 32 := Scalar.addi v651 c4_i32_345
  let c1_i32_346 : BitVec 32 := 1#32
  let v653 : BitVec 32 := Scalar.addi v652 c1_i32_346
  let c2_i32_400 : BitVec 32 := 2#32
  let v752 : BitVec 32 := Scalar.addi v653 c2_i32_400
  let c1_i32_403 : BitVec 32 := 1#32
  let v755 : BitVec 32 := Scalar.addi v752 c1_i32_403
  let c512_i32_404 : BitVec 32 := 512#32
  let v756 : BitVec 32 := Scalar.muli v755 c512_i32_404
  let v757 : BitVec 32 := Scalar.subi v754 v756
  v757
def k0_mult31 (i : grid0.Coords) (k0_t2 : Fin (k0_t2_loop i).trips) : BitVec 32 :=
  let arg2 : BitVec 32 := BitVec.ofNat 32 (i 2).val
  let c1_i32_445 : BitVec 32 := 1#32
  let v837 : BitVec 32 := Scalar.addi arg2 c1_i32_445
  let c1024_i32_446 : BitVec 32 := 1024#32
  let v838 : BitVec 32 := Scalar.muli v837 c1024_i32_446
  let c8_i32_344 : BitVec 32 := 8#32
  let c0_i32_77 : BitVec 32 := 0#32
  let c0_i32 : BitVec 32 := 0#32
  let v167 : BitVec 1 := Scalar.cmpi .sgt arg2 c0_i32
  let v168 : BitVec 32 := Scalar.extui v167
  let c0_i32_72 : BitVec 32 := 0#32
  let v169 : BitVec 1 := Scalar.cmpi .slt arg2 c0_i32_72
  let v170 : BitVec 32 := Scalar.extui v169
  let v171 : BitVec 32 := Scalar.subi v168 v170
  let c4_i32 : BitVec 32 := 4#32
  let c0_i32_73 : BitVec 32 := 0#32
  let v172 : BitVec 1 := Scalar.cmpi .sgt c4_i32 c0_i32_73
  let v173 : BitVec 32 := Scalar.extui v172
  let c0_i32_74 : BitVec 32 := 0#32
  let v174 : BitVec 1 := Scalar.cmpi .slt c4_i32 c0_i32_74
  let v175 : BitVec 32 := Scalar.extui v174
  let v176 : BitVec 32 := Scalar.subi v173 v175
  let v177 : BitVec 1 := Scalar.cmpi .ne v171 v176
  let v178 : BitVec 32 := Scalar.remsi arg2 c4_i32
  let c0_i32_75 : BitVec 32 := 0#32
  let v179 : BitVec 1 := Scalar.cmpi .ne v178 c0_i32_75
  let v180 : BitVec 1 := Scalar.andi v177 v179
  let v166 : BitVec 32 := Scalar.divsi arg2 c4_i32
  let c1_i32_76 : BitVec 32 := 1#32
  let v181 : BitVec 32 := Scalar.subi v166 c1_i32_76
  let v182 : BitVec 32 := Scalar.select v180 v181 v166
  let v183 : BitVec 32 := Scalar.subi v182 c0_i32_77
  let c1_i32_78 : BitVec 32 := 1#32
  let v185 : BitVec 32 := Scalar.divsi v183 c1_i32_78
  let v186 : BitVec 32 := Scalar.muli v185 c1_i32_78
  let v187 : BitVec 32 := Scalar.addi c0_i32_77 v186
  let c1_i32_80 : BitVec 32 := 1#32
  let arg14 : BitVec 32 := Scf.iv v187 c1_i32_80 k0_t2
  let v651 : BitVec 32 := Scalar.muli c8_i32_344 arg14
  let c4_i32_345 : BitVec 32 := 4#32
  let v652 : BitVec 32 := Scalar.addi v651 c4_i32_345
  let c1_i32_346 : BitVec 32 := 1#32
  let v653 : BitVec 32 := Scalar.addi v652 c1_i32_346
  let c1_i32_428 : BitVec 32 := 1#32
  let v818 : BitVec 32 := Scalar.addi v653 c1_i32_428
  let c1_i32_447 : BitVec 32 := 1#32
  let v839 : BitVec 32 := Scalar.addi v818 c1_i32_447
  let c512_i32_448 : BitVec 32 := 512#32
  let v840 : BitVec 32 := Scalar.muli v839 c512_i32_448
  let v841 : BitVec 32 := Scalar.subi v838 v840
  v841
def k0_mult32 (i : grid0.Coords) (k0_t2 : Fin (k0_t2_loop i).trips) : BitVec 32 :=
  let arg2 : BitVec 32 := BitVec.ofNat 32 (i 2).val
  let c1_i32_457 : BitVec 32 := 1#32
  let v855 : BitVec 32 := Scalar.addi arg2 c1_i32_457
  let c1024_i32_458 : BitVec 32 := 1024#32
  let v856 : BitVec 32 := Scalar.muli v855 c1024_i32_458
  let c8_i32_454 : BitVec 32 := 8#32
  let c0_i32_77 : BitVec 32 := 0#32
  let c0_i32 : BitVec 32 := 0#32
  let v167 : BitVec 1 := Scalar.cmpi .sgt arg2 c0_i32
  let v168 : BitVec 32 := Scalar.extui v167
  let c0_i32_72 : BitVec 32 := 0#32
  let v169 : BitVec 1 := Scalar.cmpi .slt arg2 c0_i32_72
  let v170 : BitVec 32 := Scalar.extui v169
  let v171 : BitVec 32 := Scalar.subi v168 v170
  let c4_i32 : BitVec 32 := 4#32
  let c0_i32_73 : BitVec 32 := 0#32
  let v172 : BitVec 1 := Scalar.cmpi .sgt c4_i32 c0_i32_73
  let v173 : BitVec 32 := Scalar.extui v172
  let c0_i32_74 : BitVec 32 := 0#32
  let v174 : BitVec 1 := Scalar.cmpi .slt c4_i32 c0_i32_74
  let v175 : BitVec 32 := Scalar.extui v174
  let v176 : BitVec 32 := Scalar.subi v173 v175
  let v177 : BitVec 1 := Scalar.cmpi .ne v171 v176
  let v178 : BitVec 32 := Scalar.remsi arg2 c4_i32
  let c0_i32_75 : BitVec 32 := 0#32
  let v179 : BitVec 1 := Scalar.cmpi .ne v178 c0_i32_75
  let v180 : BitVec 1 := Scalar.andi v177 v179
  let v166 : BitVec 32 := Scalar.divsi arg2 c4_i32
  let c1_i32_76 : BitVec 32 := 1#32
  let v181 : BitVec 32 := Scalar.subi v166 c1_i32_76
  let v182 : BitVec 32 := Scalar.select v180 v181 v166
  let v183 : BitVec 32 := Scalar.subi v182 c0_i32_77
  let c1_i32_78 : BitVec 32 := 1#32
  let v185 : BitVec 32 := Scalar.divsi v183 c1_i32_78
  let v186 : BitVec 32 := Scalar.muli v185 c1_i32_78
  let v187 : BitVec 32 := Scalar.addi c0_i32_77 v186
  let c1_i32_80 : BitVec 32 := 1#32
  let arg14 : BitVec 32 := Scf.iv v187 c1_i32_80 k0_t2
  let v851 : BitVec 32 := Scalar.muli c8_i32_454 arg14
  let c6_i32 : BitVec 32 := 6#32
  let v852 : BitVec 32 := Scalar.addi v851 c6_i32
  let c1_i32_455 : BitVec 32 := 1#32
  let v853 : BitVec 32 := Scalar.addi v852 c1_i32_455
  let c1_i32_456 : BitVec 32 := 1#32
  let v854 : BitVec 32 := Scalar.addi v853 c1_i32_456
  let c1_i32_459 : BitVec 32 := 1#32
  let v857 : BitVec 32 := Scalar.addi v854 c1_i32_459
  let c512_i32_460 : BitVec 32 := 512#32
  let v858 : BitVec 32 := Scalar.muli v857 c512_i32_460
  let v859 : BitVec 32 := Scalar.subi v856 v858
  v859
def k0_mult33 (i : grid0.Coords) (k0_t2 : Fin (k0_t2_loop i).trips) : BitVec 32 :=
  let arg2 : BitVec 32 := BitVec.ofNat 32 (i 2).val
  let c1_i32_500 : BitVec 32 := 1#32
  let v938 : BitVec 32 := Scalar.addi arg2 c1_i32_500
  let c1024_i32_501 : BitVec 32 := 1024#32
  let v939 : BitVec 32 := Scalar.muli v938 c1024_i32_501
  let c8_i32_454 : BitVec 32 := 8#32
  let c0_i32_77 : BitVec 32 := 0#32
  let c0_i32 : BitVec 32 := 0#32
  let v167 : BitVec 1 := Scalar.cmpi .sgt arg2 c0_i32
  let v168 : BitVec 32 := Scalar.extui v167
  let c0_i32_72 : BitVec 32 := 0#32
  let v169 : BitVec 1 := Scalar.cmpi .slt arg2 c0_i32_72
  let v170 : BitVec 32 := Scalar.extui v169
  let v171 : BitVec 32 := Scalar.subi v168 v170
  let c4_i32 : BitVec 32 := 4#32
  let c0_i32_73 : BitVec 32 := 0#32
  let v172 : BitVec 1 := Scalar.cmpi .sgt c4_i32 c0_i32_73
  let v173 : BitVec 32 := Scalar.extui v172
  let c0_i32_74 : BitVec 32 := 0#32
  let v174 : BitVec 1 := Scalar.cmpi .slt c4_i32 c0_i32_74
  let v175 : BitVec 32 := Scalar.extui v174
  let v176 : BitVec 32 := Scalar.subi v173 v175
  let v177 : BitVec 1 := Scalar.cmpi .ne v171 v176
  let v178 : BitVec 32 := Scalar.remsi arg2 c4_i32
  let c0_i32_75 : BitVec 32 := 0#32
  let v179 : BitVec 1 := Scalar.cmpi .ne v178 c0_i32_75
  let v180 : BitVec 1 := Scalar.andi v177 v179
  let v166 : BitVec 32 := Scalar.divsi arg2 c4_i32
  let c1_i32_76 : BitVec 32 := 1#32
  let v181 : BitVec 32 := Scalar.subi v166 c1_i32_76
  let v182 : BitVec 32 := Scalar.select v180 v181 v166
  let v183 : BitVec 32 := Scalar.subi v182 c0_i32_77
  let c1_i32_78 : BitVec 32 := 1#32
  let v185 : BitVec 32 := Scalar.divsi v183 c1_i32_78
  let v186 : BitVec 32 := Scalar.muli v185 c1_i32_78
  let v187 : BitVec 32 := Scalar.addi c0_i32_77 v186
  let c1_i32_80 : BitVec 32 := 1#32
  let arg14 : BitVec 32 := Scf.iv v187 c1_i32_80 k0_t2
  let v851 : BitVec 32 := Scalar.muli c8_i32_454 arg14
  let c6_i32 : BitVec 32 := 6#32
  let v852 : BitVec 32 := Scalar.addi v851 c6_i32
  let c1_i32_455 : BitVec 32 := 1#32
  let v853 : BitVec 32 := Scalar.addi v852 c1_i32_455
  let c1_i32_502 : BitVec 32 := 1#32
  let v940 : BitVec 32 := Scalar.addi v853 c1_i32_502
  let c512_i32_503 : BitVec 32 := 512#32
  let v941 : BitVec 32 := Scalar.muli v940 c512_i32_503
  let v942 : BitVec 32 := Scalar.subi v939 v941
  v942
def k0_mult34 (i : grid0.Coords) (k0_t2 : Fin (k0_t2_loop i).trips) : BitVec 32 :=
  let arg2 : BitVec 32 := BitVec.ofNat 32 (i 2).val
  let c1_i32_510 : BitVec 32 := 1#32
  let v953 : BitVec 32 := Scalar.addi arg2 c1_i32_510
  let c1024_i32_511 : BitVec 32 := 1024#32
  let v954 : BitVec 32 := Scalar.muli v953 c1024_i32_511
  let c8_i32_454 : BitVec 32 := 8#32
  let c0_i32_77 : BitVec 32 := 0#32
  let c0_i32 : BitVec 32 := 0#32
  let v167 : BitVec 1 := Scalar.cmpi .sgt arg2 c0_i32
  let v168 : BitVec 32 := Scalar.extui v167
  let c0_i32_72 : BitVec 32 := 0#32
  let v169 : BitVec 1 := Scalar.cmpi .slt arg2 c0_i32_72
  let v170 : BitVec 32 := Scalar.extui v169
  let v171 : BitVec 32 := Scalar.subi v168 v170
  let c4_i32 : BitVec 32 := 4#32
  let c0_i32_73 : BitVec 32 := 0#32
  let v172 : BitVec 1 := Scalar.cmpi .sgt c4_i32 c0_i32_73
  let v173 : BitVec 32 := Scalar.extui v172
  let c0_i32_74 : BitVec 32 := 0#32
  let v174 : BitVec 1 := Scalar.cmpi .slt c4_i32 c0_i32_74
  let v175 : BitVec 32 := Scalar.extui v174
  let v176 : BitVec 32 := Scalar.subi v173 v175
  let v177 : BitVec 1 := Scalar.cmpi .ne v171 v176
  let v178 : BitVec 32 := Scalar.remsi arg2 c4_i32
  let c0_i32_75 : BitVec 32 := 0#32
  let v179 : BitVec 1 := Scalar.cmpi .ne v178 c0_i32_75
  let v180 : BitVec 1 := Scalar.andi v177 v179
  let v166 : BitVec 32 := Scalar.divsi arg2 c4_i32
  let c1_i32_76 : BitVec 32 := 1#32
  let v181 : BitVec 32 := Scalar.subi v166 c1_i32_76
  let v182 : BitVec 32 := Scalar.select v180 v181 v166
  let v183 : BitVec 32 := Scalar.subi v182 c0_i32_77
  let c1_i32_78 : BitVec 32 := 1#32
  let v185 : BitVec 32 := Scalar.divsi v183 c1_i32_78
  let v186 : BitVec 32 := Scalar.muli v185 c1_i32_78
  let v187 : BitVec 32 := Scalar.addi c0_i32_77 v186
  let c1_i32_80 : BitVec 32 := 1#32
  let arg14 : BitVec 32 := Scf.iv v187 c1_i32_80 k0_t2
  let v851 : BitVec 32 := Scalar.muli c8_i32_454 arg14
  let c6_i32 : BitVec 32 := 6#32
  let v852 : BitVec 32 := Scalar.addi v851 c6_i32
  let c1_i32_455 : BitVec 32 := 1#32
  let v853 : BitVec 32 := Scalar.addi v852 c1_i32_455
  let c2_i32_509 : BitVec 32 := 2#32
  let v952 : BitVec 32 := Scalar.addi v853 c2_i32_509
  let c1_i32_512 : BitVec 32 := 1#32
  let v955 : BitVec 32 := Scalar.addi v952 c1_i32_512
  let c512_i32_513 : BitVec 32 := 512#32
  let v956 : BitVec 32 := Scalar.muli v955 c512_i32_513
  let v957 : BitVec 32 := Scalar.subi v954 v956
  v957
def k0_mult35 (i : grid0.Coords) (k0_t2 : Fin (k0_t2_loop i).trips) : BitVec 32 :=
  let arg2 : BitVec 32 := BitVec.ofNat 32 (i 2).val
  let c1_i32_554 : BitVec 32 := 1#32
  let v1037 : BitVec 32 := Scalar.addi arg2 c1_i32_554
  let c1024_i32_555 : BitVec 32 := 1024#32
  let v1038 : BitVec 32 := Scalar.muli v1037 c1024_i32_555
  let c8_i32_454 : BitVec 32 := 8#32
  let c0_i32_77 : BitVec 32 := 0#32
  let c0_i32 : BitVec 32 := 0#32
  let v167 : BitVec 1 := Scalar.cmpi .sgt arg2 c0_i32
  let v168 : BitVec 32 := Scalar.extui v167
  let c0_i32_72 : BitVec 32 := 0#32
  let v169 : BitVec 1 := Scalar.cmpi .slt arg2 c0_i32_72
  let v170 : BitVec 32 := Scalar.extui v169
  let v171 : BitVec 32 := Scalar.subi v168 v170
  let c4_i32 : BitVec 32 := 4#32
  let c0_i32_73 : BitVec 32 := 0#32
  let v172 : BitVec 1 := Scalar.cmpi .sgt c4_i32 c0_i32_73
  let v173 : BitVec 32 := Scalar.extui v172
  let c0_i32_74 : BitVec 32 := 0#32
  let v174 : BitVec 1 := Scalar.cmpi .slt c4_i32 c0_i32_74
  let v175 : BitVec 32 := Scalar.extui v174
  let v176 : BitVec 32 := Scalar.subi v173 v175
  let v177 : BitVec 1 := Scalar.cmpi .ne v171 v176
  let v178 : BitVec 32 := Scalar.remsi arg2 c4_i32
  let c0_i32_75 : BitVec 32 := 0#32
  let v179 : BitVec 1 := Scalar.cmpi .ne v178 c0_i32_75
  let v180 : BitVec 1 := Scalar.andi v177 v179
  let v166 : BitVec 32 := Scalar.divsi arg2 c4_i32
  let c1_i32_76 : BitVec 32 := 1#32
  let v181 : BitVec 32 := Scalar.subi v166 c1_i32_76
  let v182 : BitVec 32 := Scalar.select v180 v181 v166
  let v183 : BitVec 32 := Scalar.subi v182 c0_i32_77
  let c1_i32_78 : BitVec 32 := 1#32
  let v185 : BitVec 32 := Scalar.divsi v183 c1_i32_78
  let v186 : BitVec 32 := Scalar.muli v185 c1_i32_78
  let v187 : BitVec 32 := Scalar.addi c0_i32_77 v186
  let c1_i32_80 : BitVec 32 := 1#32
  let arg14 : BitVec 32 := Scf.iv v187 c1_i32_80 k0_t2
  let v851 : BitVec 32 := Scalar.muli c8_i32_454 arg14
  let c6_i32 : BitVec 32 := 6#32
  let v852 : BitVec 32 := Scalar.addi v851 c6_i32
  let c1_i32_455 : BitVec 32 := 1#32
  let v853 : BitVec 32 := Scalar.addi v852 c1_i32_455
  let c1_i32_537 : BitVec 32 := 1#32
  let v1018 : BitVec 32 := Scalar.addi v853 c1_i32_537
  let c1_i32_556 : BitVec 32 := 1#32
  let v1039 : BitVec 32 := Scalar.addi v1018 c1_i32_556
  let c512_i32_557 : BitVec 32 := 512#32
  let v1040 : BitVec 32 := Scalar.muli v1039 c512_i32_557
  let v1041 : BitVec 32 := Scalar.subi v1038 v1040
  v1041
@[reducible] def k0_t3_loop (i : grid0.Coords) : Scf.Loop 32 :=
  let c0_i32_87 : BitVec 32 := 0#32
  let arg2 : BitVec 32 := BitVec.ofNat 32 (i 2).val
  let c4_i32_81 : BitVec 32 := 4#32
  let c0_i32_82 : BitVec 32 := 0#32
  let v190 : BitVec 1 := Scalar.cmpi .eq c4_i32_81 c0_i32_82
  let c1_i32_83 : BitVec 32 := 1#32
  let v191 : BitVec 32 := Scalar.select v190 c1_i32_83 c4_i32_81
  let v192 : BitVec 32 := Scalar.remsi arg2 v191
  let c0_i32_85 : BitVec 32 := 0#32
  let v194 : BitVec 1 := Scalar.cmpi .slt v192 c0_i32_85
  let c0_i32_86 : BitVec 32 := 0#32
  let v195 : BitVec 1 := Scalar.cmpi .slt v191 c0_i32_86
  let v196 : BitVec 1 := Scalar.xori v194 v195
  let c0_i32_84 : BitVec 32 := 0#32
  let v193 : BitVec 1 := Scalar.cmpi .ne v192 c0_i32_84
  let v197 : BitVec 1 := Scalar.andi v196 v193
  let v198 : BitVec 32 := Scalar.addi v192 v191
  let v199 : BitVec 32 := Scalar.select v197 v198 v192
  let v200 : BitVec 32 := Scalar.subi v199 c0_i32_87
  let c1_i32_88 : BitVec 32 := 1#32
  let v202 : BitVec 32 := Scalar.divsi v200 c1_i32_88
  let v203 : BitVec 32 := Scalar.muli v202 c1_i32_88
  let v204 : BitVec 32 := Scalar.addi c0_i32_87 v203
  let c1_i32_89 : BitVec 32 := 1#32
  ⟨c0_i32_87, v204, c1_i32_89⟩
def k0_mult36 (i : grid0.Coords) (k0_t3 : Fin (k0_t3_loop i).trips) : BitVec 32 :=
  let arg2 : BitVec 32 := BitVec.ofNat 32 (i 2).val
  let c1_i32_135 : BitVec 32 := 1#32
  let v273 : BitVec 32 := Scalar.addi arg2 c1_i32_135
  let c1024_i32_136 : BitVec 32 := 1024#32
  let v274 : BitVec 32 := Scalar.muli v273 c1024_i32_136
  let c8_i32 : BitVec 32 := 8#32
  let c0_i32_126 : BitVec 32 := 0#32
  let v252 : BitVec 1 := Scalar.cmpi .sgt arg2 c0_i32_126
  let v253 : BitVec 32 := Scalar.extui v252
  let c0_i32_127 : BitVec 32 := 0#32
  let v254 : BitVec 1 := Scalar.cmpi .slt arg2 c0_i32_127
  let v255 : BitVec 32 := Scalar.extui v254
  let v256 : BitVec 32 := Scalar.subi v253 v255
  let c4_i32_125 : BitVec 32 := 4#32
  let c0_i32_128 : BitVec 32 := 0#32
  let v257 : BitVec 1 := Scalar.cmpi .sgt c4_i32_125 c0_i32_128
  let v258 : BitVec 32 := Scalar.extui v257
  let c0_i32_129 : BitVec 32 := 0#32
  let v259 : BitVec 1 := Scalar.cmpi .slt c4_i32_125 c0_i32_129
  let v260 : BitVec 32 := Scalar.extui v259
  let v261 : BitVec 32 := Scalar.subi v258 v260
  let v262 : BitVec 1 := Scalar.cmpi .ne v256 v261
  let v263 : BitVec 32 := Scalar.remsi arg2 c4_i32_125
  let c0_i32_130 : BitVec 32 := 0#32
  let v264 : BitVec 1 := Scalar.cmpi .ne v263 c0_i32_130
  let v265 : BitVec 1 := Scalar.andi v262 v264
  let v251 : BitVec 32 := Scalar.divsi arg2 c4_i32_125
  let c1_i32_131 : BitVec 32 := 1#32
  let v266 : BitVec 32 := Scalar.subi v251 c1_i32_131
  let v267 : BitVec 32 := Scalar.select v265 v266 v251
  let v268 : BitVec 32 := Scalar.muli c8_i32 v267
  let c2_i32_132 : BitVec 32 := 2#32
  let c0_i32_87 : BitVec 32 := 0#32
  let c1_i32_89 : BitVec 32 := 1#32
  let arg14 : BitVec 32 := Scf.iv c0_i32_87 c1_i32_89 k0_t3
  let v269 : BitVec 32 := Scalar.muli c2_i32_132 arg14
  let v270 : BitVec 32 := Scalar.addi v268 v269
  let c1_i32_133 : BitVec 32 := 1#32
  let v271 : BitVec 32 := Scalar.addi v270 c1_i32_133
  let c1_i32_134 : BitVec 32 := 1#32
  let v272 : BitVec 32 := Scalar.addi v271 c1_i32_134
  let c1_i32_137 : BitVec 32 := 1#32
  let v275 : BitVec 32 := Scalar.addi v272 c1_i32_137
  let c512_i32_138 : BitVec 32 := 512#32
  let v276 : BitVec 32 := Scalar.muli v275 c512_i32_138
  let v277 : BitVec 32 := Scalar.subi v274 v276
  v277
def k0_off6 (i : grid0.Coords) (k0_t3 : Fin (k0_t3_loop i).trips) (c1_i32_134 : BitVec 32) : Fin 3 → Nat :=
  let c0_142 : Index := 0#32
  let arg2 : BitVec 32 := BitVec.ofNat 32 (i 2).val
  let c1_i32_135 : BitVec 32 := 1#32
  let v273 : BitVec 32 := Scalar.addi arg2 c1_i32_135
  let c1024_i32_136 : BitVec 32 := 1024#32
  let v274 : BitVec 32 := Scalar.muli v273 c1024_i32_136
  let c8_i32 : BitVec 32 := 8#32
  let c0_i32_126 : BitVec 32 := 0#32
  let v252 : BitVec 1 := Scalar.cmpi .sgt arg2 c0_i32_126
  let v253 : BitVec 32 := Scalar.extui v252
  let c0_i32_127 : BitVec 32 := 0#32
  let v254 : BitVec 1 := Scalar.cmpi .slt arg2 c0_i32_127
  let v255 : BitVec 32 := Scalar.extui v254
  let v256 : BitVec 32 := Scalar.subi v253 v255
  let c4_i32_125 : BitVec 32 := 4#32
  let c0_i32_128 : BitVec 32 := 0#32
  let v257 : BitVec 1 := Scalar.cmpi .sgt c4_i32_125 c0_i32_128
  let v258 : BitVec 32 := Scalar.extui v257
  let c0_i32_129 : BitVec 32 := 0#32
  let v259 : BitVec 1 := Scalar.cmpi .slt c4_i32_125 c0_i32_129
  let v260 : BitVec 32 := Scalar.extui v259
  let v261 : BitVec 32 := Scalar.subi v258 v260
  let v262 : BitVec 1 := Scalar.cmpi .ne v256 v261
  let v263 : BitVec 32 := Scalar.remsi arg2 c4_i32_125
  let c0_i32_130 : BitVec 32 := 0#32
  let v264 : BitVec 1 := Scalar.cmpi .ne v263 c0_i32_130
  let v265 : BitVec 1 := Scalar.andi v262 v264
  let v251 : BitVec 32 := Scalar.divsi arg2 c4_i32_125
  let c1_i32_131 : BitVec 32 := 1#32
  let v266 : BitVec 32 := Scalar.subi v251 c1_i32_131
  let v267 : BitVec 32 := Scalar.select v265 v266 v251
  let v268 : BitVec 32 := Scalar.muli c8_i32 v267
  let c2_i32_132 : BitVec 32 := 2#32
  let c0_i32_87 : BitVec 32 := 0#32
  let c1_i32_89 : BitVec 32 := 1#32
  let arg14 : BitVec 32 := Scf.iv c0_i32_87 c1_i32_89 k0_t3
  let v269 : BitVec 32 := Scalar.muli c2_i32_132 arg14
  let v270 : BitVec 32 := Scalar.addi v268 v269
  let c1_i32_133 : BitVec 32 := 1#32
  let v271 : BitVec 32 := Scalar.addi v270 c1_i32_133
  let v272 : BitVec 32 := Scalar.addi v271 c1_i32_134
  let c1_i32_137 : BitVec 32 := 1#32
  let v275 : BitVec 32 := Scalar.addi v272 c1_i32_137
  let c512_i32_138 : BitVec 32 := 512#32
  let v276 : BitVec 32 := Scalar.muli v275 c512_i32_138
  let v277 : BitVec 32 := Scalar.subi v274 v276
  let v278 : BitVec 32 := v277
  let v281 : Index := Scalar.indexCast v278
  let c0_143 : Index := 0#32
  ![0, v281.toNat, 0]
def k0_mult37 (i : grid0.Coords) (k0_t3 : Fin (k0_t3_loop i).trips) : BitVec 32 :=
  let arg2 : BitVec 32 := BitVec.ofNat 32 (i 2).val
  let c1_i32_178 : BitVec 32 := 1#32
  let v356 : BitVec 32 := Scalar.addi arg2 c1_i32_178
  let c1024_i32_179 : BitVec 32 := 1024#32
  let v357 : BitVec 32 := Scalar.muli v356 c1024_i32_179
  let c8_i32 : BitVec 32 := 8#32
  let c0_i32_126 : BitVec 32 := 0#32
  let v252 : BitVec 1 := Scalar.cmpi .sgt arg2 c0_i32_126
  let v253 : BitVec 32 := Scalar.extui v252
  let c0_i32_127 : BitVec 32 := 0#32
  let v254 : BitVec 1 := Scalar.cmpi .slt arg2 c0_i32_127
  let v255 : BitVec 32 := Scalar.extui v254
  let v256 : BitVec 32 := Scalar.subi v253 v255
  let c4_i32_125 : BitVec 32 := 4#32
  let c0_i32_128 : BitVec 32 := 0#32
  let v257 : BitVec 1 := Scalar.cmpi .sgt c4_i32_125 c0_i32_128
  let v258 : BitVec 32 := Scalar.extui v257
  let c0_i32_129 : BitVec 32 := 0#32
  let v259 : BitVec 1 := Scalar.cmpi .slt c4_i32_125 c0_i32_129
  let v260 : BitVec 32 := Scalar.extui v259
  let v261 : BitVec 32 := Scalar.subi v258 v260
  let v262 : BitVec 1 := Scalar.cmpi .ne v256 v261
  let v263 : BitVec 32 := Scalar.remsi arg2 c4_i32_125
  let c0_i32_130 : BitVec 32 := 0#32
  let v264 : BitVec 1 := Scalar.cmpi .ne v263 c0_i32_130
  let v265 : BitVec 1 := Scalar.andi v262 v264
  let v251 : BitVec 32 := Scalar.divsi arg2 c4_i32_125
  let c1_i32_131 : BitVec 32 := 1#32
  let v266 : BitVec 32 := Scalar.subi v251 c1_i32_131
  let v267 : BitVec 32 := Scalar.select v265 v266 v251
  let v268 : BitVec 32 := Scalar.muli c8_i32 v267
  let c2_i32_132 : BitVec 32 := 2#32
  let c0_i32_87 : BitVec 32 := 0#32
  let c1_i32_89 : BitVec 32 := 1#32
  let arg14 : BitVec 32 := Scf.iv c0_i32_87 c1_i32_89 k0_t3
  let v269 : BitVec 32 := Scalar.muli c2_i32_132 arg14
  let v270 : BitVec 32 := Scalar.addi v268 v269
  let c1_i32_133 : BitVec 32 := 1#32
  let v271 : BitVec 32 := Scalar.addi v270 c1_i32_133
  let c1_i32_180 : BitVec 32 := 1#32
  let v358 : BitVec 32 := Scalar.addi v271 c1_i32_180
  let c512_i32_181 : BitVec 32 := 512#32
  let v359 : BitVec 32 := Scalar.muli v358 c512_i32_181
  let v360 : BitVec 32 := Scalar.subi v357 v359
  v360
def k0_off7 (i : grid0.Coords) (k0_t3 : Fin (k0_t3_loop i).trips) : Fin 3 → Nat :=
  let c0_182 : Index := 0#32
  let arg2 : BitVec 32 := BitVec.ofNat 32 (i 2).val
  let c1_i32_178 : BitVec 32 := 1#32
  let v356 : BitVec 32 := Scalar.addi arg2 c1_i32_178
  let c1024_i32_179 : BitVec 32 := 1024#32
  let v357 : BitVec 32 := Scalar.muli v356 c1024_i32_179
  let c8_i32 : BitVec 32 := 8#32
  let c0_i32_126 : BitVec 32 := 0#32
  let v252 : BitVec 1 := Scalar.cmpi .sgt arg2 c0_i32_126
  let v253 : BitVec 32 := Scalar.extui v252
  let c0_i32_127 : BitVec 32 := 0#32
  let v254 : BitVec 1 := Scalar.cmpi .slt arg2 c0_i32_127
  let v255 : BitVec 32 := Scalar.extui v254
  let v256 : BitVec 32 := Scalar.subi v253 v255
  let c4_i32_125 : BitVec 32 := 4#32
  let c0_i32_128 : BitVec 32 := 0#32
  let v257 : BitVec 1 := Scalar.cmpi .sgt c4_i32_125 c0_i32_128
  let v258 : BitVec 32 := Scalar.extui v257
  let c0_i32_129 : BitVec 32 := 0#32
  let v259 : BitVec 1 := Scalar.cmpi .slt c4_i32_125 c0_i32_129
  let v260 : BitVec 32 := Scalar.extui v259
  let v261 : BitVec 32 := Scalar.subi v258 v260
  let v262 : BitVec 1 := Scalar.cmpi .ne v256 v261
  let v263 : BitVec 32 := Scalar.remsi arg2 c4_i32_125
  let c0_i32_130 : BitVec 32 := 0#32
  let v264 : BitVec 1 := Scalar.cmpi .ne v263 c0_i32_130
  let v265 : BitVec 1 := Scalar.andi v262 v264
  let v251 : BitVec 32 := Scalar.divsi arg2 c4_i32_125
  let c1_i32_131 : BitVec 32 := 1#32
  let v266 : BitVec 32 := Scalar.subi v251 c1_i32_131
  let v267 : BitVec 32 := Scalar.select v265 v266 v251
  let v268 : BitVec 32 := Scalar.muli c8_i32 v267
  let c2_i32_132 : BitVec 32 := 2#32
  let c0_i32_87 : BitVec 32 := 0#32
  let c1_i32_89 : BitVec 32 := 1#32
  let arg14 : BitVec 32 := Scf.iv c0_i32_87 c1_i32_89 k0_t3
  let v269 : BitVec 32 := Scalar.muli c2_i32_132 arg14
  let v270 : BitVec 32 := Scalar.addi v268 v269
  let c1_i32_133 : BitVec 32 := 1#32
  let v271 : BitVec 32 := Scalar.addi v270 c1_i32_133
  let c1_i32_180 : BitVec 32 := 1#32
  let v358 : BitVec 32 := Scalar.addi v271 c1_i32_180
  let c512_i32_181 : BitVec 32 := 512#32
  let v359 : BitVec 32 := Scalar.muli v358 c512_i32_181
  let v360 : BitVec 32 := Scalar.subi v357 v359
  let v361 : BitVec 32 := v360
  let v362 : Index := Scalar.indexCast v361
  let c0_183 : Index := 0#32
  ![0, v362.toNat, 0]
def k0_mult38 (i : grid0.Coords) (k0_t3 : Fin (k0_t3_loop i).trips) : BitVec 32 :=
  let arg2 : BitVec 32 := BitVec.ofNat 32 (i 2).val
  let c1_i32_188 : BitVec 32 := 1#32
  let v371 : BitVec 32 := Scalar.addi arg2 c1_i32_188
  let c1024_i32_189 : BitVec 32 := 1024#32
  let v372 : BitVec 32 := Scalar.muli v371 c1024_i32_189
  let c8_i32 : BitVec 32 := 8#32
  let c0_i32_126 : BitVec 32 := 0#32
  let v252 : BitVec 1 := Scalar.cmpi .sgt arg2 c0_i32_126
  let v253 : BitVec 32 := Scalar.extui v252
  let c0_i32_127 : BitVec 32 := 0#32
  let v254 : BitVec 1 := Scalar.cmpi .slt arg2 c0_i32_127
  let v255 : BitVec 32 := Scalar.extui v254
  let v256 : BitVec 32 := Scalar.subi v253 v255
  let c4_i32_125 : BitVec 32 := 4#32
  let c0_i32_128 : BitVec 32 := 0#32
  let v257 : BitVec 1 := Scalar.cmpi .sgt c4_i32_125 c0_i32_128
  let v258 : BitVec 32 := Scalar.extui v257
  let c0_i32_129 : BitVec 32 := 0#32
  let v259 : BitVec 1 := Scalar.cmpi .slt c4_i32_125 c0_i32_129
  let v260 : BitVec 32 := Scalar.extui v259
  let v261 : BitVec 32 := Scalar.subi v258 v260
  let v262 : BitVec 1 := Scalar.cmpi .ne v256 v261
  let v263 : BitVec 32 := Scalar.remsi arg2 c4_i32_125
  let c0_i32_130 : BitVec 32 := 0#32
  let v264 : BitVec 1 := Scalar.cmpi .ne v263 c0_i32_130
  let v265 : BitVec 1 := Scalar.andi v262 v264
  let v251 : BitVec 32 := Scalar.divsi arg2 c4_i32_125
  let c1_i32_131 : BitVec 32 := 1#32
  let v266 : BitVec 32 := Scalar.subi v251 c1_i32_131
  let v267 : BitVec 32 := Scalar.select v265 v266 v251
  let v268 : BitVec 32 := Scalar.muli c8_i32 v267
  let c2_i32_132 : BitVec 32 := 2#32
  let c0_i32_87 : BitVec 32 := 0#32
  let c1_i32_89 : BitVec 32 := 1#32
  let arg14 : BitVec 32 := Scf.iv c0_i32_87 c1_i32_89 k0_t3
  let v269 : BitVec 32 := Scalar.muli c2_i32_132 arg14
  let v270 : BitVec 32 := Scalar.addi v268 v269
  let c1_i32_133 : BitVec 32 := 1#32
  let v271 : BitVec 32 := Scalar.addi v270 c1_i32_133
  let c2_i32_187 : BitVec 32 := 2#32
  let v370 : BitVec 32 := Scalar.addi v271 c2_i32_187
  let c1_i32_190 : BitVec 32 := 1#32
  let v373 : BitVec 32 := Scalar.addi v370 c1_i32_190
  let c512_i32_191 : BitVec 32 := 512#32
  let v374 : BitVec 32 := Scalar.muli v373 c512_i32_191
  let v375 : BitVec 32 := Scalar.subi v372 v374
  v375
def k0_mult39 (i : grid0.Coords) (k0_t3 : Fin (k0_t3_loop i).trips) : BitVec 32 :=
  let arg2 : BitVec 32 := BitVec.ofNat 32 (i 2).val
  let c1_i32_232 : BitVec 32 := 1#32
  let v455 : BitVec 32 := Scalar.addi arg2 c1_i32_232
  let c1024_i32_233 : BitVec 32 := 1024#32
  let v456 : BitVec 32 := Scalar.muli v455 c1024_i32_233
  let c8_i32 : BitVec 32 := 8#32
  let c0_i32_126 : BitVec 32 := 0#32
  let v252 : BitVec 1 := Scalar.cmpi .sgt arg2 c0_i32_126
  let v253 : BitVec 32 := Scalar.extui v252
  let c0_i32_127 : BitVec 32 := 0#32
  let v254 : BitVec 1 := Scalar.cmpi .slt arg2 c0_i32_127
  let v255 : BitVec 32 := Scalar.extui v254
  let v256 : BitVec 32 := Scalar.subi v253 v255
  let c4_i32_125 : BitVec 32 := 4#32
  let c0_i32_128 : BitVec 32 := 0#32
  let v257 : BitVec 1 := Scalar.cmpi .sgt c4_i32_125 c0_i32_128
  let v258 : BitVec 32 := Scalar.extui v257
  let c0_i32_129 : BitVec 32 := 0#32
  let v259 : BitVec 1 := Scalar.cmpi .slt c4_i32_125 c0_i32_129
  let v260 : BitVec 32 := Scalar.extui v259
  let v261 : BitVec 32 := Scalar.subi v258 v260
  let v262 : BitVec 1 := Scalar.cmpi .ne v256 v261
  let v263 : BitVec 32 := Scalar.remsi arg2 c4_i32_125
  let c0_i32_130 : BitVec 32 := 0#32
  let v264 : BitVec 1 := Scalar.cmpi .ne v263 c0_i32_130
  let v265 : BitVec 1 := Scalar.andi v262 v264
  let v251 : BitVec 32 := Scalar.divsi arg2 c4_i32_125
  let c1_i32_131 : BitVec 32 := 1#32
  let v266 : BitVec 32 := Scalar.subi v251 c1_i32_131
  let v267 : BitVec 32 := Scalar.select v265 v266 v251
  let v268 : BitVec 32 := Scalar.muli c8_i32 v267
  let c2_i32_132 : BitVec 32 := 2#32
  let c0_i32_87 : BitVec 32 := 0#32
  let c1_i32_89 : BitVec 32 := 1#32
  let arg14 : BitVec 32 := Scf.iv c0_i32_87 c1_i32_89 k0_t3
  let v269 : BitVec 32 := Scalar.muli c2_i32_132 arg14
  let v270 : BitVec 32 := Scalar.addi v268 v269
  let c1_i32_133 : BitVec 32 := 1#32
  let v271 : BitVec 32 := Scalar.addi v270 c1_i32_133
  let c1_i32_215 : BitVec 32 := 1#32
  let v436 : BitVec 32 := Scalar.addi v271 c1_i32_215
  let c1_i32_234 : BitVec 32 := 1#32
  let v457 : BitVec 32 := Scalar.addi v436 c1_i32_234
  let c512_i32_235 : BitVec 32 := 512#32
  let v458 : BitVec 32 := Scalar.muli v457 c512_i32_235
  let v459 : BitVec 32 := Scalar.subi v456 v458
  v459
@[reducible] def k0_t4_loop (i : grid0.Coords) : Scf.Loop 32 :=
  let c0_i32_87 : BitVec 32 := 0#32
  let arg2 : BitVec 32 := BitVec.ofNat 32 (i 2).val
  let c4_i32_81 : BitVec 32 := 4#32
  let c0_i32_82 : BitVec 32 := 0#32
  let v190 : BitVec 1 := Scalar.cmpi .eq c4_i32_81 c0_i32_82
  let c1_i32_83 : BitVec 32 := 1#32
  let v191 : BitVec 32 := Scalar.select v190 c1_i32_83 c4_i32_81
  let v192 : BitVec 32 := Scalar.remsi arg2 v191
  let c0_i32_85 : BitVec 32 := 0#32
  let v194 : BitVec 1 := Scalar.cmpi .slt v192 c0_i32_85
  let c0_i32_86 : BitVec 32 := 0#32
  let v195 : BitVec 1 := Scalar.cmpi .slt v191 c0_i32_86
  let v196 : BitVec 1 := Scalar.xori v194 v195
  let c0_i32_84 : BitVec 32 := 0#32
  let v193 : BitVec 1 := Scalar.cmpi .ne v192 c0_i32_84
  let v197 : BitVec 1 := Scalar.andi v196 v193
  let v198 : BitVec 32 := Scalar.addi v192 v191
  let v199 : BitVec 32 := Scalar.select v197 v198 v192
  let v200 : BitVec 32 := Scalar.subi v199 c0_i32_87
  let c1_i32_88 : BitVec 32 := 1#32
  let v202 : BitVec 32 := Scalar.divsi v200 c1_i32_88
  let v203 : BitVec 32 := Scalar.muli v202 c1_i32_88
  let v204 : BitVec 32 := Scalar.addi c0_i32_87 v203
  let v201 : BitVec 32 := Scalar.addi c0_i32_87 v200
  let c1_i32_90 : BitVec 32 := 1#32
  ⟨v204, v201, c1_i32_90⟩
def k0_mult40 (i : grid0.Coords) (k0_t4 : Fin (k0_t4_loop i).trips) : BitVec 32 :=
  let arg2 : BitVec 32 := BitVec.ofNat 32 (i 2).val
  let c1_i32_135 : BitVec 32 := 1#32
  let v273 : BitVec 32 := Scalar.addi arg2 c1_i32_135
  let c1024_i32_136 : BitVec 32 := 1024#32
  let v274 : BitVec 32 := Scalar.muli v273 c1024_i32_136
  let c8_i32 : BitVec 32 := 8#32
  let c0_i32_126 : BitVec 32 := 0#32
  let v252 : BitVec 1 := Scalar.cmpi .sgt arg2 c0_i32_126
  let v253 : BitVec 32 := Scalar.extui v252
  let c0_i32_127 : BitVec 32 := 0#32
  let v254 : BitVec 1 := Scalar.cmpi .slt arg2 c0_i32_127
  let v255 : BitVec 32 := Scalar.extui v254
  let v256 : BitVec 32 := Scalar.subi v253 v255
  let c4_i32_125 : BitVec 32 := 4#32
  let c0_i32_128 : BitVec 32 := 0#32
  let v257 : BitVec 1 := Scalar.cmpi .sgt c4_i32_125 c0_i32_128
  let v258 : BitVec 32 := Scalar.extui v257
  let c0_i32_129 : BitVec 32 := 0#32
  let v259 : BitVec 1 := Scalar.cmpi .slt c4_i32_125 c0_i32_129
  let v260 : BitVec 32 := Scalar.extui v259
  let v261 : BitVec 32 := Scalar.subi v258 v260
  let v262 : BitVec 1 := Scalar.cmpi .ne v256 v261
  let v263 : BitVec 32 := Scalar.remsi arg2 c4_i32_125
  let c0_i32_130 : BitVec 32 := 0#32
  let v264 : BitVec 1 := Scalar.cmpi .ne v263 c0_i32_130
  let v265 : BitVec 1 := Scalar.andi v262 v264
  let v251 : BitVec 32 := Scalar.divsi arg2 c4_i32_125
  let c1_i32_131 : BitVec 32 := 1#32
  let v266 : BitVec 32 := Scalar.subi v251 c1_i32_131
  let v267 : BitVec 32 := Scalar.select v265 v266 v251
  let v268 : BitVec 32 := Scalar.muli c8_i32 v267
  let c2_i32_132 : BitVec 32 := 2#32
  let c0_i32_87 : BitVec 32 := 0#32
  let c4_i32_81 : BitVec 32 := 4#32
  let c0_i32_82 : BitVec 32 := 0#32
  let v190 : BitVec 1 := Scalar.cmpi .eq c4_i32_81 c0_i32_82
  let c1_i32_83 : BitVec 32 := 1#32
  let v191 : BitVec 32 := Scalar.select v190 c1_i32_83 c4_i32_81
  let v192 : BitVec 32 := Scalar.remsi arg2 v191
  let c0_i32_85 : BitVec 32 := 0#32
  let v194 : BitVec 1 := Scalar.cmpi .slt v192 c0_i32_85
  let c0_i32_86 : BitVec 32 := 0#32
  let v195 : BitVec 1 := Scalar.cmpi .slt v191 c0_i32_86
  let v196 : BitVec 1 := Scalar.xori v194 v195
  let c0_i32_84 : BitVec 32 := 0#32
  let v193 : BitVec 1 := Scalar.cmpi .ne v192 c0_i32_84
  let v197 : BitVec 1 := Scalar.andi v196 v193
  let v198 : BitVec 32 := Scalar.addi v192 v191
  let v199 : BitVec 32 := Scalar.select v197 v198 v192
  let v200 : BitVec 32 := Scalar.subi v199 c0_i32_87
  let c1_i32_88 : BitVec 32 := 1#32
  let v202 : BitVec 32 := Scalar.divsi v200 c1_i32_88
  let v203 : BitVec 32 := Scalar.muli v202 c1_i32_88
  let v204 : BitVec 32 := Scalar.addi c0_i32_87 v203
  let c1_i32_90 : BitVec 32 := 1#32
  let arg14 : BitVec 32 := Scf.iv v204 c1_i32_90 k0_t4
  let v269 : BitVec 32 := Scalar.muli c2_i32_132 arg14
  let v270 : BitVec 32 := Scalar.addi v268 v269
  let c1_i32_133 : BitVec 32 := 1#32
  let v271 : BitVec 32 := Scalar.addi v270 c1_i32_133
  let c1_i32_134 : BitVec 32 := 1#32
  let v272 : BitVec 32 := Scalar.addi v271 c1_i32_134
  let c1_i32_137 : BitVec 32 := 1#32
  let v275 : BitVec 32 := Scalar.addi v272 c1_i32_137
  let c512_i32_138 : BitVec 32 := 512#32
  let v276 : BitVec 32 := Scalar.muli v275 c512_i32_138
  let v277 : BitVec 32 := Scalar.subi v274 v276
  v277
def k0_off8 (i : grid0.Coords) (k0_t4 : Fin (k0_t4_loop i).trips) (c1_i32_134 : BitVec 32) : Fin 3 → Nat :=
  let c0_142 : Index := 0#32
  let arg2 : BitVec 32 := BitVec.ofNat 32 (i 2).val
  let c1_i32_135 : BitVec 32 := 1#32
  let v273 : BitVec 32 := Scalar.addi arg2 c1_i32_135
  let c1024_i32_136 : BitVec 32 := 1024#32
  let v274 : BitVec 32 := Scalar.muli v273 c1024_i32_136
  let c8_i32 : BitVec 32 := 8#32
  let c0_i32_126 : BitVec 32 := 0#32
  let v252 : BitVec 1 := Scalar.cmpi .sgt arg2 c0_i32_126
  let v253 : BitVec 32 := Scalar.extui v252
  let c0_i32_127 : BitVec 32 := 0#32
  let v254 : BitVec 1 := Scalar.cmpi .slt arg2 c0_i32_127
  let v255 : BitVec 32 := Scalar.extui v254
  let v256 : BitVec 32 := Scalar.subi v253 v255
  let c4_i32_125 : BitVec 32 := 4#32
  let c0_i32_128 : BitVec 32 := 0#32
  let v257 : BitVec 1 := Scalar.cmpi .sgt c4_i32_125 c0_i32_128
  let v258 : BitVec 32 := Scalar.extui v257
  let c0_i32_129 : BitVec 32 := 0#32
  let v259 : BitVec 1 := Scalar.cmpi .slt c4_i32_125 c0_i32_129
  let v260 : BitVec 32 := Scalar.extui v259
  let v261 : BitVec 32 := Scalar.subi v258 v260
  let v262 : BitVec 1 := Scalar.cmpi .ne v256 v261
  let v263 : BitVec 32 := Scalar.remsi arg2 c4_i32_125
  let c0_i32_130 : BitVec 32 := 0#32
  let v264 : BitVec 1 := Scalar.cmpi .ne v263 c0_i32_130
  let v265 : BitVec 1 := Scalar.andi v262 v264
  let v251 : BitVec 32 := Scalar.divsi arg2 c4_i32_125
  let c1_i32_131 : BitVec 32 := 1#32
  let v266 : BitVec 32 := Scalar.subi v251 c1_i32_131
  let v267 : BitVec 32 := Scalar.select v265 v266 v251
  let v268 : BitVec 32 := Scalar.muli c8_i32 v267
  let c2_i32_132 : BitVec 32 := 2#32
  let c0_i32_87 : BitVec 32 := 0#32
  let c4_i32_81 : BitVec 32 := 4#32
  let c0_i32_82 : BitVec 32 := 0#32
  let v190 : BitVec 1 := Scalar.cmpi .eq c4_i32_81 c0_i32_82
  let c1_i32_83 : BitVec 32 := 1#32
  let v191 : BitVec 32 := Scalar.select v190 c1_i32_83 c4_i32_81
  let v192 : BitVec 32 := Scalar.remsi arg2 v191
  let c0_i32_85 : BitVec 32 := 0#32
  let v194 : BitVec 1 := Scalar.cmpi .slt v192 c0_i32_85
  let c0_i32_86 : BitVec 32 := 0#32
  let v195 : BitVec 1 := Scalar.cmpi .slt v191 c0_i32_86
  let v196 : BitVec 1 := Scalar.xori v194 v195
  let c0_i32_84 : BitVec 32 := 0#32
  let v193 : BitVec 1 := Scalar.cmpi .ne v192 c0_i32_84
  let v197 : BitVec 1 := Scalar.andi v196 v193
  let v198 : BitVec 32 := Scalar.addi v192 v191
  let v199 : BitVec 32 := Scalar.select v197 v198 v192
  let v200 : BitVec 32 := Scalar.subi v199 c0_i32_87
  let c1_i32_88 : BitVec 32 := 1#32
  let v202 : BitVec 32 := Scalar.divsi v200 c1_i32_88
  let v203 : BitVec 32 := Scalar.muli v202 c1_i32_88
  let v204 : BitVec 32 := Scalar.addi c0_i32_87 v203
  let c1_i32_90 : BitVec 32 := 1#32
  let arg14 : BitVec 32 := Scf.iv v204 c1_i32_90 k0_t4
  let v269 : BitVec 32 := Scalar.muli c2_i32_132 arg14
  let v270 : BitVec 32 := Scalar.addi v268 v269
  let c1_i32_133 : BitVec 32 := 1#32
  let v271 : BitVec 32 := Scalar.addi v270 c1_i32_133
  let v272 : BitVec 32 := Scalar.addi v271 c1_i32_134
  let c1_i32_137 : BitVec 32 := 1#32
  let v275 : BitVec 32 := Scalar.addi v272 c1_i32_137
  let c512_i32_138 : BitVec 32 := 512#32
  let v276 : BitVec 32 := Scalar.muli v275 c512_i32_138
  let v277 : BitVec 32 := Scalar.subi v274 v276
  let v278 : BitVec 32 := v277
  let v281 : Index := Scalar.indexCast v278
  let c0_143 : Index := 0#32
  ![0, v281.toNat, 0]
def k0_mult41 (i : grid0.Coords) (k0_t4 : Fin (k0_t4_loop i).trips) : BitVec 32 :=
  let arg2 : BitVec 32 := BitVec.ofNat 32 (i 2).val
  let c1_i32_178 : BitVec 32 := 1#32
  let v356 : BitVec 32 := Scalar.addi arg2 c1_i32_178
  let c1024_i32_179 : BitVec 32 := 1024#32
  let v357 : BitVec 32 := Scalar.muli v356 c1024_i32_179
  let c8_i32 : BitVec 32 := 8#32
  let c0_i32_126 : BitVec 32 := 0#32
  let v252 : BitVec 1 := Scalar.cmpi .sgt arg2 c0_i32_126
  let v253 : BitVec 32 := Scalar.extui v252
  let c0_i32_127 : BitVec 32 := 0#32
  let v254 : BitVec 1 := Scalar.cmpi .slt arg2 c0_i32_127
  let v255 : BitVec 32 := Scalar.extui v254
  let v256 : BitVec 32 := Scalar.subi v253 v255
  let c4_i32_125 : BitVec 32 := 4#32
  let c0_i32_128 : BitVec 32 := 0#32
  let v257 : BitVec 1 := Scalar.cmpi .sgt c4_i32_125 c0_i32_128
  let v258 : BitVec 32 := Scalar.extui v257
  let c0_i32_129 : BitVec 32 := 0#32
  let v259 : BitVec 1 := Scalar.cmpi .slt c4_i32_125 c0_i32_129
  let v260 : BitVec 32 := Scalar.extui v259
  let v261 : BitVec 32 := Scalar.subi v258 v260
  let v262 : BitVec 1 := Scalar.cmpi .ne v256 v261
  let v263 : BitVec 32 := Scalar.remsi arg2 c4_i32_125
  let c0_i32_130 : BitVec 32 := 0#32
  let v264 : BitVec 1 := Scalar.cmpi .ne v263 c0_i32_130
  let v265 : BitVec 1 := Scalar.andi v262 v264
  let v251 : BitVec 32 := Scalar.divsi arg2 c4_i32_125
  let c1_i32_131 : BitVec 32 := 1#32
  let v266 : BitVec 32 := Scalar.subi v251 c1_i32_131
  let v267 : BitVec 32 := Scalar.select v265 v266 v251
  let v268 : BitVec 32 := Scalar.muli c8_i32 v267
  let c2_i32_132 : BitVec 32 := 2#32
  let c0_i32_87 : BitVec 32 := 0#32
  let c4_i32_81 : BitVec 32 := 4#32
  let c0_i32_82 : BitVec 32 := 0#32
  let v190 : BitVec 1 := Scalar.cmpi .eq c4_i32_81 c0_i32_82
  let c1_i32_83 : BitVec 32 := 1#32
  let v191 : BitVec 32 := Scalar.select v190 c1_i32_83 c4_i32_81
  let v192 : BitVec 32 := Scalar.remsi arg2 v191
  let c0_i32_85 : BitVec 32 := 0#32
  let v194 : BitVec 1 := Scalar.cmpi .slt v192 c0_i32_85
  let c0_i32_86 : BitVec 32 := 0#32
  let v195 : BitVec 1 := Scalar.cmpi .slt v191 c0_i32_86
  let v196 : BitVec 1 := Scalar.xori v194 v195
  let c0_i32_84 : BitVec 32 := 0#32
  let v193 : BitVec 1 := Scalar.cmpi .ne v192 c0_i32_84
  let v197 : BitVec 1 := Scalar.andi v196 v193
  let v198 : BitVec 32 := Scalar.addi v192 v191
  let v199 : BitVec 32 := Scalar.select v197 v198 v192
  let v200 : BitVec 32 := Scalar.subi v199 c0_i32_87
  let c1_i32_88 : BitVec 32 := 1#32
  let v202 : BitVec 32 := Scalar.divsi v200 c1_i32_88
  let v203 : BitVec 32 := Scalar.muli v202 c1_i32_88
  let v204 : BitVec 32 := Scalar.addi c0_i32_87 v203
  let c1_i32_90 : BitVec 32 := 1#32
  let arg14 : BitVec 32 := Scf.iv v204 c1_i32_90 k0_t4
  let v269 : BitVec 32 := Scalar.muli c2_i32_132 arg14
  let v270 : BitVec 32 := Scalar.addi v268 v269
  let c1_i32_133 : BitVec 32 := 1#32
  let v271 : BitVec 32 := Scalar.addi v270 c1_i32_133
  let c1_i32_180 : BitVec 32 := 1#32
  let v358 : BitVec 32 := Scalar.addi v271 c1_i32_180
  let c512_i32_181 : BitVec 32 := 512#32
  let v359 : BitVec 32 := Scalar.muli v358 c512_i32_181
  let v360 : BitVec 32 := Scalar.subi v357 v359
  v360
def k0_off9 (i : grid0.Coords) (k0_t4 : Fin (k0_t4_loop i).trips) : Fin 3 → Nat :=
  let c0_182 : Index := 0#32
  let arg2 : BitVec 32 := BitVec.ofNat 32 (i 2).val
  let c1_i32_178 : BitVec 32 := 1#32
  let v356 : BitVec 32 := Scalar.addi arg2 c1_i32_178
  let c1024_i32_179 : BitVec 32 := 1024#32
  let v357 : BitVec 32 := Scalar.muli v356 c1024_i32_179
  let c8_i32 : BitVec 32 := 8#32
  let c0_i32_126 : BitVec 32 := 0#32
  let v252 : BitVec 1 := Scalar.cmpi .sgt arg2 c0_i32_126
  let v253 : BitVec 32 := Scalar.extui v252
  let c0_i32_127 : BitVec 32 := 0#32
  let v254 : BitVec 1 := Scalar.cmpi .slt arg2 c0_i32_127
  let v255 : BitVec 32 := Scalar.extui v254
  let v256 : BitVec 32 := Scalar.subi v253 v255
  let c4_i32_125 : BitVec 32 := 4#32
  let c0_i32_128 : BitVec 32 := 0#32
  let v257 : BitVec 1 := Scalar.cmpi .sgt c4_i32_125 c0_i32_128
  let v258 : BitVec 32 := Scalar.extui v257
  let c0_i32_129 : BitVec 32 := 0#32
  let v259 : BitVec 1 := Scalar.cmpi .slt c4_i32_125 c0_i32_129
  let v260 : BitVec 32 := Scalar.extui v259
  let v261 : BitVec 32 := Scalar.subi v258 v260
  let v262 : BitVec 1 := Scalar.cmpi .ne v256 v261
  let v263 : BitVec 32 := Scalar.remsi arg2 c4_i32_125
  let c0_i32_130 : BitVec 32 := 0#32
  let v264 : BitVec 1 := Scalar.cmpi .ne v263 c0_i32_130
  let v265 : BitVec 1 := Scalar.andi v262 v264
  let v251 : BitVec 32 := Scalar.divsi arg2 c4_i32_125
  let c1_i32_131 : BitVec 32 := 1#32
  let v266 : BitVec 32 := Scalar.subi v251 c1_i32_131
  let v267 : BitVec 32 := Scalar.select v265 v266 v251
  let v268 : BitVec 32 := Scalar.muli c8_i32 v267
  let c2_i32_132 : BitVec 32 := 2#32
  let c0_i32_87 : BitVec 32 := 0#32
  let c4_i32_81 : BitVec 32 := 4#32
  let c0_i32_82 : BitVec 32 := 0#32
  let v190 : BitVec 1 := Scalar.cmpi .eq c4_i32_81 c0_i32_82
  let c1_i32_83 : BitVec 32 := 1#32
  let v191 : BitVec 32 := Scalar.select v190 c1_i32_83 c4_i32_81
  let v192 : BitVec 32 := Scalar.remsi arg2 v191
  let c0_i32_85 : BitVec 32 := 0#32
  let v194 : BitVec 1 := Scalar.cmpi .slt v192 c0_i32_85
  let c0_i32_86 : BitVec 32 := 0#32
  let v195 : BitVec 1 := Scalar.cmpi .slt v191 c0_i32_86
  let v196 : BitVec 1 := Scalar.xori v194 v195
  let c0_i32_84 : BitVec 32 := 0#32
  let v193 : BitVec 1 := Scalar.cmpi .ne v192 c0_i32_84
  let v197 : BitVec 1 := Scalar.andi v196 v193
  let v198 : BitVec 32 := Scalar.addi v192 v191
  let v199 : BitVec 32 := Scalar.select v197 v198 v192
  let v200 : BitVec 32 := Scalar.subi v199 c0_i32_87
  let c1_i32_88 : BitVec 32 := 1#32
  let v202 : BitVec 32 := Scalar.divsi v200 c1_i32_88
  let v203 : BitVec 32 := Scalar.muli v202 c1_i32_88
  let v204 : BitVec 32 := Scalar.addi c0_i32_87 v203
  let c1_i32_90 : BitVec 32 := 1#32
  let arg14 : BitVec 32 := Scf.iv v204 c1_i32_90 k0_t4
  let v269 : BitVec 32 := Scalar.muli c2_i32_132 arg14
  let v270 : BitVec 32 := Scalar.addi v268 v269
  let c1_i32_133 : BitVec 32 := 1#32
  let v271 : BitVec 32 := Scalar.addi v270 c1_i32_133
  let c1_i32_180 : BitVec 32 := 1#32
  let v358 : BitVec 32 := Scalar.addi v271 c1_i32_180
  let c512_i32_181 : BitVec 32 := 512#32
  let v359 : BitVec 32 := Scalar.muli v358 c512_i32_181
  let v360 : BitVec 32 := Scalar.subi v357 v359
  let v361 : BitVec 32 := v360
  let v362 : Index := Scalar.indexCast v361
  let c0_183 : Index := 0#32
  ![0, v362.toNat, 0]
def k0_mult42 (i : grid0.Coords) (k0_t4 : Fin (k0_t4_loop i).trips) : BitVec 32 :=
  let arg2 : BitVec 32 := BitVec.ofNat 32 (i 2).val
  let c1_i32_188 : BitVec 32 := 1#32
  let v371 : BitVec 32 := Scalar.addi arg2 c1_i32_188
  let c1024_i32_189 : BitVec 32 := 1024#32
  let v372 : BitVec 32 := Scalar.muli v371 c1024_i32_189
  let c8_i32 : BitVec 32 := 8#32
  let c0_i32_126 : BitVec 32 := 0#32
  let v252 : BitVec 1 := Scalar.cmpi .sgt arg2 c0_i32_126
  let v253 : BitVec 32 := Scalar.extui v252
  let c0_i32_127 : BitVec 32 := 0#32
  let v254 : BitVec 1 := Scalar.cmpi .slt arg2 c0_i32_127
  let v255 : BitVec 32 := Scalar.extui v254
  let v256 : BitVec 32 := Scalar.subi v253 v255
  let c4_i32_125 : BitVec 32 := 4#32
  let c0_i32_128 : BitVec 32 := 0#32
  let v257 : BitVec 1 := Scalar.cmpi .sgt c4_i32_125 c0_i32_128
  let v258 : BitVec 32 := Scalar.extui v257
  let c0_i32_129 : BitVec 32 := 0#32
  let v259 : BitVec 1 := Scalar.cmpi .slt c4_i32_125 c0_i32_129
  let v260 : BitVec 32 := Scalar.extui v259
  let v261 : BitVec 32 := Scalar.subi v258 v260
  let v262 : BitVec 1 := Scalar.cmpi .ne v256 v261
  let v263 : BitVec 32 := Scalar.remsi arg2 c4_i32_125
  let c0_i32_130 : BitVec 32 := 0#32
  let v264 : BitVec 1 := Scalar.cmpi .ne v263 c0_i32_130
  let v265 : BitVec 1 := Scalar.andi v262 v264
  let v251 : BitVec 32 := Scalar.divsi arg2 c4_i32_125
  let c1_i32_131 : BitVec 32 := 1#32
  let v266 : BitVec 32 := Scalar.subi v251 c1_i32_131
  let v267 : BitVec 32 := Scalar.select v265 v266 v251
  let v268 : BitVec 32 := Scalar.muli c8_i32 v267
  let c2_i32_132 : BitVec 32 := 2#32
  let c0_i32_87 : BitVec 32 := 0#32
  let c4_i32_81 : BitVec 32 := 4#32
  let c0_i32_82 : BitVec 32 := 0#32
  let v190 : BitVec 1 := Scalar.cmpi .eq c4_i32_81 c0_i32_82
  let c1_i32_83 : BitVec 32 := 1#32
  let v191 : BitVec 32 := Scalar.select v190 c1_i32_83 c4_i32_81
  let v192 : BitVec 32 := Scalar.remsi arg2 v191
  let c0_i32_85 : BitVec 32 := 0#32
  let v194 : BitVec 1 := Scalar.cmpi .slt v192 c0_i32_85
  let c0_i32_86 : BitVec 32 := 0#32
  let v195 : BitVec 1 := Scalar.cmpi .slt v191 c0_i32_86
  let v196 : BitVec 1 := Scalar.xori v194 v195
  let c0_i32_84 : BitVec 32 := 0#32
  let v193 : BitVec 1 := Scalar.cmpi .ne v192 c0_i32_84
  let v197 : BitVec 1 := Scalar.andi v196 v193
  let v198 : BitVec 32 := Scalar.addi v192 v191
  let v199 : BitVec 32 := Scalar.select v197 v198 v192
  let v200 : BitVec 32 := Scalar.subi v199 c0_i32_87
  let c1_i32_88 : BitVec 32 := 1#32
  let v202 : BitVec 32 := Scalar.divsi v200 c1_i32_88
  let v203 : BitVec 32 := Scalar.muli v202 c1_i32_88
  let v204 : BitVec 32 := Scalar.addi c0_i32_87 v203
  let c1_i32_90 : BitVec 32 := 1#32
  let arg14 : BitVec 32 := Scf.iv v204 c1_i32_90 k0_t4
  let v269 : BitVec 32 := Scalar.muli c2_i32_132 arg14
  let v270 : BitVec 32 := Scalar.addi v268 v269
  let c1_i32_133 : BitVec 32 := 1#32
  let v271 : BitVec 32 := Scalar.addi v270 c1_i32_133
  let c2_i32_187 : BitVec 32 := 2#32
  let v370 : BitVec 32 := Scalar.addi v271 c2_i32_187
  let c1_i32_190 : BitVec 32 := 1#32
  let v373 : BitVec 32 := Scalar.addi v370 c1_i32_190
  let c512_i32_191 : BitVec 32 := 512#32
  let v374 : BitVec 32 := Scalar.muli v373 c512_i32_191
  let v375 : BitVec 32 := Scalar.subi v372 v374
  v375
def k0_mult43 (i : grid0.Coords) (k0_t4 : Fin (k0_t4_loop i).trips) : BitVec 32 :=
  let arg2 : BitVec 32 := BitVec.ofNat 32 (i 2).val
  let c1_i32_232 : BitVec 32 := 1#32
  let v455 : BitVec 32 := Scalar.addi arg2 c1_i32_232
  let c1024_i32_233 : BitVec 32 := 1024#32
  let v456 : BitVec 32 := Scalar.muli v455 c1024_i32_233
  let c8_i32 : BitVec 32 := 8#32
  let c0_i32_126 : BitVec 32 := 0#32
  let v252 : BitVec 1 := Scalar.cmpi .sgt arg2 c0_i32_126
  let v253 : BitVec 32 := Scalar.extui v252
  let c0_i32_127 : BitVec 32 := 0#32
  let v254 : BitVec 1 := Scalar.cmpi .slt arg2 c0_i32_127
  let v255 : BitVec 32 := Scalar.extui v254
  let v256 : BitVec 32 := Scalar.subi v253 v255
  let c4_i32_125 : BitVec 32 := 4#32
  let c0_i32_128 : BitVec 32 := 0#32
  let v257 : BitVec 1 := Scalar.cmpi .sgt c4_i32_125 c0_i32_128
  let v258 : BitVec 32 := Scalar.extui v257
  let c0_i32_129 : BitVec 32 := 0#32
  let v259 : BitVec 1 := Scalar.cmpi .slt c4_i32_125 c0_i32_129
  let v260 : BitVec 32 := Scalar.extui v259
  let v261 : BitVec 32 := Scalar.subi v258 v260
  let v262 : BitVec 1 := Scalar.cmpi .ne v256 v261
  let v263 : BitVec 32 := Scalar.remsi arg2 c4_i32_125
  let c0_i32_130 : BitVec 32 := 0#32
  let v264 : BitVec 1 := Scalar.cmpi .ne v263 c0_i32_130
  let v265 : BitVec 1 := Scalar.andi v262 v264
  let v251 : BitVec 32 := Scalar.divsi arg2 c4_i32_125
  let c1_i32_131 : BitVec 32 := 1#32
  let v266 : BitVec 32 := Scalar.subi v251 c1_i32_131
  let v267 : BitVec 32 := Scalar.select v265 v266 v251
  let v268 : BitVec 32 := Scalar.muli c8_i32 v267
  let c2_i32_132 : BitVec 32 := 2#32
  let c0_i32_87 : BitVec 32 := 0#32
  let c4_i32_81 : BitVec 32 := 4#32
  let c0_i32_82 : BitVec 32 := 0#32
  let v190 : BitVec 1 := Scalar.cmpi .eq c4_i32_81 c0_i32_82
  let c1_i32_83 : BitVec 32 := 1#32
  let v191 : BitVec 32 := Scalar.select v190 c1_i32_83 c4_i32_81
  let v192 : BitVec 32 := Scalar.remsi arg2 v191
  let c0_i32_85 : BitVec 32 := 0#32
  let v194 : BitVec 1 := Scalar.cmpi .slt v192 c0_i32_85
  let c0_i32_86 : BitVec 32 := 0#32
  let v195 : BitVec 1 := Scalar.cmpi .slt v191 c0_i32_86
  let v196 : BitVec 1 := Scalar.xori v194 v195
  let c0_i32_84 : BitVec 32 := 0#32
  let v193 : BitVec 1 := Scalar.cmpi .ne v192 c0_i32_84
  let v197 : BitVec 1 := Scalar.andi v196 v193
  let v198 : BitVec 32 := Scalar.addi v192 v191
  let v199 : BitVec 32 := Scalar.select v197 v198 v192
  let v200 : BitVec 32 := Scalar.subi v199 c0_i32_87
  let c1_i32_88 : BitVec 32 := 1#32
  let v202 : BitVec 32 := Scalar.divsi v200 c1_i32_88
  let v203 : BitVec 32 := Scalar.muli v202 c1_i32_88
  let v204 : BitVec 32 := Scalar.addi c0_i32_87 v203
  let c1_i32_90 : BitVec 32 := 1#32
  let arg14 : BitVec 32 := Scf.iv v204 c1_i32_90 k0_t4
  let v269 : BitVec 32 := Scalar.muli c2_i32_132 arg14
  let v270 : BitVec 32 := Scalar.addi v268 v269
  let c1_i32_133 : BitVec 32 := 1#32
  let v271 : BitVec 32 := Scalar.addi v270 c1_i32_133
  let c1_i32_215 : BitVec 32 := 1#32
  let v436 : BitVec 32 := Scalar.addi v271 c1_i32_215
  let c1_i32_234 : BitVec 32 := 1#32
  let v457 : BitVec 32 := Scalar.addi v436 c1_i32_234
  let c512_i32_235 : BitVec 32 := 512#32
  let v458 : BitVec 32 := Scalar.muli v457 c512_i32_235
  let v459 : BitVec 32 := Scalar.subi v456 v458
  v459
def k0_mult44 (i : grid0.Coords) : BitVec 32 :=
  let arg2 : BitVec 32 := BitVec.ofNat 32 (i 2).val
  let c1_i32_108 : BitVec 32 := 1#32
  let v227 : BitVec 32 := Scalar.addi arg2 c1_i32_108
  let c1024_i32_109 : BitVec 32 := 1024#32
  let v228 : BitVec 32 := Scalar.muli v227 c1024_i32_109
  let c2_i32 : BitVec 32 := 2#32
  let v207 : BitVec 32 := Scalar.muli c2_i32 arg2
  let c1_i32_91 : BitVec 32 := 1#32
  let v208 : BitVec 32 := Scalar.addi v207 c1_i32_91
  let c1_i32_110 : BitVec 32 := 1#32
  let v229 : BitVec 32 := Scalar.addi v208 c1_i32_110
  let c512_i32_111 : BitVec 32 := 512#32
  let v230 : BitVec 32 := Scalar.muli v229 c512_i32_111
  let v231 : BitVec 32 := Scalar.subi v228 v230
  v231
def k0_off10 (i : grid0.Coords) : Fin 3 → Nat :=
  let c0_112 : Index := 0#32
  let arg2 : BitVec 32 := BitVec.ofNat 32 (i 2).val
  let c1_i32_108 : BitVec 32 := 1#32
  let v227 : BitVec 32 := Scalar.addi arg2 c1_i32_108
  let c1024_i32_109 : BitVec 32 := 1024#32
  let v228 : BitVec 32 := Scalar.muli v227 c1024_i32_109
  let c2_i32 : BitVec 32 := 2#32
  let v207 : BitVec 32 := Scalar.muli c2_i32 arg2
  let c1_i32_91 : BitVec 32 := 1#32
  let v208 : BitVec 32 := Scalar.addi v207 c1_i32_91
  let c1_i32_110 : BitVec 32 := 1#32
  let v229 : BitVec 32 := Scalar.addi v208 c1_i32_110
  let c512_i32_111 : BitVec 32 := 512#32
  let v230 : BitVec 32 := Scalar.muli v229 c512_i32_111
  let v231 : BitVec 32 := Scalar.subi v228 v230
  let v232 : BitVec 32 := v231
  let v233 : Index := Scalar.indexCast v232
  let c0_113 : Index := 0#32
  ![0, v233.toNat, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 1 → Memref sig .tc .vmem S1x16384x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true, false]

abbrev stage0_2 : Fin 1 → Memref sig .tc .vmem S1x16384x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]

abbrev stage0_3 : Fin 2 → Memref sig .tc .vmem S1x1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 1 → Memref sig .tc .vmem S256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S1x1024x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== KernelIdeal.lean ====
variable {F : FTy → Type} [FloatOps F] [Named F]
def κ : String → Option EReal := fun
  | "cap" => some ⊤
  | "log2e" => some (((Real.log 2)⁻¹ : ℝ) : EReal)
  | "mask" => some ⊥
  | _ => none
-- ==== ReferenceIdeal.lean ====
abbrev S2x16384x2048 : Shape := ⟨3, ![2, 16384, 2048]⟩
abbrev S2x16384x8x256 : Shape := ⟨4, ![2, 16384, 8, 256]⟩
abbrev S2x8x16384x256 : Shape := ⟨4, ![2, 8, 16384, 256]⟩
abbrev S2x8x16384x16384 : Shape := ⟨4, ![2, 8, 16384, 16384]⟩
abbrev S_ : Shape := ⟨0, ![]⟩
abbrev S16384 : Shape := ⟨1, ![16384]⟩
abbrev S1x16384 : Shape := ⟨2, ![1, 16384]⟩
abbrev S16384x1 : Shape := ⟨2, ![16384, 1]⟩
abbrev S16384x16384 : Shape := ⟨2, ![16384, 16384]⟩

abbrev nBuf : Space → Nat
  | .hbm => 70
  | .vmem => 0
  | .smem => 0
  | _ => 0

abbrev bufTy : (tb : Table) → Fin (tcTables nBuf tb) → BufTy
  | .hbm, ⟨0, _⟩ => ⟨S2x16384x2048, .bf16⟩
  | .hbm, ⟨1, _⟩ => ⟨S2x16384x2048, .bf16⟩
  | .hbm, ⟨2, _⟩ => ⟨S2x16384x2048, .bf16⟩
  | .hbm, ⟨3, _⟩ => ⟨S2x16384x2048, .f32⟩
  | .hbm, ⟨4, _⟩ => ⟨S2x16384x2048, .f32⟩
  | .hbm, ⟨5, _⟩ => ⟨S2x16384x8x256, .f32⟩
  | .hbm, ⟨6, _⟩ => ⟨S2x8x16384x256, .f32⟩
  | .hbm, ⟨7, _⟩ => ⟨S2x16384x2048, .f32⟩
  | .hbm, ⟨8, _⟩ => ⟨S2x16384x8x256, .f32⟩
  | .hbm, ⟨9, _⟩ => ⟨S2x8x16384x256, .f32⟩
  | .hbm, ⟨10, _⟩ => ⟨S2x16384x2048, .f32⟩
  | .hbm, ⟨11, _⟩ => ⟨S2x16384x8x256, .f32⟩
  | .hbm, ⟨12, _⟩ => ⟨S2x8x16384x256, .f32⟩
  | .hbm, ⟨13, _⟩ => ⟨S2x8x16384x16384, .f32⟩
  | .hbm, ⟨14, _⟩ => ⟨S_, .f32⟩
  | .hbm, ⟨15, _⟩ => ⟨S_, .f32⟩
  | .hbm, ⟨16, _⟩ => ⟨S2x8x16384x16384, .f32⟩
  | .hbm, ⟨17, _⟩ => ⟨S2x8x16384x16384, .f32⟩
  | .hbm, ⟨18, _⟩ => ⟨S16384, .i32⟩
  | .hbm, ⟨19, _⟩ => ⟨S1x16384, .i32⟩
  | .hbm, ⟨20, _⟩ => ⟨S16384x1, .i32⟩
  | .hbm, ⟨21, _⟩ => ⟨S16384x16384, .i32⟩
  | .hbm, ⟨22, _⟩ => ⟨S16384x16384, .i32⟩
  | .hbm, ⟨23, _⟩ => ⟨S16384x16384, .i1⟩
  | .hbm, ⟨24, _⟩ => ⟨S2x8x16384x16384, .f32⟩
  | .hbm, ⟨25, _⟩ => ⟨S2x8x16384x16384, .f32⟩
  | .hbm, ⟨26, _⟩ => ⟨S_, .f32⟩
  | .hbm, ⟨27, _⟩ => ⟨S2x8x16384x16384, .f32⟩
  | .hbm, ⟨28, _⟩ => ⟨S2x8x16384x16384, .f32⟩
  | .hbm, ⟨29, _⟩ => ⟨S2x8x16384x16384, .f32⟩
  | .hbm, ⟨30, _⟩ => ⟨S2x8x16384x16384, .f32⟩
  | .hbm, ⟨31, _⟩ => ⟨S2x8x16384x16384, .i1⟩
  | .hbm, ⟨32, _⟩ => ⟨S2x8x16384x16384, .f32⟩
  | .hbm, ⟨33, _⟩ => ⟨S2x8x16384x16384, .f32⟩
  | .hbm, ⟨34, _⟩ => ⟨S2x8x16384x16384, .f32⟩
  | .hbm, ⟨35, _⟩ => ⟨S2x8x16384x16384, .f32⟩
  | .hbm, ⟨36, _⟩ => ⟨S2x8x16384x16384, .f32⟩
  | .hbm, ⟨37, _⟩ => ⟨S2x8x16384x16384, .f32⟩
  | .hbm, ⟨38, _⟩ => ⟨S2x8x16384x16384, .f32⟩
  | .hbm, ⟨39, _⟩ => ⟨S2x8x16384x16384, .f32⟩
  | .hbm, ⟨40, _⟩ => ⟨S2x8x16384x16384, .f32⟩
  | .hbm, ⟨41, _⟩ => ⟨S_, .f32⟩
  | .hbm, ⟨42, _⟩ => ⟨S_, .f32⟩
  | .hbm, ⟨43, _⟩ => ⟨S2x8x16384x16384, .i1⟩
  | .hbm, ⟨44, _⟩ => ⟨S2x8x16384x16384, .f32⟩
  | .hbm, ⟨45, _⟩ => ⟨S2x8x16384x16384, .f32⟩
  | .hbm, ⟨46, _⟩ => ⟨S_, .f32⟩
  | .hbm, ⟨47, _⟩ => ⟨S_, .f32⟩
  | .hbm, ⟨48, _⟩ => ⟨S2x8x16384x16384, .f32⟩
  | .hbm, ⟨49, _⟩ => ⟨S2x8x16384x16384, .f32⟩
  | .hbm, ⟨50, _⟩ => ⟨S2x8x16384x16384, .f32⟩
  | .hbm, ⟨51, _⟩ => ⟨S_, .f32⟩
  | .hbm, ⟨52, _⟩ => ⟨S_, .f32⟩
  | .hbm, ⟨53, _⟩ => ⟨S2x8x16384x16384, .i1⟩
  | .hbm, ⟨54, _⟩ => ⟨S2x8x16384x16384, .f32⟩
  | .hbm, ⟨55, _⟩ => ⟨S2x8x16384x16384, .f32⟩
  | .hbm, ⟨56, _⟩ => ⟨S2x8x16384x256, .f32⟩
  | .hbm, ⟨57, _⟩ => ⟨S2x16384x8x256, .f32⟩
  | .hbm, ⟨58, _⟩ => ⟨S2x16384x2048, .f32⟩
  | .hbm, ⟨59, _⟩ => ⟨S2x16384x2048, .f32⟩
  | .hbm, ⟨60, _⟩ => ⟨S2x16384x2048, .f32⟩
  | .hbm, ⟨61, _⟩ => ⟨S_, .f32⟩
  | .hbm, ⟨62, _⟩ => ⟨S2x16384x2048, .f32⟩
  | .hbm, ⟨63, _⟩ => ⟨S2x16384x2048, .f32⟩
  | .hbm, ⟨64, _⟩ => ⟨S_, .f32⟩
  | .hbm, ⟨65, _⟩ => ⟨S2x16384x2048, .f32⟩
  | .hbm, ⟨66, _⟩ => ⟨S2x16384x2048, .f32⟩
  | .hbm, ⟨67, _⟩ => ⟨S2x16384x2048, .f32⟩
  | .hbm, ⟨68, _⟩ => ⟨S2x16384x2048, .f32⟩
  | .hbm, ⟨69, _⟩ => ⟨S2x16384x2048, .bf16⟩
  | _, _ => ⟨S2x16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_call0_v0 : Ref sig .tc := ⟨.hbm, 25, rfl⟩
abbrev main_call0_call0_cst : Ref sig .tc := ⟨.hbm, 26, rfl⟩
abbrev main_call0_call0_v0 : Ref sig .tc := ⟨.hbm, 27, rfl⟩
abbrev main_call0_call0_v1 : Ref sig .tc := ⟨.hbm, 28, rfl⟩
abbrev main_call0_call0_v2 : Ref sig .tc := ⟨.hbm, 29, rfl⟩
abbrev main_call0_call0_v3 : Ref sig .tc := ⟨.hbm, 30, rfl⟩
abbrev main_call0_call0_v4 : Ref sig .tc := ⟨.hbm, 31, rfl⟩
abbrev main_call0_call0_v5 : Ref sig .tc := ⟨.hbm, 32, rfl⟩
abbrev main_call0_call0_v6 : Ref sig .tc := ⟨.hbm, 33, rfl⟩
abbrev main_call0_call0_v7 : Ref sig .tc := ⟨.hbm, 34, rfl⟩
abbrev main_call0_call0_v8 : Ref sig .tc := ⟨.hbm, 35, rfl⟩
abbrev main_call0_call0_v9 : Ref sig .tc := ⟨.hbm, 36, rfl⟩
abbrev main_call0_call0_v10 : Ref sig .tc := ⟨.hbm, 37, rfl⟩
abbrev main_call0_call0_v11 : Ref sig .tc := ⟨.hbm, 38, rfl⟩
abbrev main_call0_v1 : Ref sig .tc := ⟨.hbm, 39, rfl⟩
abbrev main_v20 : Ref sig .tc := ⟨.hbm, 40, rfl⟩
abbrev main_cst_0 : Ref sig .tc := ⟨.hbm, 41, rfl⟩
abbrev main_call1_v0 : Ref sig .tc := ⟨.hbm, 42, rfl⟩
abbrev main_call1_v1 : Ref sig .tc := ⟨.hbm, 43, rfl⟩
abbrev main_call1_v2 : Ref sig .tc := ⟨.hbm, 44, rfl⟩
abbrev main_v21 : Ref sig .tc := ⟨.hbm, 45, rfl⟩
abbrev main_call2_cst : Ref sig .tc := ⟨.hbm, 46, rfl⟩
abbrev main_call2_v0 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_cst_1 : Ref sig .tc := ⟨.hbm, 51, rfl⟩
abbrev main_call3_v0 : Ref sig .tc := ⟨.hbm, 52, rfl⟩
abbrev main_call3_v1 : Ref sig .tc := ⟨.hbm, 53, rfl⟩
abbrev main_call3_v2 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_call4_v0 : Ref sig .tc := ⟨.hbm, 59, rfl⟩
abbrev main_call4_v1 : Ref sig .tc := ⟨.hbm, 60, rfl⟩
abbrev main_call4_cst : Ref sig .tc := ⟨.hbm, 61, rfl⟩
abbrev main_call4_v2 : Ref sig .tc := ⟨.hbm, 62, rfl⟩
abbrev main_call4_v3 : Ref sig .tc := ⟨.hbm, 63, rfl⟩
abbrev main_call4_cst_0 : Ref sig .tc := ⟨.hbm, 64, rfl⟩
abbrev main_call4_v4 : Ref sig .tc := ⟨.hbm, 65, rfl⟩
abbrev main_call4_v5 : Ref sig .tc := ⟨.hbm, 66, rfl⟩
abbrev main_v29 : Ref sig .tc := ⟨.hbm, 67, rfl⟩
abbrev main_v30 : Ref sig .tc := ⟨.hbm, 68, rfl⟩
abbrev main_v31 : Ref sig .tc := ⟨.hbm, 69, rfl⟩

abbrev nD : Nat := 1
abbrev τ : Topo := Topo.v7x

variable {F : FTy → Type} [FloatOps F]
-- ==== Kernel2.lean ====
abbrev S2x16384x2048 : Shape := ⟨3, ![2, 16384, 2048]⟩
abbrev S2048x2048 : Shape := ⟨2, ![2048, 2048]⟩
abbrev S2048 : Shape := ⟨1, ![2048]⟩
abbrev S32768x2048 : Shape := ⟨2, ![32768, 2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 9
  | .vmem => 8
  | .smem => 0
  | _ => 0

abbrev bufTy : (tb : Table) → Fin (tcTables nBuf tb) → BufTy
  | .hbm, ⟨0, _⟩ => ⟨S2x16384x2048, .f32⟩
  | .hbm, ⟨1, _⟩ => ⟨S2x16384x2048, .bf16⟩
  | .hbm, ⟨2, _⟩ => ⟨S2048x2048, .f32⟩
  | .hbm, ⟨3, _⟩ => ⟨S2048, .f32⟩
  | .hbm, ⟨4, _⟩ => ⟨S32768x2048, .f32⟩
  | .hbm, ⟨5, _⟩ => ⟨S32768x2048, .bf16⟩
  | .hbm, ⟨6, _⟩ => ⟨S2048x2048, .bf16⟩
  | .hbm, ⟨7, _⟩ => ⟨S1x2048, .f32⟩
  | .hbm, ⟨8, _⟩ => ⟨S32768x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .bf16⟩
  | .local _ .vmem, ⟨3, _⟩ => ⟨S512x2048, .bf16⟩
  | .local _ .vmem, ⟨4, _⟩ => ⟨S2048x2048, .bf16⟩
  | .local _ .vmem, ⟨5, _⟩ => ⟨S1x2048, .f32⟩
  | .local _ .vmem, ⟨6, _⟩ => ⟨S512x2048, .f32⟩
  | .local _ .vmem, ⟨7, _⟩ => ⟨S512x2048, .f32⟩
  | _, _ => ⟨S2x16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference2Ideal.lean ====
abbrev S2x16384x2048 : Shape := ⟨3, ![2, 16384, 2048]⟩
abbrev S2048x2048 : Shape := ⟨2, ![2048, 2048]⟩
abbrev S2048 : Shape := ⟨1, ![2048]⟩
abbrev S_ : Shape := ⟨0, ![]⟩
abbrev S2x16384 : Shape := ⟨2, ![2, 16384]⟩
abbrev S2x16384x1 : Shape := ⟨3, ![2, 16384, 1]⟩
abbrev S1x1x2048 : Shape := ⟨3, ![1, 1, 2048]⟩
abbrev S32768x2048 : Shape := ⟨2, ![32768, 2048]⟩

abbrev nBuf : Space → Nat
  | .hbm => 24
  | .vmem => 0
  | .smem => 0
  | _ => 0

abbrev bufTy : (tb : Table) → Fin (tcTables nBuf tb) → BufTy
  | .hbm, ⟨0, _⟩ => ⟨S2x16384x2048, .f32⟩
  | .hbm, ⟨1, _⟩ => ⟨S2x16384x2048, .bf16⟩
  | .hbm, ⟨2, _⟩ => ⟨S2048x2048, .f32⟩
  | .hbm, ⟨3, _⟩ => ⟨S2048, .f32⟩
  | .hbm, ⟨4, _⟩ => ⟨S2x16384x2048, .f32⟩
  | .hbm, ⟨5, _⟩ => ⟨S2x16384x2048, .f32⟩
  | .hbm, ⟨6, _⟩ => ⟨S2x16384x2048, .f32⟩
  | .hbm, ⟨7, _⟩ => ⟨S2x16384x2048, .f32⟩
  | .hbm, ⟨8, _⟩ => ⟨S_, .f32⟩
  | .hbm, ⟨9, _⟩ => ⟨S2x16384, .f32⟩
  | .hbm, ⟨10, _⟩ => ⟨S2x16384x1, .f32⟩
  | .hbm, ⟨11, _⟩ => ⟨S_, .f32⟩
  | .hbm, ⟨12, _⟩ => ⟨S2x16384x1, .f32⟩
  | .hbm, ⟨13, _⟩ => ⟨S2x16384x1, .f32⟩
  | .hbm, ⟨14, _⟩ => ⟨S_, .f32⟩
  | .hbm, ⟨15, _⟩ => ⟨S2x16384x1, .f32⟩
  | .hbm, ⟨16, _⟩ => ⟨S2x16384x1, .f32⟩
  | .hbm, ⟨17, _⟩ => ⟨S2x16384x1, .f32⟩
  | .hbm, ⟨18, _⟩ => ⟨S2x16384x2048, .f32⟩
  | .hbm, ⟨19, _⟩ => ⟨S2x16384x2048, .f32⟩
  | .hbm, ⟨20, _⟩ => ⟨S1x1x2048, .f32⟩
  | .hbm, ⟨21, _⟩ => ⟨S2x16384x2048, .f32⟩
  | .hbm, ⟨22, _⟩ => ⟨S2x16384x2048, .f32⟩
  | .hbm, ⟨23, _⟩ => ⟨S32768x2048, .f32⟩
  | _, _ => ⟨S2x16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== Kernel3.lean ====
abbrev S2x16384x2048 : Shape := ⟨3, ![2, 16384, 2048]⟩
abbrev S2048x2048 : Shape := ⟨2, ![2048, 2048]⟩
abbrev S32768x2048 : Shape := ⟨2, ![32768, 2048]⟩
abbrev S512x2048 : Shape := ⟨2, ![512, 2048]⟩

abbrev nBuf : Space → Nat
  | .hbm => 7
  | .vmem => 7
  | .smem => 0
  | _ => 0

abbrev bufTy : (tb : Table) → Fin (tcTables nBuf tb) → BufTy
  | .hbm, ⟨0, _⟩ => ⟨S2x16384x2048, .f32⟩
  | .hbm, ⟨1, _⟩ => ⟨S2x16384x2048, .bf16⟩
  | .hbm, ⟨2, _⟩ => ⟨S2048x2048, .f32⟩
  | .hbm, ⟨3, _⟩ => ⟨S32768x2048, .f32⟩
  | .hbm, ⟨4, _⟩ => ⟨S32768x2048, .bf16⟩
  | .hbm, ⟨5, _⟩ => ⟨S2048x2048, .bf16⟩
  | .hbm, ⟨6, _⟩ => ⟨S32768x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .bf16⟩
  | .local _ .vmem, ⟨3, _⟩ => ⟨S512x2048, .bf16⟩
  | .local _ .vmem, ⟨4, _⟩ => ⟨S2048x2048, .bf16⟩
  | .local _ .vmem, ⟨5, _⟩ => ⟨S512x2048, .f32⟩
  | .local _ .vmem, ⟨6, _⟩ => ⟨S512x2048, .f32⟩
  | _, _ => ⟨S2x16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference3Ideal.lean ====
abbrev S2x16384x2048 : Shape := ⟨3, ![2, 16384, 2048]⟩
abbrev S2048x2048 : Shape := ⟨2, ![2048, 2048]⟩
abbrev S32768x2048 : Shape := ⟨2, ![32768, 2048]⟩

abbrev nBuf : Space → Nat
  | .hbm => 7
  | .vmem => 0
  | .smem => 0
  | _ => 0

abbrev bufTy : (tb : Table) → Fin (tcTables nBuf tb) → BufTy
  | .hbm, ⟨0, _⟩ => ⟨S2x16384x2048, .f32⟩
  | .hbm, ⟨1, _⟩ => ⟨S2x16384x2048, .bf16⟩
  | .hbm, ⟨2, _⟩ => ⟨S2048x2048, .f32⟩
  | .hbm, ⟨3, _⟩ => ⟨S2x16384x2048, .f32⟩
  | .hbm, ⟨4, _⟩ => ⟨S2x16384x2048, .f32⟩
  | .hbm, ⟨5, _⟩ => ⟨S2x16384x2048, .f32⟩
  | .hbm, ⟨6, _⟩ => ⟨S32768x2048, .f32⟩
  | _, _ => ⟨S2x16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel4.lean ====
abbrev S2x16384x2048 : Shape := ⟨3, ![2, 16384, 2048]⟩
abbrev S2048 : Shape := ⟨1, ![2048]⟩
abbrev S2048x4096 : Shape := ⟨2, ![2048, 4096]⟩
abbrev S32768x2048 : Shape := ⟨2, ![32768, 2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩
abbrev S2048x512 : Shape := ⟨2, ![2048, 512]⟩
abbrev S512x512 : Shape := ⟨2, ![512, 512]⟩

abbrev nBuf : Space → Nat
  | .hbm => 8
  | .vmem => 9
  | .smem => 0
  | _ => 0

abbrev bufTy : (tb : Table) → Fin (tcTables nBuf tb) → BufTy
  | .hbm, ⟨0, _⟩ => ⟨S2x16384x2048, .f32⟩
  | .hbm, ⟨1, _⟩ => ⟨S2048, .f32⟩
  | .hbm, ⟨2, _⟩ => ⟨S2048x4096, .f32⟩
  | .hbm, ⟨3, _⟩ => ⟨S32768x2048, .f32⟩
  | .hbm, ⟨4, _⟩ => ⟨S2048x4096, .bf16⟩
  | .hbm, ⟨5, _⟩ => ⟨S1x2048, .f32⟩
  | .hbm, ⟨6, _⟩ => ⟨S32768x2048, .bf16⟩
  | .hbm, ⟨7, _⟩ => ⟨S32768x2048, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x4096, .bf16⟩
  | .local _ .vmem, ⟨4, _⟩ => ⟨S512x2048, .bf16⟩
  | .local _ .vmem, ⟨5, _⟩ => ⟨S512x2048, .bf16⟩
  | .local _ .vmem, ⟨6, _⟩ => ⟨S512x2048, .bf16⟩
  | .local _ .vmem, ⟨7, _⟩ => ⟨S512x2048, .bf16⟩
  | .local _ .vmem, ⟨8, _⟩ => ⟨S512x2048, .bf16⟩
  | _, _ => ⟨S2x16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference4Ideal.lean ====
abbrev S2x16384x2048 : Shape := ⟨3, ![2, 16384, 2048]⟩
abbrev S2048 : Shape := ⟨1, ![2048]⟩
abbrev S2048x4096 : Shape := ⟨2, ![2048, 4096]⟩
abbrev S_ : Shape := ⟨0, ![]⟩
abbrev S2x16384 : Shape := ⟨2, ![2, 16384]⟩
abbrev S2x16384x1 : Shape := ⟨3, ![2, 16384, 1]⟩
abbrev S1x1x2048 : Shape := ⟨3, ![1, 1, 2048]⟩
abbrev S2x16384x4096 : Shape := ⟨3, ![2, 16384, 4096]⟩
abbrev S32768x2048 : Shape := ⟨2, ![32768, 2048]⟩

abbrev nBuf : Space → Nat
  | .hbm => 26
  | .vmem => 0
  | .smem => 0
  | _ => 0

abbrev bufTy : (tb : Table) → Fin (tcTables nBuf tb) → BufTy
  | .hbm, ⟨0, _⟩ => ⟨S2x16384x2048, .f32⟩
  | .hbm, ⟨1, _⟩ => ⟨S2048, .f32⟩
  | .hbm, ⟨2, _⟩ => ⟨S2048x4096, .f32⟩
  | .hbm, ⟨3, _⟩ => ⟨S2x16384x2048, .f32⟩
  | .hbm, ⟨4, _⟩ => ⟨S_, .f32⟩
  | .hbm, ⟨5, _⟩ => ⟨S2x16384, .f32⟩
  | .hbm, ⟨6, _⟩ => ⟨S2x16384x1, .f32⟩
  | .hbm, ⟨7, _⟩ => ⟨S_, .f32⟩
  | .hbm, ⟨8, _⟩ => ⟨S2x16384x1, .f32⟩
  | .hbm, ⟨9, _⟩ => ⟨S2x16384x1, .f32⟩
  | .hbm, ⟨10, _⟩ => ⟨S_, .f32⟩
  | .hbm, ⟨11, _⟩ => ⟨S2x16384x1, .f32⟩
  | .hbm, ⟨12, _⟩ => ⟨S2x16384x1, .f32⟩
  | .hbm, ⟨13, _⟩ => ⟨S2x16384x1, .f32⟩
  | .hbm, ⟨14, _⟩ => ⟨S2x16384x2048, .f32⟩
  | .hbm, ⟨15, _⟩ => ⟨S2x16384x2048, .f32⟩
  | .hbm, ⟨16, _⟩ => ⟨S1x1x2048, .f32⟩
  | .hbm, ⟨17, _⟩ => ⟨S2x16384x2048, .f32⟩
  | .hbm, ⟨18, _⟩ => ⟨S2x16384x2048, .f32⟩
  | .hbm, ⟨19, _⟩ => ⟨S2x16384x4096, .f32⟩
  | .hbm, ⟨20, _⟩ => ⟨S2x16384x2048, .f32⟩
  | .hbm, ⟨21, _⟩ => ⟨S2x16384x2048, .f32⟩
  | .hbm, ⟨22, _⟩ => ⟨S2x16384x2048, .bf16⟩
  | .hbm, ⟨23, _⟩ => ⟨S32768x2048, .bf16⟩
  | .hbm, ⟨24, _⟩ => ⟨S2x16384x2048, .bf16⟩
  | .hbm, ⟨25, _⟩ => ⟨S32768x2048, .bf16⟩
  | _, _ => ⟨S2x16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩

abbrev nD : Nat := 1
abbrev τ : Topo := Topo.v7x

variable {F : FTy → Type} [FloatOps F]
-- ==== Kernel5.lean ====
abbrev S2x16384x2048 : Shape := ⟨3, ![2, 16384, 2048]⟩
abbrev S2048 : Shape := ⟨1, ![2048]⟩
abbrev S2048x4096 : Shape := ⟨2, ![2048, 4096]⟩
abbrev S32768x2048 : Shape := ⟨2, ![32768, 2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩
abbrev S2048x512 : Shape := ⟨2, ![2048, 512]⟩
abbrev S512x512 : Shape := ⟨2, ![512, 512]⟩

abbrev nBuf : Space → Nat
  | .hbm => 8
  | .vmem => 9
  | .smem => 0
  | _ => 0

abbrev bufTy : (tb : Table) → Fin (tcTables nBuf tb) → BufTy
  | .hbm, ⟨0, _⟩ => ⟨S2x16384x2048, .f32⟩
  | .hbm, ⟨1, _⟩ => ⟨S2048, .f32⟩
  | .hbm, ⟨2, _⟩ => ⟨S2048x4096, .f32⟩
  | .hbm, ⟨3, _⟩ => ⟨S32768x2048, .f32⟩
  | .hbm, ⟨4, _⟩ => ⟨S2048x4096, .bf16⟩
  | .hbm, ⟨5, _⟩ => ⟨S1x2048, .f32⟩
  | .hbm, ⟨6, _⟩ => ⟨S32768x2048, .bf16⟩
  | .hbm, ⟨7, _⟩ => ⟨S32768x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x4096, .bf16⟩
  | .local _ .vmem, ⟨4, _⟩ => ⟨S512x2048, .bf16⟩
  | .local _ .vmem, ⟨5, _⟩ => ⟨S512x2048, .bf16⟩
  | .local _ .vmem, ⟨6, _⟩ => ⟨S512x2048, .f32⟩
  | .local _ .vmem, ⟨7, _⟩ => ⟨S512x2048, .f32⟩
  | .local _ .vmem, ⟨8, _⟩ => ⟨S512x2048, .bf16⟩
  | _, _ => ⟨S2x16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Kernel5Ideal.lean ====
variable {F : FTy → Type} [FloatOps F] [Named F]
def κ : String → Option EReal := fun
  | "scale" => some (((Real.log 65536)⁻¹ : ℝ) : EReal)
  | _ => none
-- ==== Reference5Ideal.lean ====
abbrev S2x16384x2048 : Shape := ⟨3, ![2, 16384, 2048]⟩
abbrev S2048 : Shape := ⟨1, ![2048]⟩
abbrev S2048x4096 : Shape := ⟨2, ![2048, 4096]⟩
abbrev S_ : Shape := ⟨0, ![]⟩
abbrev S2x16384 : Shape := ⟨2, ![2, 16384]⟩
abbrev S2x16384x1 : Shape := ⟨3, ![2, 16384, 1]⟩
abbrev S1x1x2048 : Shape := ⟨3, ![1, 1, 2048]⟩
abbrev S2x16384x4096 : Shape := ⟨3, ![2, 16384, 4096]⟩
abbrev S32768x2048 : Shape := ⟨2, ![32768, 2048]⟩

abbrev nBuf : Space → Nat
  | .hbm => 32
  | .vmem => 0
  | .smem => 0
  | _ => 0

abbrev bufTy : (tb : Table) → Fin (tcTables nBuf tb) → BufTy
  | .hbm, ⟨0, _⟩ => ⟨S2x16384x2048, .f32⟩
  | .hbm, ⟨1, _⟩ => ⟨S2048, .f32⟩
  | .hbm, ⟨2, _⟩ => ⟨S2048x4096, .f32⟩
  | .hbm, ⟨3, _⟩ => ⟨S2x16384x2048, .f32⟩
  | .hbm, ⟨4, _⟩ => ⟨S_, .f32⟩
  | .hbm, ⟨5, _⟩ => ⟨S2x16384, .f32⟩
  | .hbm, ⟨6, _⟩ => ⟨S2x16384x1, .f32⟩
  | .hbm, ⟨7, _⟩ => ⟨S_, .f32⟩
  | .hbm, ⟨8, _⟩ => ⟨S2x16384x1, .f32⟩
  | .hbm, ⟨9, _⟩ => ⟨S2x16384x1, .f32⟩
  | .hbm, ⟨10, _⟩ => ⟨S_, .f32⟩
  | .hbm, ⟨11, _⟩ => ⟨S2x16384x1, .f32⟩
  | .hbm, ⟨12, _⟩ => ⟨S2x16384x1, .f32⟩
  | .hbm, ⟨13, _⟩ => ⟨S2x16384x1, .f32⟩
  | .hbm, ⟨14, _⟩ => ⟨S2x16384x2048, .f32⟩
  | .hbm, ⟨15, _⟩ => ⟨S2x16384x2048, .f32⟩
  | .hbm, ⟨16, _⟩ => ⟨S1x1x2048, .f32⟩
  | .hbm, ⟨17, _⟩ => ⟨S2x16384x2048, .f32⟩
  | .hbm, ⟨18, _⟩ => ⟨S2x16384x2048, .f32⟩
  | .hbm, ⟨19, _⟩ => ⟨S2x16384x4096, .f32⟩
  | .hbm, ⟨20, _⟩ => ⟨S2x16384x2048, .f32⟩
  | .hbm, ⟨21, _⟩ => ⟨S2x16384x2048, .f32⟩
  | .hbm, ⟨22, _⟩ => ⟨S_, .f32⟩
  | .hbm, ⟨23, _⟩ => ⟨S2x16384x2048, .f32⟩
  | .hbm, ⟨24, _⟩ => ⟨S2x16384x2048, .f32⟩
  | .hbm, ⟨25, _⟩ => ⟨S_, .f32⟩
  | .hbm, ⟨26, _⟩ => ⟨S_, .f32⟩
  | .hbm, ⟨27, _⟩ => ⟨S2x16384x2048, .f32⟩
  | .hbm, ⟨28, _⟩ => ⟨S2x16384x2048, .f32⟩
  | .hbm, ⟨29, _⟩ => ⟨S2x16384x2048, .bf16⟩
  | .hbm, ⟨30, _⟩ => ⟨S32768x2048, .bf16⟩
  | .hbm, ⟨31, _⟩ => ⟨S32768x2048, .f32⟩
  | _, _ => ⟨S2x16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_2 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩

abbrev nD : Nat := 1
abbrev τ : Topo := Topo.v7x

variable {F : FTy → Type} [FloatOps F]
-- ==== Kernel6.lean ====
abbrev S2x16384x2048 : Shape := ⟨3, ![2, 16384, 2048]⟩
abbrev S2048 : Shape := ⟨1, ![2048]⟩
abbrev S2048x4096 : Shape := ⟨2, ![2048, 4096]⟩
abbrev S4x512x512 : Shape := ⟨3, ![4, 512, 512]⟩
abbrev S1x2048 : Shape := ⟨2, ![1, 2048]⟩
abbrev S1x512x2048 : Shape := ⟨3, ![1, 512, 2048]⟩
abbrev S512x2048 : Shape := ⟨2, ![512, 2048]⟩
abbrev S536x2048 : Shape := ⟨2, ![536, 2048]⟩
abbrev S536x512 : Shape := ⟨2, ![536, 512]⟩
abbrev S24x2048 : Shape := ⟨2, ![24, 2048]⟩
abbrev S8x512 : Shape := ⟨2, ![8, 512]⟩
abbrev S16x2048 : Shape := ⟨2, ![16, 2048]⟩
abbrev S512 : Shape := ⟨1, ![512]⟩
abbrev S512x1 : Shape := ⟨2, ![512, 1]⟩
abbrev S2048x512 : Shape := ⟨2, ![2048, 512]⟩
abbrev S512x512 : Shape := ⟨2, ![512, 512]⟩
abbrev S528x512 : Shape := ⟨2, ![528, 512]⟩
abbrev S1x512x512 : Shape := ⟨3, ![1, 512, 512]⟩
abbrev S1x512 : Shape := ⟨2, ![1, 512]⟩

abbrev nBuf : Space → Nat
  | .hbm => 10
  | .vmem => 12
  | .smem => 0
  | _ => 0

abbrev bufTy : (tb : Table) → Fin (tcTables nBuf tb) → BufTy
  | .hbm, ⟨0, _⟩ => ⟨S2x16384x2048, .f32⟩
  | .hbm, ⟨1, _⟩ => ⟨S2048, .f32⟩
  | .hbm, ⟨2, _⟩ => ⟨S2048x4096, .f32⟩
  | .hbm, ⟨3, _⟩ => ⟨S4x512x512, .f32⟩
  | .hbm, ⟨4, _⟩ => ⟨S2048, .f32⟩
  | .hbm, ⟨5, _⟩ => ⟨S2048x4096, .bf16⟩
  | .hbm, ⟨6, _⟩ => ⟨S4x512x512, .bf16⟩
  | .hbm, ⟨7, _⟩ => ⟨S1x2048, .f32⟩
  | .hbm, ⟨8, _⟩ => ⟨S1x2048, .f32⟩
  | .hbm, ⟨9, _⟩ => ⟨S2x16384x2048, .bf16⟩
  | .local _ .vmem, ⟨0, _⟩ => ⟨S1x512x2048, .f32⟩
  | .local _ .vmem, ⟨1, _⟩ => ⟨S1x512x2048, .f32⟩
  | .local _ .vmem, ⟨2, _⟩ => ⟨S1x2048, .f32⟩
  | .local _ .vmem, ⟨3, _⟩ => ⟨S2048x4096, .bf16⟩
  | .local _ .vmem, ⟨4, _⟩ => ⟨S4x512x512, .bf16⟩
  | .local _ .vmem, ⟨5, _⟩ => ⟨S1x2048, .f32⟩
  | .local _ .vmem, ⟨6, _⟩ => ⟨S1x512x2048, .bf16⟩
  | .local _ .vmem, ⟨7, _⟩ => ⟨S1x512x2048, .bf16⟩
  | .local _ .vmem, ⟨8, _⟩ => ⟨S512x2048, .bf16⟩
  | .local _ .vmem, ⟨9, _⟩ => ⟨S536x2048, .f32⟩
  | .local _ .vmem, ⟨10, _⟩ => ⟨S536x512, .f32⟩
  | .local _ .vmem, ⟨11, _⟩ => ⟨S536x512, .f32⟩
  | _, _ => ⟨S2x16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨2, ![2, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S2048x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S4x512x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference6Ideal.lean ====
abbrev S2x16384x2048 : Shape := ⟨3, ![2, 16384, 2048]⟩
abbrev S2048 : Shape := ⟨1, ![2048]⟩
abbrev S2048x4096 : Shape := ⟨2, ![2048, 4096]⟩
abbrev S4x512x512 : Shape := ⟨3, ![4, 512, 512]⟩
abbrev S_ : Shape := ⟨0, ![]⟩
abbrev S2x16384 : Shape := ⟨2, ![2, 16384]⟩
abbrev S2x16384x1 : Shape := ⟨3, ![2, 16384, 1]⟩
abbrev S1x1x2048 : Shape := ⟨3, ![1, 1, 2048]⟩
abbrev S2x16384x4096 : Shape := ⟨3, ![2, 16384, 4096]⟩
abbrev S2x16384x4x512 : Shape := ⟨4, ![2, 16384, 4, 512]⟩
abbrev S16384 : Shape := ⟨1, ![16384]⟩
abbrev S2x16384x1x512 : Shape := ⟨4, ![2, 16384, 1, 512]⟩
abbrev S2x16384x512 : Shape := ⟨3, ![2, 16384, 512]⟩
abbrev S1x16384x1 : Shape := ⟨3, ![1, 16384, 1]⟩
abbrev S4x512x2x16384 : Shape := ⟨4, ![4, 512, 2, 16384]⟩

abbrev nBuf : Space → Nat
  | .hbm => 112
  | .vmem => 0
  | .smem => 0
  | _ => 0

abbrev bufTy : (tb : Table) → Fin (tcTables nBuf tb) → BufTy
  | .hbm, ⟨0, _⟩ => ⟨S2x16384x2048, .f32⟩
  | .hbm, ⟨1, _⟩ => ⟨S2048, .f32⟩
  | .hbm, ⟨2, _⟩ => ⟨S2048x4096, .f32⟩
  | .hbm, ⟨3, _⟩ => ⟨S4x512x512, .f32⟩
  | .hbm, ⟨4, _⟩ => ⟨S2048, .f32⟩
  | .hbm, ⟨5, _⟩ => ⟨S2x16384x2048, .f32⟩
  | .hbm, ⟨6, _⟩ => ⟨S_, .f32⟩
  | .hbm, ⟨7, _⟩ => ⟨S2x16384, .f32⟩
  | .hbm, ⟨8, _⟩ => ⟨S2x16384x1, .f32⟩
  | .hbm, ⟨9, _⟩ => ⟨S_, .f32⟩
  | .hbm, ⟨10, _⟩ => ⟨S2x16384x1, .f32⟩
  | .hbm, ⟨11, _⟩ => ⟨S2x16384x1, .f32⟩
  | .hbm, ⟨12, _⟩ => ⟨S_, .f32⟩
  | .hbm, ⟨13, _⟩ => ⟨S2x16384x1, .f32⟩
  | .hbm, ⟨14, _⟩ => ⟨S2x16384x1, .f32⟩
  | .hbm, ⟨15, _⟩ => ⟨S2x16384x1, .f32⟩
  | .hbm, ⟨16, _⟩ => ⟨S2x16384x2048, .f32⟩
  | .hbm, ⟨17, _⟩ => ⟨S2x16384x2048, .f32⟩
  | .hbm, ⟨18, _⟩ => ⟨S1x1x2048, .f32⟩
  | .hbm, ⟨19, _⟩ => ⟨S2x16384x2048, .f32⟩
  | .hbm, ⟨20, _⟩ => ⟨S2x16384x2048, .f32⟩
  | .hbm, ⟨21, _⟩ => ⟨S2x16384x4096, .f32⟩
  | .hbm, ⟨22, _⟩ => ⟨S2x16384x2048, .f32⟩
  | .hbm, ⟨23, _⟩ => ⟨S2x16384x2048, .f32⟩
  | .hbm, ⟨24, _⟩ => ⟨S2x16384x4x512, .f32⟩
  | .hbm, ⟨25, _⟩ => ⟨S16384, .i32⟩
  | .hbm, ⟨26, _⟩ => ⟨S2x16384x1x512, .f32⟩
  | .hbm, ⟨27, _⟩ => ⟨S2x16384x512, .f32⟩
  | .hbm, ⟨28, _⟩ => ⟨S_, .f32⟩
  | .hbm, ⟨29, _⟩ => ⟨S_, .f32⟩
  | .hbm, ⟨30, _⟩ => ⟨S2x16384x512, .f32⟩
  | .hbm, ⟨31, _⟩ => ⟨S_, .i32⟩
  | .hbm, ⟨32, _⟩ => ⟨S16384, .i32⟩
  | .hbm, ⟨33, _⟩ => ⟨S16384, .i32⟩
  | .hbm, ⟨34, _⟩ => ⟨S_, .i32⟩
  | .hbm, ⟨35, _⟩ => ⟨S16384, .i32⟩
  | .hbm, ⟨36, _⟩ => ⟨S16384, .i32⟩
  | .hbm, ⟨37, _⟩ => ⟨S16384, .f32⟩
  | .hbm, ⟨38, _⟩ => ⟨S1x16384x1, .f32⟩
  | .hbm, ⟨39, _⟩ => ⟨S2x16384x512, .f32⟩
  | .hbm, ⟨40, _⟩ => ⟨S2x16384x512, .f32⟩
  | .hbm, ⟨41, _⟩ => ⟨S2x16384x512, .f32⟩
  | .hbm, ⟨42, _⟩ => ⟨S2x16384x1x512, .f32⟩
  | .hbm, ⟨43, _⟩ => ⟨S2x16384x512, .f32⟩
  | .hbm, ⟨44, _⟩ => ⟨S_, .f32⟩
  | .hbm, ⟨45, _⟩ => ⟨S_, .f32⟩
  | .hbm, ⟨46, _⟩ => ⟨S2x16384x512, .f32⟩
  | .hbm, ⟨47, _⟩ => ⟨S_, .i32⟩
  | .hbm, ⟨48, _⟩ => ⟨S16384, .i32⟩
  | .hbm, ⟨49, _⟩ => ⟨S16384, .i32⟩
  | .hbm, ⟨50, _⟩ => ⟨S_, .i32⟩
  | .hbm, ⟨51, _⟩ => ⟨S16384, .i32⟩
  | .hbm, ⟨52, _⟩ => ⟨S16384, .i32⟩
  | .hbm, ⟨53, _⟩ => ⟨S16384, .f32⟩
  | .hbm, ⟨54, _⟩ => ⟨S1x16384x1, .f32⟩
  | .hbm, ⟨55, _⟩ => ⟨S2x16384x512, .f32⟩
  | .hbm, ⟨56, _⟩ => ⟨S2x16384x512, .f32⟩
  | .hbm, ⟨57, _⟩ => ⟨S2x16384x512, .f32⟩
  | .hbm, ⟨58, _⟩ => ⟨S2x16384x1x512, .f32⟩
  | .hbm, ⟨59, _⟩ => ⟨S2x16384x512, .f32⟩
  | .hbm, ⟨60, _⟩ => ⟨S_, .f32⟩
  | .hbm, ⟨61, _⟩ => ⟨S_, .f32⟩
  | .hbm, ⟨62, _⟩ => ⟨S2x16384x512, .f32⟩
  | .hbm, ⟨63, _⟩ => ⟨S_, .i32⟩
  | .hbm, ⟨64, _⟩ => ⟨S16384, .i32⟩
  | .hbm, ⟨65, _⟩ => ⟨S16384, .i32⟩
  | .hbm, ⟨66, _⟩ => ⟨S_, .i32⟩
  | .hbm, ⟨67, _⟩ => ⟨S16384, .i32⟩
  | .hbm, ⟨68, _⟩ => ⟨S16384, .i32⟩
  | .hbm, ⟨69, _⟩ => ⟨S16384, .f32⟩
  | .hbm, ⟨70, _⟩ => ⟨S1x16384x1, .f32⟩
  | .hbm, ⟨71, _⟩ => ⟨S2x16384x512, .f32⟩
  | .hbm, ⟨72, _⟩ => ⟨S2x16384x512, .f32⟩
  | .hbm, ⟨73, _⟩ => ⟨S2x16384x512, .f32⟩
  | .hbm, ⟨74, _⟩ => ⟨S2x16384x1x512, .f32⟩
  | .hbm, ⟨75, _⟩ => ⟨S2x16384x512, .f32⟩
  | .hbm, ⟨76, _⟩ => ⟨S_, .f32⟩
  | .hbm, ⟨77, _⟩ => ⟨S_, .f32⟩
  | .hbm, ⟨78, _⟩ => ⟨S2x16384x512, .f32⟩
  | .hbm, ⟨79, _⟩ => ⟨S_, .i32⟩
  | .hbm, ⟨80, _⟩ => ⟨S16384, .i32⟩
  | .hbm, ⟨81, _⟩ => ⟨S16384, .i32⟩
  | .hbm, ⟨82, _⟩ => ⟨S_, .i32⟩
  | .hbm, ⟨83, _⟩ => ⟨S16384, .i32⟩
  | .hbm, ⟨84, _⟩ => ⟨S16384, .i32⟩
  | .hbm, ⟨85, _⟩ => ⟨S16384, .f32⟩
  | .hbm, ⟨86, _⟩ => ⟨S1x16384x1, .f32⟩
  | .hbm, ⟨87, _⟩ => ⟨S2x16384x512, .f32⟩
  | .hbm, ⟨88, _⟩ => ⟨S2x16384x512, .f32⟩
  | .hbm, ⟨89, _⟩ => ⟨S2x16384x512, .f32⟩
  | .hbm, ⟨90, _⟩ => ⟨S2x16384x1x512, .f32⟩
  | .hbm, ⟨91, _⟩ => ⟨S2x16384x1x512, .f32⟩
  | .hbm, ⟨92, _⟩ => ⟨S2x16384x1x512, .f32⟩
  | .hbm, ⟨93, _⟩ => ⟨S2x16384x1x512, .f32⟩
  | .hbm, ⟨94, _⟩ => ⟨S2x16384x4x512, .f32⟩
  | .hbm, ⟨95, _⟩ => ⟨S4x512x2x16384, .f32⟩
  | .hbm, ⟨96, _⟩ => ⟨S2x16384x4x512, .f32⟩
  | .hbm, ⟨97, _⟩ => ⟨S2x16384x2048, .f32⟩
  | .hbm, ⟨98, _⟩ => ⟨S1x1x2048, .f32⟩
  | .hbm, ⟨99, _⟩ => ⟨S2x16384x2048, .f32⟩
  | .hbm, ⟨100, _⟩ => ⟨S2x16384x2048, .f32⟩
  | .hbm, ⟨101, _⟩ => ⟨S2x16384x2048, .f32⟩
  | .hbm, ⟨102, _⟩ => ⟨S2x16384x2048, .f32⟩
  | .hbm, ⟨103, _⟩ => ⟨S_, .f32⟩
  | .hbm, ⟨104, _⟩ => ⟨S2x16384x2048, .f32⟩
  | .hbm, ⟨105, _⟩ => ⟨S2x16384x2048, .f32⟩
  | .hbm, ⟨106, _⟩ => ⟨S_, .f32⟩
  | .hbm, ⟨107, _⟩ => ⟨S2x16384x2048, .f32⟩
  | .hbm, ⟨108, _⟩ => ⟨S2x16384x2048, .f32⟩
  | .hbm, ⟨109, _⟩ => ⟨S2x16384x2048, .f32⟩
  | .hbm, ⟨110, _⟩ => ⟨S2x16384x2048, .f32⟩
  | .hbm, ⟨111, _⟩ => ⟨S2x16384x2048, .bf16⟩
  | _, _ => ⟨S2x16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_2 : Ref sig .tc := ⟨.hbm, 28, rfl⟩
abbrev main_v20 : Ref sig .tc := ⟨.hbm, 29, rfl⟩
abbrev main_v21 : Ref sig .tc := ⟨.hbm, 30, rfl⟩
abbrev main_c : Ref sig .tc := ⟨.hbm, 31, rfl⟩
abbrev main_v22 : Ref sig .tc := ⟨.hbm, 32, rfl⟩
abbrev main_v23 : Ref sig .tc := ⟨.hbm, 33, rfl⟩
abbrev main_c_3 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_4 : Ref sig .tc := ⟨.hbm, 44, rfl⟩
abbrev main_v33 : Ref sig .tc := ⟨.hbm, 45, rfl⟩
abbrev main_v34 : Ref sig .tc := ⟨.hbm, 46, rfl⟩
abbrev main_c_5 : Ref sig .tc := ⟨.hbm, 47, rfl⟩
abbrev main_v35 : Ref sig .tc := ⟨.hbm, 48, rfl⟩
abbrev main_v36 : Ref sig .tc := ⟨.hbm, 49, rfl⟩
abbrev main_c_6 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_cst_7 : Ref sig .tc := ⟨.hbm, 60, rfl⟩
abbrev main_v46 : Ref sig .tc := ⟨.hbm, 61, rfl⟩
abbrev main_v47 : Ref sig .tc := ⟨.hbm, 62, rfl⟩
abbrev main_c_8 : Ref sig .tc := ⟨.hbm, 63, rfl⟩
abbrev main_v48 : Ref sig .tc := ⟨.hbm, 64, rfl⟩
abbrev main_v49 : Ref sig .tc := ⟨.hbm, 65, rfl⟩
abbrev main_c_9 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_cst_10 : Ref sig .tc := ⟨.hbm, 76, rfl⟩
abbrev main_v59 : Ref sig .tc := ⟨.hbm, 77, rfl⟩
abbrev main_v60 : Ref sig .tc := ⟨.hbm, 78, rfl⟩
abbrev main_c_11 : Ref sig .tc := ⟨.hbm, 79, rfl⟩
abbrev main_v61 : Ref sig .tc := ⟨.hbm, 80, rfl⟩
abbrev main_v62 : Ref sig .tc := ⟨.hbm, 81, rfl⟩
abbrev main_c_12 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_call0_v0 : Ref sig .tc := ⟨.hbm, 101, rfl⟩
abbrev main_call0_v1 : Ref sig .tc := ⟨.hbm, 102, rfl⟩
abbrev main_call0_cst : Ref sig .tc := ⟨.hbm, 103, rfl⟩
abbrev main_call0_v2 : Ref sig .tc := ⟨.hbm, 104, rfl⟩
abbrev main_call0_v3 : Ref sig .tc := ⟨.hbm, 105, rfl⟩
abbrev main_call0_cst_0 : Ref sig .tc := ⟨.hbm, 106, rfl⟩
abbrev main_call0_v4 : Ref sig .tc := ⟨.hbm, 107, rfl⟩
abbrev main_call0_v5 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩

abbrev nD : Nat := 1
abbrev τ : Topo := Topo.v7x

variable {F : FTy → Type} [FloatOps F]
-- ==== Proof.Ref.lean ====
/-
  The reference's run.
-/
module

public import proofs.«01_k».proof.Proof.Gen.ReferenceIdeal
public import proofs.«01_k».proof.Proof.Gen.ReferenceIdeal.Run
public import proofs.«01_k».proof.Proof.Gen.ReferenceIdeal.Read

@[expose] public section

namespace Cert.ReferenceIdeal.Hand

end Cert.ReferenceIdeal.Hand
-- ==== Proof.Prog.lean ====
/-
  The attention body as a chain of stages. The printed body interleaves nothing: it is, in this order, a zeroing of the
  accumulator, the masked logits of the two chunks on the diagonal, then one values stage per chunk of keys, each
  preceded by the logits stage of the next chunk. This file writes the stages as programs over the memrefs they touch and
  states that the printed regions are those chains.
-/
module

public import proofs.«01_k».proof.Proof.Gen.KernelIdeal.Skeleton

@[expose] public section

set_option maxRecDepth 65536

noncomputable section

namespace Cert.KernelIdeal.Hand

open Cert.KernelIdeal Cert.KernelIdeal.Gen
open Idealize.ShloMosaic Idealize.ShloMosaic.TcCoe Idealize.ShloMosaic.Tactic
open Idealize.SL.Sem

variable {F : FTy → Type} [FloatOps F] [Named F]

/-! ## Payloads -/

/-- The base-two logits of a chunk, capped. -/
def zOf (q : Vec F S1x1024x256 .bf16) (k : Vec F S1x512x256 .bf16) : FVec F S1024x512 .f32 :=
  minimumf (matmul dot_S1024x256_S512x256_S1024x512_1_1_0_0_n_n none (shapeCast S1024x256 q shapeCasts_S1x1024x256_S1024x256) (shapeCast S512x256 k shapeCasts_S1x512x256_S512x256) (constant S1024x512 .f32 0x00000000#32)) (broadcast S1024x512 (Named.named κ "cap" 0x42FC0000#32))

/-- The base-two softplus of the logits. -/
def spOf (z : FVec F S1024x512 .f32) : FVec F S1024x512 .f32 :=
  mulf (log (addf (broadcast S1024x512 (Scalar.ofBits .f32 0x3F800000#32)) (exp2 z))) (broadcast S1024x512 (Named.named κ "log2e" 0x3FB8AA3B#32))

/-- The query positions of the point's tile. -/
def qpos (a : BitVec 32) : IVec S1024x1 32 :=
  addi (broadcast S1024x1 (Scalar.muli a 1024#32)) (iota .tc S1024x1 32 [0] iota_S1024x1_d0_w32)

/-- The mask of the chunk starting at `s`: the key's position is before the query's. -/
def maskOf (v : IVec S1024x1 32) (s : BitVec 32) : IVec S1024x512 1 :=
  cmpi .slt (broadcastTo S1024x512 (addi (broadcast S1x512 s) (iota .tc S1x512 32 [1] iota_S1x512_d1_w32)) broadcasts_S1x512_S1024x512) (broadcastTo S1024x512 v broadcasts_S1024x1_S1024x512)

/-- The carry after a block of one half of the rows: the block's row sums off. -/
def carry (c : FVec F S512x1 .f32) (x : FVec F S512x256 .f32) : FVec F S512x1 .f32 :=
  subf c (shapeCast S512x1 (multiReduction .add [1] S512 x 0x00000000#32 reduces_S512x256_S512 (.inl rfl) rfl) shapeCasts_S512_S512x1)

/-- A block of the log-weights with the carry added to its rows. -/
def shifted (x : FVec F S512x256 .f32) (c : FVec F S512x1 .f32) : FVec F S512x256 .f32 :=
  shapeCast S512x256 (addf x (broadcastTo S512x256 c broadcasts_S512x1_S512x256)) shapeCasts_S512x256_S512x256

/-- The four blocks of a chunk. -/
abbrev tl1 (x : FVec F S1024x512 .f32) : FVec F S512x256 .f32 := extractStridedSlice S512x256 ![0, 256] x slices_S1024x512_o0_256_S512x256
abbrev tl0 (x : FVec F S1024x512 .f32) : FVec F S512x256 .f32 := extractStridedSlice S512x256 ![0, 0] x slices_S1024x512_o0_0_S512x256
abbrev bl1 (x : FVec F S1024x512 .f32) : FVec F S512x256 .f32 := extractStridedSlice S512x256 ![512, 256] x slices_S1024x512_o512_256_S512x256
abbrev bl0 (x : FVec F S1024x512 .f32) : FVec F S512x256 .f32 := extractStridedSlice S512x256 ![512, 0] x slices_S1024x512_o512_0_S512x256

/-- A half-chunk's blocks. -/
abbrev hl1 (x : FVec F S512x512 .f32) : FVec F S512x256 .f32 := extractStridedSlice S512x256 ![0, 256] x slices_S512x512_o0_256_S512x256
abbrev hl0 (x : FVec F S512x512 .f32) : FVec F S512x256 .f32 := extractStridedSlice S512x256 ![0, 0] x slices_S512x512_o0_0_S512x256

/-- The weights of one block of a chunk, from its softplus block and log-weights. -/
def wOf (sp : Vec F S1024x256 .bf16) (tri : Vec F S256x256 .bf16) (ls : Vec F S1024x256 .f32) : FVec F S1024x256 .bf16 :=
  truncf .bf16 (exp2 (addf ls (matmul dot_S1024x256_S256x256_S1024x256_1_0_0_1_n_n none sp (shapeCast S256x256 tri shapeCasts_S256x256_S256x256) (constant S1024x256 .f32 0x00000000#32)))) bitsLt_bf16_f32

/-- The accumulator with a chunk's weighted values added. -/
def accOf (a : Vec F S1024x256 .f32) (p0 p1 : FVec F S1024x256 .bf16) (v : Vec F S1x512x256 .bf16) : FVec F S1024x256 .f32 :=
  shapeCast S1024x256 (addf a (matmul dot_S1024x512_S512x256_S1024x256_1_0_0_1_n_n none (concatenate S1024x512 1 [⟨S1024x256, p0⟩, ⟨S1024x256, p1⟩] concatenates_S1024x256_S1024x256_S1024x512_d1) (shapeCast S512x256 v shapeCasts_S1x512x256_S512x256) (constant S1024x256 .f32 0x00000000#32))) shapeCasts_S1024x256_S1024x256

/-! The same on the bottom half of the tile, for the chunk on the diagonal that only that half attends to. -/

def zOfH (q : Vec F S1x512x256 .bf16) (k : Vec F S1x512x256 .bf16) : FVec F S512x512 .f32 :=
  minimumf (matmul dot_S512x256_S512x256_S512x512_1_1_0_0_n_n none (shapeCast S512x256 q shapeCasts_S1x512x256_S512x256) (shapeCast S512x256 k shapeCasts_S1x512x256_S512x256) (constant S512x512 .f32 0x00000000#32)) (broadcast S512x512 (Named.named κ "cap" 0x42FC0000#32))

def spOfH (z : FVec F S512x512 .f32) : FVec F S512x512 .f32 :=
  mulf (log (addf (broadcast S512x512 (Scalar.ofBits .f32 0x3F800000#32)) (exp2 z))) (broadcast S512x512 (Named.named κ "log2e" 0x3FB8AA3B#32))

def maskOfH (v : IVec S1024x1 32) (s : BitVec 32) : IVec S512x512 1 :=
  cmpi .slt (broadcastTo S512x512 (addi (broadcast S1x512 s) (iota .tc S1x512 32 [1] iota_S1x512_d1_w32)) broadcasts_S1x512_S512x512) (broadcastTo S512x512 (extractStridedSlice S512x1 ![512, 0] v slices_S1024x1_o512_0_S512x1) broadcasts_S512x1_S512x512)

def wOfH (sp : Vec F S512x256 .bf16) (tri : Vec F S256x256 .bf16) (ls : Vec F S512x256 .f32) : FVec F S512x256 .bf16 :=
  truncf .bf16 (exp2 (addf ls (matmul dot_S512x256_S256x256_S512x256_1_0_0_1_n_n none sp (shapeCast S256x256 tri shapeCasts_S256x256_S256x256) (constant S512x256 .f32 0x00000000#32)))) bitsLt_bf16_f32

def accOfH (a : Vec F S512x256 .f32) (p0 p1 : FVec F S512x256 .bf16) (v : Vec F S1x512x256 .bf16) : FVec F S512x256 .f32 :=
  shapeCast S512x256 (addf a (matmul dot_S512x512_S512x256_S512x256_1_0_0_1_n_n none (concatenate S512x512 1 [⟨S512x256, p0⟩, ⟨S512x256, p1⟩] concatenates_S512x256_S512x256_S512x512_d1) (shapeCast S512x256 v shapeCasts_S1x512x256_S512x256) (constant S512x256 .f32 0x00000000#32))) shapeCasts_S512x256_S512x256

/-- The gated output. -/
def outOf (a : Vec F S1024x256 .f32) (g : Vec F S1x1024x256 .f32) : FVec F S1x1024x256 .bf16 :=
  shapeCast S1x1024x256 (truncf .bf16 (mulf a (mulf (shapeCast S1024x256 g shapeCasts_S1x1024x256_S1024x256) (logistic (shapeCast S1024x256 g shapeCasts_S1x1024x256_S1024x256)))) bitsLt_bf16_f32) shapeCasts_S1024x256_S1x1024x256

/-! ## Rectangles -/

abbrev rQ : Rect S1x1024x256 := Rect.unit (s := S1x1024x256) ![0, 0, 0] S1x1024x256.size inb_S1x1024x256_S1x1024x256_0_0_0
abbrev rQH : Rect S1x1024x256 := Rect.unit (s := S1x1024x256) ![0, 512, 0] S1x512x256.size inb_S1x1024x256_S1x512x256_0_512_0
abbrev rK (off : Fin 3 → ℕ) (h : ∀ a, off a + S1x512x256.size a ≤ S1x16384x256.size a) : Rect S1x16384x256 := Rect.unit (s := S1x16384x256) off S1x512x256.size h
abbrev rT : Rect S256x256 := Rect.unit (s := S256x256) ![0, 0] S256x256.size inb_S256x256_S256x256_0_0
abbrev rA : Rect S1024x256 := Rect.unit (s := S1024x256) ![0, 0] S1024x256.size inb_S1024x256_S1024x256_0_0
abbrev rAH : Rect S1024x256 := Rect.unit (s := S1024x256) ![512, 0] S512x256.size inb_S1024x256_S512x256_512_0
abbrev rC : Rect S1024x512 := Rect.unit (s := S1024x512) ![0, 0] S1024x512.size inb_S1024x512_S1024x512_0_0
abbrev rCH : Rect S1024x512 := Rect.unit (s := S1024x512) ![512, 0] S512x512.size inb_S1024x512_S512x512_512_0
abbrev rC0 : Rect S1024x512 := Rect.unit (s := S1024x512) ![0, 0] S1024x256.size inb_S1024x512_S1024x256_0_0
abbrev rC1 : Rect S1024x512 := Rect.unit (s := S1024x512) ![0, 256] S1024x256.size inb_S1024x512_S1024x256_0_256
abbrev rTl1 : Rect S1024x512 := Rect.unit (s := S1024x512) ![0, 256] S512x256.size inb_S1024x512_S512x256_0_256
abbrev rTl0 : Rect S1024x512 := Rect.unit (s := S1024x512) ![0, 0] S512x256.size inb_S1024x512_S512x256_0_0
abbrev rBl1 : Rect S1024x512 := Rect.unit (s := S1024x512) ![512, 256] S512x256.size inb_S1024x512_S512x256_512_256
abbrev rBl0 : Rect S1024x512 := Rect.unit (s := S1024x512) ![512, 0] S512x256.size inb_S1024x512_S512x256_512_0

/-! ## Stages -/

section stages

variable (arg3 : Memref sig .tc .vmem S1x1024x256 .bf16) (arg4 arg5 : Memref sig .tc .vmem S1x16384x256 .bf16)
  (arg6 : Memref sig .tc .vmem S1x1024x256 .f32) (arg7 : Memref sig .tc .vmem S256x256 .bf16)
  (arg8 : Memref sig .tc .vmem S1x1024x256 .bf16) (h8 : arg8.IsWhole) (arg9 : Memref sig .tc .vmem S1024x256 .f32)
  (sp : Memref sig .tc .vmem S1024x512 .bf16) (hsp : sp.IsWhole) (ls : Memref sig .tc .vmem S1024x512 .f32)

/-- A chunk's softplus and shifted log-weights written to its scratch buffers; the carries of the two halves go on. -/
def stageTail (s l : FVec F S1024x512 .f32) (c0 c1 : FVec F S512x1 .f32) : Prog (TpuEff nD τ sig (Elt F) Λ₀ .tc) (FVec F S512x1 .f32 × FVec F S512x1 .f32) := do
  let _ ← Prog.lift (.load sp rC.toLoadRect (View.loadsAt_vmem h_S1024x512))
  Prog.lift (.store sp rC (shapeCast S1024x512 (truncf .bf16 s bitsLt_bf16_f32) shapeCasts_S1024x512_S1024x512) Finset.univ (View.stores_vmem h_S1024x512 (hsp.storeExact_slice rfl _ packedbf16_S1024x512_S1024x512_0_0) (fun _ => rfl)) (.inl rfl))
  let _ ← Prog.lift (.load ls rTl1.toLoadRect (View.loadsAt_vmem h_S512x256))
  Prog.lift (.store ls rTl1 (shifted (tl1 l) c0) Finset.univ (View.stores_vmem_bits_univ h_S512x256 rfl) (.inl rfl))
  let _ ← Prog.lift (.load ls rTl0.toLoadRect (View.loadsAt_vmem h_S512x256))
  Prog.lift (.store ls rTl0 (shifted (tl0 l) (carry c0 (tl1 s))) Finset.univ (View.stores_vmem_bits_univ h_S512x256 rfl) (.inl rfl))
  let _ ← Prog.lift (.load ls rBl1.toLoadRect (View.loadsAt_vmem h_S512x256))
  Prog.lift (.store ls rBl1 (shifted (bl1 l) c1) Finset.univ (View.stores_vmem_bits_univ h_S512x256 rfl) (.inl rfl))
  let _ ← Prog.lift (.load ls rBl0.toLoadRect (View.loadsAt_vmem h_S512x256))
  Prog.lift (.store ls rBl0 (shifted (bl0 l) (carry c1 (bl1 s))) Finset.univ (View.stores_vmem_bits_univ h_S512x256 rfl) (.inl rfl))
  pure (carry (carry c0 (tl1 s)) (tl0 s), carry (carry c1 (bl1 s)) (bl0 s))

/-- The logits stage of a chunk every query of the tile attends to. -/
def stageL (off : Fin 3 → ℕ) (hoff : ∀ a, off a + S1x512x256.size a ≤ S1x16384x256.size a) (c0 c1 : FVec F S512x1 .f32) :
    Prog (TpuEff nD τ sig (Elt F) Λ₀ .tc) (FVec F S512x1 .f32 × FVec F S512x1 .f32) := do
  let q ← Prog.lift (.load arg3 rQ.toLoadRect (View.loadsAt_vmem h_S1x1024x256))
  let k ← Prog.lift (.load arg4 (rK off hoff).toLoadRect (View.loadsAt_vmem h_S1x512x256))
  stageTail sp hsp ls (spOf (zOf q k)) (subf (zOf q k) (spOf (zOf q k))) c0 c1

/-- The logits stage of a chunk on the diagonal, starting at key `s`. -/
def stageM (a : BitVec 32) (s : BitVec 32) (off : Fin 3 → ℕ) (hoff : ∀ a, off a + S1x512x256.size a ≤ S1x16384x256.size a) (c0 c1 : FVec F S512x1 .f32) :
    Prog (TpuEff nD τ sig (Elt F) Λ₀ .tc) (FVec F S512x1 .f32 × FVec F S512x1 .f32) := do
  let q ← Prog.lift (.load arg3 rQ.toLoadRect (View.loadsAt_vmem h_S1x1024x256))
  let k ← Prog.lift (.load arg4 (rK off hoff).toLoadRect (View.loadsAt_vmem h_S1x512x256))
  stageTail sp hsp ls (select (maskOf (qpos a) s) (spOf (zOf q k)) (broadcast S1024x512 (Scalar.ofBits .f32 0x00000000#32)))
    (select (maskOf (qpos a) s) (subf (zOf q k) (spOf (zOf q k))) (broadcast S1024x512 (Named.named κ "mask" 0xF149F2CA#32))) c0 c1

/-- The logits stage of the last chunk on the diagonal, which only the bottom half attends to. -/
def stageM0 (a : BitVec 32) (s : BitVec 32) (off : Fin 3 → ℕ) (hoff : ∀ a, off a + S1x512x256.size a ≤ S1x16384x256.size a) (c1 : FVec F S512x1 .f32) :
    Prog (TpuEff nD τ sig (Elt F) Λ₀ .tc) (FVec F S512x1 .f32) := do
  let q ← Prog.lift (.load arg3 rQH.toLoadRect (View.loadsAt_vmem h_S1x512x256))
  let k ← Prog.lift (.load arg4 (rK off hoff).toLoadRect (View.loadsAt_vmem h_S1x512x256))
  let s' : FVec F S512x512 .f32 := select (maskOfH (qpos a) s) (spOfH (zOfH q k)) (broadcast S512x512 (Scalar.ofBits .f32 0x00000000#32))
  let l' : FVec F S512x512 .f32 := select (maskOfH (qpos a) s) (subf (zOfH q k) (spOfH (zOfH q k))) (broadcast S512x512 (Named.named κ "mask" 0xF149F2CA#32))
  let _ ← Prog.lift (.load sp rCH.toLoadRect (View.loadsAt_vmem h_S512x512))
  Prog.lift (.store sp rCH (shapeCast S512x512 (truncf .bf16 s' bitsLt_bf16_f32) shapeCasts_S512x512_S512x512) Finset.univ (View.stores_vmem h_S512x512 (hsp.storeExact_slice rfl _ packedbf16_S1024x512_S512x512_512_0) (fun _ => rfl)) (.inl rfl))
  let _ ← Prog.lift (.load ls rBl1.toLoadRect (View.loadsAt_vmem h_S512x256))
  Prog.lift (.store ls rBl1 (shifted (hl1 l') c1) Finset.univ (View.stores_vmem_bits_univ h_S512x256 rfl) (.inl rfl))
  let _ ← Prog.lift (.load ls rBl0.toLoadRect (View.loadsAt_vmem h_S512x256))
  Prog.lift (.store ls rBl0 (shifted (hl0 l') (carry c1 (hl1 s'))) Finset.univ (View.stores_vmem_bits_univ h_S512x256 rfl) (.inl rfl))
  pure (carry (carry c1 (hl1 s')) (hl0 s'))

/-- The values stage of a chunk. -/
def stageV (off : Fin 3 → ℕ) (hoff : ∀ a, off a + S1x512x256.size a ≤ S1x16384x256.size a) : Prog (TpuEff nD τ sig (Elt F) Λ₀ .tc) PUnit := do
  let s0 ← Prog.lift (.load sp rC0.toLoadRect (View.loadsAt_vmem h_S1024x256))
  let t0 ← Prog.lift (.load arg7 rT.toLoadRect (View.loadsAt_vmem h_S256x256))
  let l0 ← Prog.lift (.load ls rC0.toLoadRect (View.loadsAt_vmem h_S1024x256))
  let s1 ← Prog.lift (.load sp rC1.toLoadRect (View.loadsAt_vmem h_S1024x256))
  let t1 ← Prog.lift (.load arg7 rT.toLoadRect (View.loadsAt_vmem h_S256x256))
  let l1 ← Prog.lift (.load ls rC1.toLoadRect (View.loadsAt_vmem h_S1024x256))
  let a ← Prog.lift (.load arg9 rA.toLoadRect (View.loadsAt_vmem h_S1024x256))
  let v ← Prog.lift (.load arg5 (rK off hoff).toLoadRect (View.loadsAt_vmem h_S1x512x256))
  let _ ← Prog.lift (.load arg9 rA.toLoadRect (View.loadsAt_vmem h_S1024x256))
  Prog.lift (.store arg9 rA (accOf a (wOf s0 t0 l0) (wOf s1 t1 l1) v) Finset.univ (View.stores_vmem_bits_univ h_S1024x256 rfl) (.inl rfl))

/-- The values stage of the last chunk on the diagonal, on the bottom half. -/
def stageV0 (off : Fin 3 → ℕ) (hoff : ∀ a, off a + S1x512x256.size a ≤ S1x16384x256.size a) : Prog (TpuEff nD τ sig (Elt F) Λ₀ .tc) PUnit := do
  let s0 ← Prog.lift (.load sp rBl0.toLoadRect (View.loadsAt_vmem h_S512x256))
  let t0 ← Prog.lift (.load arg7 rT.toLoadRect (View.loadsAt_vmem h_S256x256))
  let l0 ← Prog.lift (.load ls rBl0.toLoadRect (View.loadsAt_vmem h_S512x256))
  let s1 ← Prog.lift (.load sp rBl1.toLoadRect (View.loadsAt_vmem h_S512x256))
  let t1 ← Prog.lift (.load arg7 rT.toLoadRect (View.loadsAt_vmem h_S256x256))
  let l1 ← Prog.lift (.load ls rBl1.toLoadRect (View.loadsAt_vmem h_S512x256))
  let a ← Prog.lift (.load arg9 rAH.toLoadRect (View.loadsAt_vmem h_S512x256))
  let v ← Prog.lift (.load arg5 (rK off hoff).toLoadRect (View.loadsAt_vmem h_S1x512x256))
  let _ ← Prog.lift (.load arg9 rAH.toLoadRect (View.loadsAt_vmem h_S512x256))
  Prog.lift (.store arg9 rAH (accOfH a (wOfH s0 t0 l0) (wOfH s1 t1 l1) v) Finset.univ (View.stores_vmem_bits_univ h_S512x256 rfl) (.inl rfl))

/-- The zeroing of the accumulator. -/
def stageZ : Prog (TpuEff nD τ sig (Elt F) Λ₀ .tc) PUnit := do
  let _ ← Prog.lift (.load arg9 rA.toLoadRect (View.loadsAt_vmem h_S1024x256))
  Prog.lift (.store arg9 rA (shapeCast S1024x256 (broadcast S1024x256 (Scalar.ofBits .f32 0x00000000#32 : F .f32)) shapeCasts_S1024x256_S1024x256) Finset.univ (View.stores_vmem_bits_univ h_S1024x256 rfl) (.inl rfl))

/-- The gate and the store of the output tile. -/
def stageO : Prog (TpuEff nD τ sig (Elt F) Λ₀ .tc) PUnit := do
  let a ← Prog.lift (.load arg9 rA.toLoadRect (View.loadsAt_vmem h_S1024x256))
  let g ← Prog.lift (.load arg6 rQ.toLoadRect (View.loadsAt_vmem h_S1x1024x256))
  let _ ← Prog.lift (.load arg8 rQ.toLoadRect (View.loadsAt_vmem h_S1x1024x256))
  Prog.lift (.store arg8 rQ (outOf a g) Finset.univ (View.stores_vmem h_S1x1024x256 (h8.storeExact_slice rfl _ packedbf16_S1x1024x256_S1x1024x256_0_0_0) (fun _ => rfl)) (.inl rfl))

end stages

/-! ## The loops' trips and the body as chains of stages -/

section chains

variable (i : grid0.Coords) (arg3 : Memref sig .tc .vmem S1x1024x256 .bf16) (harg3 : arg3.IsWhole) (arg4 : Memref sig .tc .vmem S1x16384x256 .bf16) (harg4 : arg4.IsWhole) (arg5 : Memref sig .tc .vmem S1x16384x256 .bf16) (harg5 : arg5.IsWhole) (arg6 : Memref sig .tc .vmem S1x1024x256 .f32) (harg6 : arg6.IsWhole) (arg7 : Memref sig .tc .vmem S256x256 .bf16) (harg7 : arg7.IsWhole) (arg8 : Memref sig .tc .vmem S1x1024x256 .bf16) (harg8 : arg8.IsWhole) (arg9 : Memref sig .tc .vmem S1024x256 .f32) (harg9 : arg9.IsWhole) (arg10 : Memref sig .tc .vmem S1024x512 .bf16) (harg10 : arg10.IsWhole) (arg11 : Memref sig .tc .vmem S1024x512 .f32) (harg11 : arg11.IsWhole) (arg12 : Memref sig .tc .vmem S1024x512 .bf16) (harg12 : arg12.IsWhole) (arg13 : Memref sig .tc .vmem S1024x512 .f32) (harg13 : arg13.IsWhole)

/-- The word of the point's query tile. -/
abbrev qw : BitVec 32 := BitVec.ofNat 32 (i 2).val

/-- One pair of chunks: the even chunk's logits, the odd chunk's values, the next odd chunk's logits, the even chunk's values. -/
def stagePair (offE offO offP : Fin 3 → ℕ) (hE : ∀ a, offE a + S1x512x256.size a ≤ S1x16384x256.size a)
    (hO : ∀ a, offO a + S1x512x256.size a ≤ S1x16384x256.size a) (hP : ∀ a, offP a + S1x512x256.size a ≤ S1x16384x256.size a)
    (s : FVec F S512x1 .f32 × FVec F S512x1 .f32) : Prog (TpuEff nD τ sig (Elt F) Λ₀ .tc) (FVec F S512x1 .f32 × FVec F S512x1 .f32) := do
  let s ← stageL arg3 arg4 arg10 harg10 arg11 offE hE s.1 s.2
  stageV arg5 arg7 arg9 arg12 arg13 offP hP
  let s ← stageL arg3 arg4 arg12 harg12 arg13 offO hO s.1 s.2
  stageV arg5 arg7 arg9 arg10 arg11 offE hE
  pure s

/-- One trip of the loop over single pairs. -/
def trip3 (k : Fin (k0_t3_loop i).trips) (s : FVec F S512x1 .f32 × FVec F S512x1 .f32) : Prog (TpuEff nD τ sig (Elt F) Λ₀ .tc) (FVec F S512x1 .f32 × FVec F S512x1 .f32) :=
  stagePair arg3 arg4 arg5 arg7 arg9 arg10 harg10 arg11 arg12 harg12 arg13 (k0_off6 i k 1#32) (k0_off6 i k 2#32) (k0_off7 i k)
    (k0_off6_inb i k 0) (k0_off6_inb i k 1) (k0_off7_inb i k) s

theorem trip3_eq (arg2 : BitVec 32) (v189_0 : FVec F S512x1 .f32) (v189_1 : FVec F S512x1 .f32) (v191 : BitVec 32) (v192 : BitVec 32) (c0_i32_84 : BitVec 32)
    (k : Fin (k0_t3_loop i).trips) (s0 s1 : FVec F S512x1 .f32) :
    k0_t3_body (F := F) i arg3 harg3 arg4 harg4 arg5 harg5 arg6 harg6 arg7 harg7 arg8 harg8 arg9 harg9 arg10 harg10 arg11 harg11 arg12 harg12 arg13 harg13 arg2 v189_0 v189_1 v191 v192 c0_i32_84 k (s0, s1)
      = trip3 i arg3 arg4 arg5 arg7 arg9 arg10 harg10 arg11 arg12 harg12 arg13 k (s0, s1) := rfl

end chains

end Cert.KernelIdeal.Hand

end
-- ==== Proof.Body.lean ====
/-
  The loop over four pairs and the whole body as chains of stages (Prog.lean).
-/
module

public import proofs.«01_k».proof.Proof.Prog

@[expose] public section

set_option maxRecDepth 65536

noncomputable section

namespace Cert.KernelIdeal.Hand

open Cert.KernelIdeal Cert.KernelIdeal.Gen
open Idealize.ShloMosaic Idealize.ShloMosaic.TcCoe Idealize.ShloMosaic.Tactic
open Idealize.SL.Sem

variable {F : FTy → Type} [FloatOps F] [Named F]

section chains

variable (i : grid0.Coords) (arg3 : Memref sig .tc .vmem S1x1024x256 .bf16) (harg3 : arg3.IsWhole) (arg4 : Memref sig .tc .vmem S1x16384x256 .bf16) (harg4 : arg4.IsWhole) (arg5 : Memref sig .tc .vmem S1x16384x256 .bf16) (harg5 : arg5.IsWhole) (arg6 : Memref sig .tc .vmem S1x1024x256 .f32) (harg6 : arg6.IsWhole) (arg7 : Memref sig .tc .vmem S256x256 .bf16) (harg7 : arg7.IsWhole) (arg8 : Memref sig .tc .vmem S1x1024x256 .bf16) (harg8 : arg8.IsWhole) (arg9 : Memref sig .tc .vmem S1024x256 .f32) (harg9 : arg9.IsWhole) (arg10 : Memref sig .tc .vmem S1024x512 .bf16) (harg10 : arg10.IsWhole) (arg11 : Memref sig .tc .vmem S1024x512 .f32) (harg11 : arg11.IsWhole) (arg12 : Memref sig .tc .vmem S1024x512 .bf16) (harg12 : arg12.IsWhole) (arg13 : Memref sig .tc .vmem S1024x512 .f32) (harg13 : arg13.IsWhole)

/-- One trip of the loop over four pairs. -/
def trip1 (k : Fin (k0_t1_loop i).trips) (s : FVec F S512x1 .f32 × FVec F S512x1 .f32) : Prog (TpuEff nD τ sig (Elt F) Λ₀ .tc) (FVec F S512x1 .f32 × FVec F S512x1 .f32) := do
  let s ← stagePair arg3 arg4 arg5 arg7 arg9 arg10 harg10 arg11 arg12 harg12 arg13 (k0_off2 i k 0#32 1#32) (k0_off2 i k 0#32 2#32) (k0_off3 i k 0#32)
    (k0_off2_inb i k 0 0) (k0_off2_inb i k 0 1) (k0_off3_inb i k 0) s
  let s ← stagePair arg3 arg4 arg5 arg7 arg9 arg10 harg10 arg11 arg12 harg12 arg13 (k0_off2 i k 2#32 1#32) (k0_off2 i k 2#32 2#32) (k0_off3 i k 2#32)
    (k0_off2_inb i k 1 0) (k0_off2_inb i k 1 1) (k0_off3_inb i k 1) s
  let s ← stagePair arg3 arg4 arg5 arg7 arg9 arg10 harg10 arg11 arg12 harg12 arg13 (k0_off2 i k 4#32 1#32) (k0_off2 i k 4#32 2#32) (k0_off3 i k 4#32)
    (k0_off2_inb i k 2 0) (k0_off2_inb i k 2 1) (k0_off3_inb i k 2) s
  stagePair arg3 arg4 arg5 arg7 arg9 arg10 harg10 arg11 arg12 harg12 arg13 (k0_off2 i k 6#32 1#32) (k0_off2 i k 6#32 2#32) (k0_off3 i k 6#32)
    (k0_off2_inb i k 3 0) (k0_off2_inb i k 3 1) (k0_off3_inb i k 3) s

set_option maxHeartbeats 4000000 in
theorem trip1_eq (arg2 : BitVec 32) (v115 v135 : FVec F S512x1 .f32) (v152 : Vec F S512x256 .f32) (v153 : FVec F S512x512 .bf16) (v154 c1024 : BitVec 32)
    (k : Fin (k0_t1_loop i).trips) (s0 s1 : FVec F S512x1 .f32) :
    k0_t1_body (F := F) i arg3 harg3 arg4 harg4 arg5 harg5 arg6 harg6 arg7 harg7 arg8 harg8 arg9 harg9 arg10 harg10 arg11 harg11 arg12 harg12 arg13 harg13 arg2 v115 v135 v152 v153 v154 c1024 k (s0, s1)
      = trip1 i arg3 arg4 arg5 arg7 arg9 arg10 harg10 arg11 arg12 harg12 arg13 k (s0, s1) := rfl

/-- The whole body. -/
def bodyS : Prog (TpuEff nD τ sig (Elt F) Λ₀ .tc) PUnit := do
  stageZ arg9
  let c ← stageM0 arg3 arg4 arg10 harg10 arg11 (qw i) (Scalar.subi (Scalar.muli (Scalar.addi (qw i) 1#32) 1024#32) 512#32) (k0_off1 i 512#32) (k0_off1_inb i 0)
    (broadcast S512x1 (Scalar.ofBits .f32 0x00000000#32 : F .f32))
  let s ← stageM arg3 arg4 arg12 harg12 arg13 (qw i) (Scalar.subi (Scalar.muli (Scalar.addi (qw i) 1#32) 1024#32) 1024#32) (k0_off1 i 1024#32) (k0_off1_inb i 1)
    (broadcast S512x1 (Scalar.ofBits .f32 0x00000000#32 : F .f32)) c
  stageV0 arg5 arg7 arg9 arg10 arg11 (k0_off1 i 512#32) (k0_off1_inb i 0)
  let s ← Scf.Loop.for (k0_t1_loop i) (k0_t1_ok i) s (trip1 i arg3 arg4 arg5 arg7 arg9 arg10 harg10 arg11 arg12 harg12 arg13)
  let s ← Scf.Loop.for (k0_t3_loop i) (k0_t3_ok i) s (trip3 i arg3 arg4 arg5 arg7 arg9 arg10 harg10 arg11 arg12 harg12 arg13)
  stageV arg5 arg7 arg9 arg12 arg13 (k0_off10 i) (k0_off10_inb i)
  stageO arg6 arg8 harg8 arg9

/-- A loop of no trips is its initial value. -/
theorem for_zero {σ : Type} (l : Scf.Loop 32) (hok : l.OK) (init : σ) (body : Fin l.trips → σ → Prog (TpuEff nD τ sig (Elt F) Λ₀ .tc) σ)
    (h : l.trips = 0) : Scf.Loop.for l hok init body = .ret init := by
  show Scf.for _ _ _ _ _ _ = _
  rw [Scf.for_eq, List.eq_nil_of_length_eq_zero (l := List.finRange _) (by rw [List.length_finRange]; exact h)]
  rfl

theorem for2_eq {σ : Type} (init : σ) (body : Fin (k0_t2_loop i).trips → σ → Prog (TpuEff nD τ sig (Elt F) Λ₀ .tc) σ) :
    Scf.Loop.for (k0_t2_loop i) (k0_t2_ok i) init body = .ret init := for_zero _ _ _ _ (Nat.le_zero.1 (k0_t2_abs i).2.1)

theorem for4_eq {σ : Type} (init : σ) (body : Fin (k0_t4_loop i).trips → σ → Prog (TpuEff nD τ sig (Elt F) Λ₀ .tc) σ) :
    Scf.Loop.for (k0_t4_loop i) (k0_t4_ok i) init body = .ret init := for_zero _ _ _ _ (Nat.le_zero.1 (k0_t4_abs i).2.1)

/-- The values stage in two: its loads up to the accumulator's, -/
def stageVa (sp : Memref sig .tc .vmem S1024x512 .bf16) (ls : Memref sig .tc .vmem S1024x512 .f32) :
    Prog (TpuEff nD τ sig (Elt F) Λ₀ .tc) (Vec F S1024x256 .f32 × FVec F S1024x512 .bf16) := do
  let s0 ← Prog.lift (.load sp rC0.toLoadRect (View.loadsAt_vmem h_S1024x256))
  let t0 ← Prog.lift (.load arg7 rT.toLoadRect (View.loadsAt_vmem h_S256x256))
  let l0 ← Prog.lift (.load ls rC0.toLoadRect (View.loadsAt_vmem h_S1024x256))
  let s1 ← Prog.lift (.load sp rC1.toLoadRect (View.loadsAt_vmem h_S1024x256))
  let t1 ← Prog.lift (.load arg7 rT.toLoadRect (View.loadsAt_vmem h_S256x256))
  let l1 ← Prog.lift (.load ls rC1.toLoadRect (View.loadsAt_vmem h_S1024x256))
  let a ← Prog.lift (.load arg9 rA.toLoadRect (View.loadsAt_vmem h_S1024x256))
  pure (a, concatenate S1024x512 1 [⟨S1024x256, wOf s0 t0 l0⟩, ⟨S1024x256, wOf s1 t1 l1⟩] concatenates_S1024x256_S1024x256_S1024x512_d1)

/-- and the rest. -/
def stageVb (off : Fin 3 → ℕ) (hoff : ∀ a, off a + S1x512x256.size a ≤ S1x16384x256.size a) (a : Vec F S1024x256 .f32) (p : FVec F S1024x512 .bf16) :
    Prog (TpuEff nD τ sig (Elt F) Λ₀ .tc) PUnit := do
  let v ← Prog.lift (.load arg5 (rK off hoff).toLoadRect (View.loadsAt_vmem h_S1x512x256))
  let _ ← Prog.lift (.load arg9 rA.toLoadRect (View.loadsAt_vmem h_S1024x256))
  Prog.lift (.store arg9 rA (shapeCast S1024x256 (addf a (matmul dot_S1024x512_S512x256_S1024x256_1_0_0_1_n_n none p (shapeCast S512x256 v shapeCasts_S1x512x256_S512x256) (constant S1024x256 .f32 0x00000000#32))) shapeCasts_S1024x256_S1024x256) Finset.univ (View.stores_vmem_bits_univ h_S1024x256 rfl) (.inl rfl))

theorem stageV_eq (sp : Memref sig .tc .vmem S1024x512 .bf16) (ls : Memref sig .tc .vmem S1024x512 .f32)
    (off : Fin 3 → ℕ) (hoff : ∀ a, off a + S1x512x256.size a ≤ S1x16384x256.size a) :
    stageV (F := F) arg5 arg7 arg9 sp ls off hoff = (stageVa arg7 arg9 sp ls >>= fun r => stageVb arg5 arg9 off hoff r.1 r.2) := rfl

theorem body1_eq (arg2 : BitVec 32) (v115 v135 : FVec F S512x1 .f32) (v152 : Vec F S512x256 .f32) (v153 : FVec F S512x512 .bf16) (v154 c1024 : BitVec 32) :
    k0_t1_body (F := F) i arg3 harg3 arg4 harg4 arg5 harg5 arg6 harg6 arg7 harg7 arg8 harg8 arg9 harg9 arg10 harg10 arg11 harg11 arg12 harg12 arg13 harg13 arg2 v115 v135 v152 v153 v154 c1024
      = trip1 i arg3 arg4 arg5 arg7 arg9 arg10 harg10 arg11 arg12 harg12 arg13 := by
  funext k s
  exact trip1_eq i arg3 harg3 arg4 harg4 arg5 harg5 arg6 harg6 arg7 harg7 arg8 harg8 arg9 harg9 arg10 harg10 arg11 harg11 arg12 harg12 arg13 harg13 arg2 v115 v135 v152 v153 v154 c1024 k s.1 s.2

theorem body3_eq (arg2 : BitVec 32) (v189_0 v189_1 : FVec F S512x1 .f32) (v191 v192 c0 : BitVec 32) :
    k0_t3_body (F := F) i arg3 harg3 arg4 harg4 arg5 harg5 arg6 harg6 arg7 harg7 arg8 harg8 arg9 harg9 arg10 harg10 arg11 harg11 arg12 harg12 arg13 harg13 arg2 v189_0 v189_1 v191 v192 c0
      = trip3 i arg3 arg4 arg5 arg7 arg9 arg10 harg10 arg11 arg12 harg12 arg13 := by
  funext k s
  exact trip3_eq i arg3 harg3 arg4 harg4 arg5 harg5 arg6 harg6 arg7 harg7 arg8 harg8 arg9 harg9 arg10 harg10 arg11 harg11 arg12 harg12 arg13 harg13 arg2 v189_0 v189_1 v191 v192 c0 k s.1 s.2

/-- The values stage of the first chunk from its store's operands on. -/
def stageV0b (off : Fin 3 → ℕ) (hoff : ∀ a, off a + S1x512x256.size a ≤ S1x16384x256.size a) (a : Vec F S512x256 .f32) (p : FVec F S512x512 .bf16) :
    Prog (TpuEff nD τ sig (Elt F) Λ₀ .tc) PUnit := do
  let v ← Prog.lift (.load arg5 (rK off hoff).toLoadRect (View.loadsAt_vmem h_S1x512x256))
  let _ ← Prog.lift (.load arg9 rAH.toLoadRect (View.loadsAt_vmem h_S512x256))
  Prog.lift (.store arg9 rAH (k0_pay340 a p v) Finset.univ (View.stores_vmem_bits_univ h_S512x256 rfl) (.inl rfl))

set_option maxHeartbeats 4000000 in
theorem part57_eq (arg2 : BitVec 32) (v115 v135 : FVec F S512x1 .f32) (v152 : Vec F S512x256 .f32) (v153 : FVec F S512x512 .bf16) (v154 c1024 : BitVec 32) :
    k0_part57 (F := F) i arg3 harg3 arg4 harg4 arg5 harg5 arg6 harg6 arg7 harg7 arg8 harg8 arg9 harg9 arg10 harg10 arg11 harg11 arg12 harg12 arg13 harg13 arg2 v115 v135 v152 v153 v154 c1024 = (do
      stageV0b arg5 arg9 (k0_off1 i 512#32) (k0_off1_inb i 0) v152 v153
      let s ← Scf.Loop.for (k0_t1_loop i) (k0_t1_ok i) (v115, v135) (trip1 i arg3 arg4 arg5 arg7 arg9 arg10 harg10 arg11 arg12 harg12 arg13)
      pure ⟨s.1, s.2, Scalar.select (Scalar.cmpi .eq 4#32 0#32) 1#32 4#32, Scalar.remsi arg2 (Scalar.select (Scalar.cmpi .eq 4#32 0#32) 1#32 4#32), 0#32⟩) := by
  rw [k0_part57_eq_skeleton]
  unfold k0_part57_skel
  simp only [body1_eq, for2_eq]
  rfl

set_option maxHeartbeats 4000000 in
theorem part58_eq (arg2 : BitVec 32) (v189_0 v189_1 : FVec F S512x1 .f32) (v191 v192 c0 : BitVec 32) :
    k0_part58 (F := F) i arg3 harg3 arg4 harg4 arg5 harg5 arg6 harg6 arg7 harg7 arg8 harg8 arg9 harg9 arg10 harg10 arg11 harg11 arg12 harg12 arg13 harg13 arg2 v189_0 v189_1 v191 v192 c0 = (do
      let _ ← Scf.Loop.for (k0_t3_loop i) (k0_t3_ok i) (v189_0, v189_1) (trip3 i arg3 arg4 arg5 arg7 arg9 arg10 harg10 arg11 arg12 harg12 arg13)
      let r ← stageVa arg7 arg9 arg12 arg13
      pure ⟨Scalar.addi (Scalar.muli 2#32 arg2) 1#32, r.1, r.2, Scalar.addi arg2 1#32⟩) := by
  rw [k0_part58_eq_skeleton]
  unfold k0_part58_skel
  simp only [body3_eq, for4_eq]
  rfl

/-- The first chunk's values stage in two: its loads up to the accumulator's. -/
def stageV0a (sp : Memref sig .tc .vmem S1024x512 .bf16) (ls : Memref sig .tc .vmem S1024x512 .f32) :
    Prog (TpuEff nD τ sig (Elt F) Λ₀ .tc) (Vec F S512x256 .f32 × FVec F S512x512 .bf16) := do
  let s0 ← Prog.lift (.load sp rBl0.toLoadRect (View.loadsAt_vmem h_S512x256))
  let t0 ← Prog.lift (.load arg7 rT.toLoadRect (View.loadsAt_vmem h_S256x256))
  let l0 ← Prog.lift (.load ls rBl0.toLoadRect (View.loadsAt_vmem h_S512x256))
  let s1 ← Prog.lift (.load sp rBl1.toLoadRect (View.loadsAt_vmem h_S512x256))
  let t1 ← Prog.lift (.load arg7 rT.toLoadRect (View.loadsAt_vmem h_S256x256))
  let l1 ← Prog.lift (.load ls rBl1.toLoadRect (View.loadsAt_vmem h_S512x256))
  let a ← Prog.lift (.load arg9 rAH.toLoadRect (View.loadsAt_vmem h_S512x256))
  pure (a, concatenate S512x512 1 [⟨S512x256, wOfH s0 t0 l0⟩, ⟨S512x256, wOfH s1 t1 l1⟩] concatenates_S512x256_S512x256_S512x512_d1)

theorem stageV0_eq (sp : Memref sig .tc .vmem S1024x512 .bf16) (ls : Memref sig .tc .vmem S1024x512 .f32)
    (off : Fin 3 → ℕ) (hoff : ∀ a, off a + S1x512x256.size a ≤ S1x16384x256.size a) :
    stageV0 (F := F) arg5 arg7 arg9 sp ls off hoff = (stageV0a arg7 arg9 sp ls >>= fun r => stageV0b arg5 arg9 off hoff r.1 r.2) := rfl

set_option maxHeartbeats 8000000 in
/-- The body as printed, each pair of loops followed by the words bound beside them. -/
theorem body_eq_aux : cc0_stick_attention (F := F) i arg3 harg3 arg4 harg4 arg5 harg5 arg6 harg6 arg7 harg7 arg8 harg8 arg9 harg9 arg10 harg10 arg11 harg11 arg12 harg12 arg13 harg13 = (do
  stageZ arg9
  let c ← stageM0 arg3 arg4 arg10 harg10 arg11 (qw i) (Scalar.subi (Scalar.muli (Scalar.addi (qw i) 1#32) 1024#32) 512#32) (k0_off1 i 512#32) (k0_off1_inb i 0)
    (broadcast S512x1 (Scalar.ofBits .f32 0x00000000#32 : F .f32))
  let s ← stageM arg3 arg4 arg12 harg12 arg13 (qw i) (Scalar.subi (Scalar.muli (Scalar.addi (qw i) 1#32) 1024#32) 1024#32) (k0_off1 i 1024#32) (k0_off1_inb i 1)
    (broadcast S512x1 (Scalar.ofBits .f32 0x00000000#32 : F .f32)) c
  let r ← stageV0a arg7 arg9 arg10 arg11
  let y ← k0_part57 i arg3 harg3 arg4 harg4 arg5 harg5 arg6 harg6 arg7 harg7 arg8 harg8 arg9 harg9 arg10 harg10 arg11 harg11 arg12 harg12 arg13 harg13 (qw i) s.1 s.2 r.1 r.2 (Scalar.addi (qw i) 1#32) 1024#32
  let z ← k0_part58 i arg3 harg3 arg4 harg4 arg5 harg5 arg6 harg6 arg7 harg7 arg8 harg8 arg9 harg9 arg10 harg10 arg11 harg11 arg12 harg12 arg13 harg13 (qw i) y.1 y.2.1 y.2.2.1 y.2.2.2.1 y.2.2.2.2
  stageVb arg5 arg9 (k0_off10 i) (k0_off10_inb i) z.2.1 z.2.2.1
  stageO arg6 arg8 harg8 arg9) := by
  rfl

theorem body_eq : cc0_stick_attention (F := F) i arg3 harg3 arg4 harg4 arg5 harg5 arg6 harg6 arg7 harg7 arg8 harg8 arg9 harg9 arg10 harg10 arg11 harg11 arg12 harg12 arg13 harg13
      = bodyS i arg3 arg4 arg5 arg6 arg7 arg8 harg8 arg9 arg10 harg10 arg11 arg12 harg12 arg13 := by
  rw [body_eq_aux]
  unfold bodyS
  simp only [part57_eq, part58_eq, stageV0_eq, stageV_eq, bind_assoc, pure_bind]

end chains

end Cert.KernelIdeal.Hand

end
-- ==== Proof.State.lean ====
/-
  What the stages of the attention body compute, as functions of the contents they read. A pass over a tile is a start
  (the two chunks of keys on the diagonal), then pairs of chunks, then the last values stage and the gate.
-/
module

public import proofs.«01_k».proof.Proof.Body
public import Idealize.ShloMosaic.Lib.ValueIdx
public import Idealize.ShloMosaic.Lib.Pipeline.Value
public import Idealize.ShloMosaic.Lib.VecWindow
public import Idealize.ShloMosaic.Lib.Memref

@[expose] public section

noncomputable section

namespace Cert.KernelIdeal.Hand

open Cert.KernelIdeal Cert.KernelIdeal.Gen
open Idealize.ShloMosaic Idealize.ShloMosaic.TcCoe Idealize.ShloMosaic.Tactic
open Idealize.SL.Sem
open Idealize.ShloMosaic.ValueIdx

variable {F : FTy → Type} [FloatOps F] [Named F]

/-! ## Overlays -/

theorem overlay_full {α : Type} {s : Shape} {off : Fin s.rank → ℕ} (inb : ∀ a, off a + s.size a ≤ s.size a) (X : s.Idx → α)
    (w : (Rect.unit off s.size inb).shape.Idx → α) : (Rect.unit off s.size inb).overlay X w = w := by
  funext z
  have h := Rect.overlay_emb (Rect.unit off s.size inb) X w z
  rwa [Rect.emb_unit_full] at h

/-- Two overlays of one payload agree where their grounds do. -/
theorem overlay_congr_at {α : Type} {s : Shape} (r : Rect s) (X Y : s.Idx → α) (w : r.shape.Idx → α) (y : s.Idx) (h : y ∉ r.set → X y = Y y) :
    r.overlay X w y = r.overlay Y w y := by
  by_cases hy : y ∈ r.set
  · obtain ⟨x, rfl⟩ : ∃ x, r.emb x = y := r.exists_idx_of_mem hy
    rw [Rect.overlay_emb, Rect.overlay_emb]
  · rw [Rect.overlay_of_not_mem _ _ _ hy, Rect.overlay_of_not_mem _ _ _ hy, h hy]

/-- The four blocks of a chunk laid over its former contents leave nothing of them. -/
theorem overlay_blocks {α : Type} (X Y : S1024x512.Idx → α) (a b c d : S512x256.Idx → α) :
    rBl0.overlay (rBl1.overlay (rTl0.overlay (rTl1.overlay X a) b) c) d = rBl0.overlay (rBl1.overlay (rTl0.overlay (rTl1.overlay Y a) b) c) d := by
  funext y
  refine overlay_congr_at _ _ _ _ _ fun h1 => overlay_congr_at _ _ _ _ _ fun h2 => overlay_congr_at _ _ _ _ _ fun h3 => overlay_congr_at _ _ _ _ _ fun h4 => ?_
  exfalso
  rw [Rect.mem_set_unit] at h1 h2 h3 h4
  have b0 : (y 0).val < 1024 := (y 0).isLt
  have b1 : (y 1).val < 512 := (y 1).isLt
  rcases Nat.lt_or_ge (y 0).val 512 with k0 | k0 <;> rcases Nat.lt_or_ge (y 1).val 256 with k1 | k1
  · exact h3 (Fin.forall_fin_two.2 ⟨⟨Nat.zero_le _, k0⟩, ⟨Nat.zero_le _, k1⟩⟩)
  · exact h4 (Fin.forall_fin_two.2 ⟨⟨Nat.zero_le _, k0⟩, ⟨k1, b1⟩⟩)
  · exact h1 (Fin.forall_fin_two.2 ⟨⟨k0, b0⟩, ⟨Nat.zero_le _, k1⟩⟩)
  · exact h2 (Fin.forall_fin_two.2 ⟨⟨k0, b0⟩, ⟨k1, b1⟩⟩)

/-! ## Chunks -/

/-- A chunk's softplus as its scratch buffer holds it. -/
def spV (s : FVec F S1024x512 .f32) : Vec F S1024x512 .bf16 :=
  shapeCast S1024x512 (truncf .bf16 s bitsLt_bf16_f32) shapeCasts_S1024x512_S1024x512

/-- A chunk's log-weights laid over `X`. -/
def lsO (X : Vec F S1024x512 .f32) (s l : FVec F S1024x512 .f32) (c : FVec F S512x1 .f32 × FVec F S512x1 .f32) : Vec F S1024x512 .f32 :=
  rBl0.overlay (rBl1.overlay (rTl0.overlay (rTl1.overlay X (shifted (tl1 l) c.1)) (shifted (tl0 l) (carry c.1 (tl1 s)))) (shifted (bl1 l) c.2)) (shifted (bl0 l) (carry c.2 (bl1 s)))

/-- A chunk's log-weights as its scratch buffer holds them. -/
def lsV (s l : FVec F S1024x512 .f32) (c : FVec F S512x1 .f32 × FVec F S512x1 .f32) : Vec F S1024x512 .f32 := lsO l s l c

theorem lsO_eq (X : Vec F S1024x512 .f32) (s l : FVec F S1024x512 .f32) (c : FVec F S512x1 .f32 × FVec F S512x1 .f32) : lsO X s l c = lsV s l c :=
  overlay_blocks _ _ _ _ _ _

/-- The carries after a chunk. -/
def cV (s : FVec F S1024x512 .f32) (c : FVec F S512x1 .f32 × FVec F S512x1 .f32) : FVec F S512x1 .f32 × FVec F S512x1 .f32 :=
  (carry (carry c.1 (tl1 s)) (tl0 s), carry (carry c.2 (bl1 s)) (bl0 s))

/-- The accumulator after a chunk's values. -/
def aV (T : Vec F S256x256 .bf16) (v : Vec F S1x512x256 .bf16) (A : Vec F S1024x256 .f32) (sp : Vec F S1024x512 .bf16) (ls : Vec F S1024x512 .f32) : Vec F S1024x256 .f32 :=
  accOf A (wOf (View.ld sp rC0) T (View.ld ls rC0)) (wOf (View.ld sp rC1) T (View.ld ls rC1)) v

/-- What is carried from chunk to chunk: the row carries, the odd chunk's two buffers, the accumulator. -/
structure St (F : FTy → Type) where
  c : FVec F S512x1 .f32 × FVec F S512x1 .f32
  sp : Vec F S1024x512 .bf16
  ls : Vec F S1024x512 .f32
  acc : Vec F S1024x256 .f32

/-- The softplus and the log-weights of a chunk below the diagonal. -/
def sL (q : Vec F S1x1024x256 .bf16) (k : Vec F S1x512x256 .bf16) : FVec F S1024x512 .f32 := spOf (zOf q k)
def lL (q : Vec F S1x1024x256 .bf16) (k : Vec F S1x512x256 .bf16) : FVec F S1024x512 .f32 := subf (zOf q k) (spOf (zOf q k))

/-- The same of a chunk on the diagonal. -/
def sM (a b : BitVec 32) (q : Vec F S1x1024x256 .bf16) (k : Vec F S1x512x256 .bf16) : FVec F S1024x512 .f32 :=
  select (maskOf (qpos a) b) (spOf (zOf q k)) (broadcast S1024x512 (Scalar.ofBits .f32 0x00000000#32))
def lM (a b : BitVec 32) (q : Vec F S1x1024x256 .bf16) (k : Vec F S1x512x256 .bf16) : FVec F S1024x512 .f32 :=
  select (maskOf (qpos a) b) (subf (zOf q k) (spOf (zOf q k))) (broadcast S1024x512 (Named.named κ "mask" 0xF149F2CA#32))

/-- The same of its bottom half. -/
def sH (a b : BitVec 32) (q : Vec F S1x512x256 .bf16) (k : Vec F S1x512x256 .bf16) : FVec F S512x512 .f32 :=
  select (maskOfH (qpos a) b) (spOfH (zOfH q k)) (broadcast S512x512 (Scalar.ofBits .f32 0x00000000#32))
def lH (a b : BitVec 32) (q : Vec F S1x512x256 .bf16) (k : Vec F S1x512x256 .bf16) : FVec F S512x512 .f32 :=
  select (maskOfH (qpos a) b) (subf (zOfH q k) (spOfH (zOfH q k))) (broadcast S512x512 (Named.named κ "mask" 0xF149F2CA#32))

/-- The zero carry. -/
def zC : FVec F S512x1 .f32 := broadcast S512x1 (Scalar.ofBits .f32 0x00000000#32 : F .f32)

/-- The carry of the bottom half after the first chunk. -/
def cH (s : FVec F S512x512 .f32) (c : FVec F S512x1 .f32) : FVec F S512x1 .f32 := carry (carry c (hl1 s)) (hl0 s)

/-- A half chunk's softplus as its scratch buffer holds it, and its two blocks. -/
def spH (s : FVec F S512x512 .f32) : Vec F S512x512 .bf16 := shapeCast S512x512 (truncf .bf16 s bitsLt_bf16_f32) shapeCasts_S512x512_S512x512
def cut0 {α : Type} (w : S512x512.Idx → α) : S512x256.Idx → α := fun z => w (ix2 ⟨(z 0).val, (z 0).isLt⟩ ⟨(z 1).val, Nat.lt_of_lt_of_le (z 1).isLt (by decide)⟩)
def cut1 {α : Type} (w : S512x512.Idx → α) : S512x256.Idx → α := fun z => w (ix2 ⟨(z 0).val, (z 0).isLt⟩ ⟨256 + (z 1).val, Nat.add_lt_add_left (z 1).isLt 256⟩)

theorem ld_cut0 {Val : EltTy → Type} {e : EltTy} (X : S1024x512.Idx → Val e) (w : S512x512.Idx → Val e) : View.ld (rCH.overlay X w) rBl0 = cut0 w := by
  funext z
  have h : rBl0.emb z = rCH.emb (ix2 ⟨(z 0).val, (z 0).isLt⟩ ⟨(z 1).val, Nat.lt_of_lt_of_le (z 1).isLt (by decide)⟩ : S512x512.Idx) :=
    funext fun a => Fin.ext (by revert a; refine Fin.forall_fin_two.2 ⟨?_, ?_⟩ <;> rfl)
  show rCH.overlay X w (rBl0.emb z) = _
  rw [h, Rect.overlay_emb]
  rfl

theorem ld_cut1 {Val : EltTy → Type} {e : EltTy} (X : S1024x512.Idx → Val e) (w : S512x512.Idx → Val e) : View.ld (rCH.overlay X w) rBl1 = cut1 w := by
  funext z
  have h : rBl1.emb z = rCH.emb (ix2 ⟨(z 0).val, (z 0).isLt⟩ ⟨256 + (z 1).val, Nat.add_lt_add_left (z 1).isLt 256⟩ : S512x512.Idx) :=
    funext fun a => Fin.ext (by
      revert a; refine Fin.forall_fin_two.2 ⟨rfl, ?_⟩
      show 256 + 1 * (z 1).val = 0 + 1 * (256 + (z 1).val)
      omega)
  show rCH.overlay X w (rBl1.emb z) = _
  rw [h, Rect.overlay_emb]
  rfl

theorem ld_bl0 {Val : EltTy → Type} {e : EltTy} (X : S1024x512.Idx → Val e) (a b : S512x256.Idx → Val e) : View.ld (rBl0.overlay (rBl1.overlay X a) b) rBl0 = b :=
  funext fun z => Rect.overlay_emb rBl0 _ b z

theorem ld_bl1 {Val : EltTy → Type} {e : EltTy} (X : S1024x512.Idx → Val e) (a b : S512x256.Idx → Val e) : View.ld (rBl0.overlay (rBl1.overlay X a) b) rBl1 = a := by
  funext z
  show rBl0.overlay _ b (rBl1.emb z) = _
  rw [Rect.overlay_of_not_mem _ _ _ ?_, Rect.overlay_emb]
  refine Rect.not_mem_set_of_axis _ _ 1 0 256 rfl rfl rfl (Or.inr ?_)
  show 0 + 256 ≤ 256 + 1 * (z 1).val
  omega

/-- The accumulator, zero, and after the first chunk's values. -/
def aZ : Vec F S1024x256 .f32 := shapeCast S1024x256 (broadcast S1024x256 (Scalar.ofBits .f32 0x00000000#32 : F .f32)) shapeCasts_S1024x256_S1024x256
def aH (T : Vec F S256x256 .bf16) (v : Vec F S1x512x256 .bf16) (A : Vec F S1024x256 .f32) (s l : FVec F S512x512 .f32) (c : FVec F S512x1 .f32) : Vec F S1024x256 .f32 :=
  rAH.overlay A (accOfH (View.ld A rAH) (wOfH (cut0 (spH s)) T (shifted (hl0 l) (carry c (hl1 s)))) (wOfH (cut1 (spH s)) T (shifted (hl1 l) c)) v)

/-! ## A tile -/

section tile

variable (i : grid0.Coords) (q : Vec F S1x1024x256 .bf16) (K V : Vec F S1x16384x256 .bf16) (T : Vec F S256x256 .bf16)

abbrev ldK (K : Vec F S1x16384x256 .bf16) (off : Fin 3 → ℕ) (h : ∀ a, off a + S1x512x256.size a ≤ S1x16384x256.size a) : Vec F S1x512x256 .bf16 := View.ld K (rK off h)

/-- A pair of chunks. -/
def pairS (offE offO offP : Fin 3 → ℕ) (hE : ∀ a, offE a + S1x512x256.size a ≤ S1x16384x256.size a)
    (hO : ∀ a, offO a + S1x512x256.size a ≤ S1x16384x256.size a) (hP : ∀ a, offP a + S1x512x256.size a ≤ S1x16384x256.size a) (s : St F) : St F where
  c := cV (sL q (ldK K offO hO)) (cV (sL q (ldK K offE hE)) s.c)
  sp := spV (sL q (ldK K offO hO))
  ls := lsV (sL q (ldK K offO hO)) (lL q (ldK K offO hO)) (cV (sL q (ldK K offE hE)) s.c)
  acc := aV T (ldK V offE hE) (aV T (ldK V offP hP) s.acc s.sp s.ls) (spV (sL q (ldK K offE hE))) (lsV (sL q (ldK K offE hE)) (lL q (ldK K offE hE)) s.c)

/-- A trip of the loop over four pairs, and of the loop over one. -/
def tripS1 (k : Fin (k0_t1_loop i).trips) (s : St F) : St F :=
  pairS q K V T (k0_off2 i k 6#32 1#32) (k0_off2 i k 6#32 2#32) (k0_off3 i k 6#32) (k0_off2_inb i k 3 0) (k0_off2_inb i k 3 1) (k0_off3_inb i k 3)
  (pairS q K V T (k0_off2 i k 4#32 1#32) (k0_off2 i k 4#32 2#32) (k0_off3 i k 4#32) (k0_off2_inb i k 2 0) (k0_off2_inb i k 2 1) (k0_off3_inb i k 2)
  (pairS q K V T (k0_off2 i k 2#32 1#32) (k0_off2 i k 2#32 2#32) (k0_off3 i k 2#32) (k0_off2_inb i k 1 0) (k0_off2_inb i k 1 1) (k0_off3_inb i k 1)
  (pairS q K V T (k0_off2 i k 0#32 1#32) (k0_off2 i k 0#32 2#32) (k0_off3 i k 0#32) (k0_off2_inb i k 0 0) (k0_off2_inb i k 0 1) (k0_off3_inb i k 0) s)))

def tripS3 (k : Fin (k0_t3_loop i).trips) (s : St F) : St F :=
  pairS q K V T (k0_off6 i k 1#32) (k0_off6 i k 2#32) (k0_off7 i k) (k0_off6_inb i k 0) (k0_off6_inb i k 1) (k0_off7_inb i k) s

/-- The state after `n` trips. -/
def iter {n : ℕ} {σ : Type} (f : Fin n → σ → σ) (s : σ) : ℕ → σ
  | 0 => s
  | m + 1 => if h : m < n then f ⟨m, h⟩ (iter f s m) else iter f s m

theorem iter_succ {n : ℕ} {σ : Type} (f : Fin n → σ → σ) (s : σ) (k : Fin n) : iter f s (k.val + 1) = f k (iter f s k.val) := by
  rw [iter, dif_pos k.isLt]

/-- The keys the two chunks on the diagonal start at, as words. -/
abbrev w0 : BitVec 32 := Scalar.subi (Scalar.muli (Scalar.addi (qw i) 1#32) 1024#32) 512#32
abbrev w1 : BitVec 32 := Scalar.subi (Scalar.muli (Scalar.addi (qw i) 1#32) 1024#32) 1024#32
abbrev K0 : Vec F S1x512x256 .bf16 := ldK K (k0_off1 i 512#32) (k0_off1_inb i 0)
abbrev K1 : Vec F S1x512x256 .bf16 := ldK K (k0_off1 i 1024#32) (k0_off1_inb i 1)

/-- The carry after the first chunk, and the state after the start. -/
def c1S : FVec F S512x1 .f32 := cH (sH (qw i) (w0 i) (View.ld q rQH) (K0 i K)) zC

def startS : St F where
  c := cV (sM (qw i) (w1 i) q (K1 i K)) (zC, c1S i q K)
  sp := spV (sM (qw i) (w1 i) q (K1 i K))
  ls := lsV (sM (qw i) (w1 i) q (K1 i K)) (lM (qw i) (w1 i) q (K1 i K)) (zC, c1S i q K)
  acc := aH T (K0 i V) aZ (sH (qw i) (w0 i) (View.ld q rQH) (K0 i K)) (lH (qw i) (w0 i) (View.ld q rQH) (K0 i K)) zC

def mid1S : St F := iter (tripS1 i q K V T) (startS i q K V T) (k0_t1_loop i).trips
def mid3S : St F := iter (tripS3 i q K V T) (mid1S i q K V T) (k0_t3_loop i).trips

/-- The accumulator at the end, and the tile's output. -/
def endA : Vec F S1024x256 .f32 := aV T (ldK V (k0_off10 i) (k0_off10_inb i)) (mid3S i q K V T).acc (mid3S i q K V T).sp (mid3S i q K V T).ls
def outS (g : Vec F S1x1024x256 .f32) : Vec F S1x1024x256 .bf16 := outOf (endA i q K V T) g

end tile

end Cert.KernelIdeal.Hand

end
-- ==== Proof.Own.lean ====
/-
  Loads and stores on owned memrefs. The two rules of the logic, restated at the resource `owns c m q X` ("core `c`
  owns the memref and reads `X` through it"): a load continues at the part of `X` under its rectangle, a store of a
  whole payload continues owning the overlay of the payload on `X`.
-/
module

public import Idealize.ShloMosaic.Lib.Memref
public import Idealize.ShloMosaic.Lib.Pipeline.FrameBody
public import Idealize.ShloMosaic.Lib.Pipeline.TableIdle
public import Idealize.ShloMosaic.Rules.Step

@[expose] public section

noncomputable section

namespace Cert.Hand

open Idealize.ShloMosaic
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Val : EltTy → Type}
variable {U : Type} [URA U] {Λ : Labels}

local notation "𝕄" => MT nD τ sig Unit Val ℕ U ℕ

variable {defs : Defs nD τ sig Val Λ} (𝒱 : Variants) (c : Thread nD τ) (bd : Option 𝒱.V) (E : Set ℕ)

/-- What a view reads after a whole-payload write under a rectangle: the payload over what it read before. -/
theorem read_write_overlay {κ : Kind} {sp : Space} {s : Shape} {e : EltTy} (v : View sig κ sp s e) (r : Rect s)
    (f : v.ty.Contents Val) (w : r.shape.Idx → Val e) :
    v.read Val ((v.slice r).write Val f w Finset.univ) = r.overlay (v.read Val f) w := by
  funext y
  by_cases hy : y ∈ r.set
  · obtain ⟨x, rfl⟩ : ∃ x, r.emb x = y := r.exists_idx_of_mem hy
    rw [Rect.overlay_emb]
    have := View.read_writes_cons_emb (Val := Val) v f r w [] x
    simpa using this
  · rw [Rect.overlay_of_not_mem _ _ _ hy]
    have hy' : y ∉ Finset.univ.map r.emb := by rwa [Rect.map_emb_univ]
    rw [View.read_slice_write_of_not_mem r _ _ _ hy']

/-- A load of a rectangle at the head of a program. -/
theorem own_load {cs : CoreSpace} {s : Shape} {e : EltTy} {m : Memref sig c.2.kind cs s e} {r : Rect s}
    {hl : m.view.LoadsAt r.toLoadRect} {α : Type} {k : (r.shape.Idx → Val e) → Prog (TpuEff nD τ sig Val Λ c.2) α}
    {Q : α → sProp 𝕄} {q : PosShare TreeShare} {X : s.Idx → Val e} :
    (owns c m q X : sProp 𝕄)
      ⊢ iprop((owns c m q X -∗ wp frame (wpE defs 𝒱 c bd) E (k (View.ld X r)) Q)
        -∗ wp frame (wpE defs 𝒱 c bd) E (.op (.load m r.toLoadRect hl) k) Q) := by
  unfold owns
  iintro ⟨%f, %hf, H⟩ Hk
  iapply (wp_load_rect 𝒱 c bd E (m := m) (r := r) (View.set_slice_subset _ _)) $$ H
  iintro H
  have hk : k ((m.access r).read Val f) = k (View.ld X r) := by rw [← hf]; rfl
  rw [hk]
  iapply Hk
  iexists f
  isplitr
  · ipureintro; exact hf
  · iexact H

/-- A store of a whole payload at the head of a program. -/
theorem own_store {cs : CoreSpace} {s : Shape} {e : EltTy} {m : Memref sig c.2.kind cs s e} {r : Rect s} {w : r.shape.Idx → Val e}
    {hx : (m.access r).Stores Finset.univ} {hm : (Finset.univ : Finset r.shape.Idx) = Finset.univ ∨ ∀ a, r.stride a = 1}
    {α : Type} {k : PUnit → Prog (TpuEff nD τ sig Val Λ c.2) α} {Q : α → sProp 𝕄} {X : s.Idx → Val e} :
    (owns c m fullShare X : sProp 𝕄)
      ⊢ iprop((owns c m fullShare (r.overlay X w) -∗ wp frame (wpE defs 𝒱 c bd) E (k ⟨⟩) Q)
        -∗ wp frame (wpE defs 𝒱 c bd) E (.op (.store m r w Finset.univ hx hm) k) Q) := by
  unfold owns
  iintro ⟨%f, %hf, H⟩ Hk
  iapply (wp_store 𝒱 c bd E (m := m) (r := r) (Mk := Finset.univ) (View.set_slice_subset _ _)) $$ H
  iintro H
  iapply Hk
  iexists ((m.access r).write Val f w Finset.univ)
  isplitr
  · ipureintro
    rw [← hf]; exact read_write_overlay _ _ _ _
  · iexact H

end Cert.Hand

end
-- ==== Proof.Stage.lean ====
/-
  The stages of the attention body run: each continues at the contents State.lean gives.
-/
module

public import proofs.«01_k».proof.Proof.State
public import proofs.«01_k».proof.Proof.Own
public import Idealize.ShloMosaic.Lib.Tactic

@[expose] public section

noncomputable section

namespace Cert.KernelIdeal.Hand

open Cert.KernelIdeal Cert.KernelIdeal.Gen Cert.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

theorem ld_rQ {e : EltTy} (X : Vec F S1x1024x256 e) : View.ld X rQ = X := View.ld_unit_zero (funext fun a => by fin_cases a <;> rfl) _ _
theorem ld_rT {e : EltTy} (X : Vec F S256x256 e) : View.ld X rT = X := View.ld_unit_zero (funext fun a => by fin_cases a <;> rfl) _ _
theorem ld_rA {e : EltTy} (X : Vec F S1024x256 e) : View.ld X rA = X := View.ld_unit_zero (funext fun a => by fin_cases a <;> rfl) _ _

section stages

variable (𝒱 : Variants) (c : Dev nD) (bd : Option 𝒱.V) (E : Set ℕ) (arg3 : Memref sig .tc .vmem S1x1024x256 .bf16) (arg4 arg5 : Memref sig .tc .vmem S1x16384x256 .bf16)
  (arg6 : Memref sig .tc .vmem S1x1024x256 .f32) (arg7 : Memref sig .tc .vmem S256x256 .bf16)
  (arg8 : Memref sig .tc .vmem S1x1024x256 .bf16) (h8 : arg8.IsWhole) (arg9 : Memref sig .tc .vmem S1024x256 .f32)
  (sp : Memref sig .tc .vmem S1024x512 .bf16) (hsp : sp.IsWhole) (ls : Memref sig .tc .vmem S1024x512 .f32)

theorem wp_tail (s l : FVec F S1024x512 .f32) (cc : FVec F S512x1 .f32 × FVec F S512x1 .f32) {α : Type}
    {k : FVec F S512x1 .f32 × FVec F S512x1 .f32 → Prog (TpuEff nD τ sig (Elt F) Λ₀ .tc) α} {Q : α → sProp 𝕄} :
    (iprop((∃ X, owns c sp fullShare X) ∗ (∃ X, owns c ls fullShare X)) : sProp 𝕄)
      ⊢ iprop((iprop(owns c sp fullShare (spV s) ∗ owns c ls fullShare (lsV s l cc)) -∗ wp frame (wpE (defs₀ (F := F)) 𝒱 (c : Thread nD τ) bd) E (k (cV s cc)) Q)
        -∗ wp frame (wpE (defs₀ (F := F)) 𝒱 (c : Thread nD τ) bd) E (stageTail sp hsp ls s l cc.1 cc.2 >>= k) Q) := by
  iintro ⟨⟨%X, Hs⟩, ⟨%Y, Hl⟩⟩ Hk
  unfold stageTail
  simp only [bind_assoc, Prog.bind_lift, pure_bind]
  iapply (own_load 𝒱 (c : Thread nD τ) bd E (m := sp)) $$ Hs
  iintro Hs
  iapply (own_store 𝒱 (c : Thread nD τ) bd E (m := sp)) $$ Hs
  iintro Hs
  iapply (own_load 𝒱 (c : Thread nD τ) bd E (m := ls)) $$ Hl
  iintro Hl
  iapply (own_store 𝒱 (c : Thread nD τ) bd E (m := ls)) $$ Hl
  iintro Hl
  iapply (own_load 𝒱 (c : Thread nD τ) bd E (m := ls)) $$ Hl
  iintro Hl
  iapply (own_store 𝒱 (c : Thread nD τ) bd E (m := ls)) $$ Hl
  iintro Hl
  iapply (own_load 𝒱 (c : Thread nD τ) bd E (m := ls)) $$ Hl
  iintro Hl
  iapply (own_store 𝒱 (c : Thread nD τ) bd E (m := ls)) $$ Hl
  iintro Hl
  iapply (own_load 𝒱 (c : Thread nD τ) bd E (m := ls)) $$ Hl
  iintro Hl
  iapply (own_store 𝒱 (c : Thread nD τ) bd E (m := ls)) $$ Hl
  iintro Hl
  iapply Hk
  rw [overlay_full, ← lsO_eq Y]
  isplitl [Hs]; · iexact Hs
  iexact Hl

theorem wp_stageL (off : Fin 3 → ℕ) (hoff : ∀ a, off a + S1x512x256.size a ≤ S1x16384x256.size a) (cc : FVec F S512x1 .f32 × FVec F S512x1 .f32) (q : Vec F S1x1024x256 .bf16) (K : Vec F S1x16384x256 .bf16) {α : Type}
    {k : FVec F S512x1 .f32 × FVec F S512x1 .f32 → Prog (TpuEff nD τ sig (Elt F) Λ₀ .tc) α} {Q : α → sProp 𝕄} :
    (iprop(owns c arg3 fullShare q ∗ owns c arg4 fullShare K ∗ (∃ X, owns c sp fullShare X) ∗ (∃ X, owns c ls fullShare X)) : sProp 𝕄)
      ⊢ iprop((iprop(owns c arg3 fullShare q ∗ owns c arg4 fullShare K ∗ owns c sp fullShare (spV (sL q (ldK K off hoff))) ∗ owns c ls fullShare (lsV (sL q (ldK K off hoff)) (lL q (ldK K off hoff)) cc)) -∗ wp frame (wpE (defs₀ (F := F)) 𝒱 (c : Thread nD τ) bd) E (k (cV (sL q (ldK K off hoff)) cc)) Q)
        -∗ wp frame (wpE (defs₀ (F := F)) 𝒱 (c : Thread nD τ) bd) E (stageL arg3 arg4 sp hsp ls off hoff cc.1 cc.2 >>= k) Q) := by
  iintro ⟨Hq, HK, HX, HY⟩ Hk
  unfold stageL
  simp only [bind_assoc, Prog.bind_lift, pure_bind]
  iapply (own_load 𝒱 (c : Thread nD τ) bd E (m := arg3)) $$ Hq
  iintro Hq
  iapply (own_load 𝒱 (c : Thread nD τ) bd E (m := arg4)) $$ HK
  iintro HK
  rw [ld_rQ]
  iapply (wp_tail 𝒱 c bd E sp hsp ls _ _ cc) $$ [HX HY]
  · isplitl [HX]; · iexact HX
    iexact HY
  iintro ⟨Hs, Hl⟩
  iapply Hk
  isplitl [Hq]; · iexact Hq
  isplitl [HK]; · iexact HK
  isplitl [Hs]; · iexact Hs
  iexact Hl

theorem wp_stageM (a b : BitVec 32) (off : Fin 3 → ℕ) (hoff : ∀ a, off a + S1x512x256.size a ≤ S1x16384x256.size a) (cc : FVec F S512x1 .f32 × FVec F S512x1 .f32) (q : Vec F S1x1024x256 .bf16) (K : Vec F S1x16384x256 .bf16) {α : Type}
    {k : FVec F S512x1 .f32 × FVec F S512x1 .f32 → Prog (TpuEff nD τ sig (Elt F) Λ₀ .tc) α} {Q : α → sProp 𝕄} :
    (iprop(owns c arg3 fullShare q ∗ owns c arg4 fullShare K ∗ (∃ X, owns c sp fullShare X) ∗ (∃ X, owns c ls fullShare X)) : sProp 𝕄)
      ⊢ iprop((iprop(owns c arg3 fullShare q ∗ owns c arg4 fullShare K ∗ owns c sp fullShare (spV (sM a b q (ldK K off hoff))) ∗ owns c ls fullShare (lsV (sM a b q (ldK K off hoff)) (lM a b q (ldK K off hoff)) cc)) -∗ wp frame (wpE (defs₀ (F := F)) 𝒱 (c : Thread nD τ) bd) E (k (cV (sM a b q (ldK K off hoff)) cc)) Q)
        -∗ wp frame (wpE (defs₀ (F := F)) 𝒱 (c : Thread nD τ) bd) E (stageM arg3 arg4 sp hsp ls a b off hoff cc.1 cc.2 >>= k) Q) := by
  iintro ⟨Hq, HK, HX, HY⟩ Hk
  unfold stageM
  simp only [bind_assoc, Prog.bind_lift, pure_bind]
  iapply (own_load 𝒱 (c : Thread nD τ) bd E (m := arg3)) $$ Hq
  iintro Hq
  iapply (own_load 𝒱 (c : Thread nD τ) bd E (m := arg4)) $$ HK
  iintro HK
  rw [ld_rQ]
  iapply (wp_tail 𝒱 c bd E sp hsp ls _ _ cc) $$ [HX HY]
  · isplitl [HX]; · iexact HX
    iexact HY
  iintro ⟨Hs, Hl⟩
  iapply Hk
  isplitl [Hq]; · iexact Hq
  isplitl [HK]; · iexact HK
  isplitl [Hs]; · iexact Hs
  iexact Hl

/-- The first chunk's: only the bottom half's blocks are written, so what is left is known where it is read. -/
theorem wp_stageM0 (a b : BitVec 32) (off : Fin 3 → ℕ) (hoff : ∀ a, off a + S1x512x256.size a ≤ S1x16384x256.size a) (c1 : FVec F S512x1 .f32) (q : Vec F S1x1024x256 .bf16) (K : Vec F S1x16384x256 .bf16) {α : Type}
    {k : FVec F S512x1 .f32 → Prog (TpuEff nD τ sig (Elt F) Λ₀ .tc) α} {Q : α → sProp 𝕄} :
    (iprop(owns c arg3 fullShare q ∗ owns c arg4 fullShare K ∗ (∃ X, owns c sp fullShare X) ∗ (∃ X, owns c ls fullShare X)) : sProp 𝕄)
      ⊢ iprop((iprop(owns c arg3 fullShare q ∗ owns c arg4 fullShare K ∗ (∃ X, owns c sp fullShare (rCH.overlay X (spH (sH a b (View.ld q rQH) (ldK K off hoff)))))
            ∗ (∃ X, owns c ls fullShare (rBl0.overlay (rBl1.overlay X (shifted (hl1 (lH a b (View.ld q rQH) (ldK K off hoff))) c1)) (shifted (hl0 (lH a b (View.ld q rQH) (ldK K off hoff))) (carry c1 (hl1 (sH a b (View.ld q rQH) (ldK K off hoff)))))))) -∗ wp frame (wpE (defs₀ (F := F)) 𝒱 (c : Thread nD τ) bd) E (k (cH (sH a b (View.ld q rQH) (ldK K off hoff)) c1)) Q)
        -∗ wp frame (wpE (defs₀ (F := F)) 𝒱 (c : Thread nD τ) bd) E (stageM0 arg3 arg4 sp hsp ls a b off hoff c1 >>= k) Q) := by
  iintro ⟨Hq, HK, ⟨%X, Hs⟩, ⟨%Y, Hl⟩⟩ Hk
  unfold stageM0
  simp only [bind_assoc, Prog.bind_lift, pure_bind]
  iapply (own_load 𝒱 (c : Thread nD τ) bd E (m := arg3)) $$ Hq
  iintro Hq
  iapply (own_load 𝒱 (c : Thread nD τ) bd E (m := arg4)) $$ HK
  iintro HK
  iapply (own_load 𝒱 (c : Thread nD τ) bd E (m := sp)) $$ Hs
  iintro Hs
  iapply (own_store 𝒱 (c : Thread nD τ) bd E (m := sp)) $$ Hs
  iintro Hs
  iapply (own_load 𝒱 (c : Thread nD τ) bd E (m := ls)) $$ Hl
  iintro Hl
  iapply (own_store 𝒱 (c : Thread nD τ) bd E (m := ls)) $$ Hl
  iintro Hl
  iapply (own_load 𝒱 (c : Thread nD τ) bd E (m := ls)) $$ Hl
  iintro Hl
  iapply (own_store 𝒱 (c : Thread nD τ) bd E (m := ls)) $$ Hl
  iintro Hl
  iapply Hk
  isplitl [Hq]; · iexact Hq
  isplitl [HK]; · iexact HK
  isplitl [Hs]
  · iexists X; iexact Hs
  iexists Y; iexact Hl

theorem wp_stageV (off : Fin 3 → ℕ) (hoff : ∀ a, off a + S1x512x256.size a ≤ S1x16384x256.size a) (V : Vec F S1x16384x256 .bf16) (T : Vec F S256x256 .bf16) (A : Vec F S1024x256 .f32) (X : Vec F S1024x512 .bf16) (Y : Vec F S1024x512 .f32) {α : Type}
    {k : PUnit → Prog (TpuEff nD τ sig (Elt F) Λ₀ .tc) α} {Q : α → sProp 𝕄} :
    (iprop(owns c arg5 fullShare V ∗ owns c arg7 fullShare T ∗ owns c arg9 fullShare A ∗ owns c sp fullShare X ∗ owns c ls fullShare Y) : sProp 𝕄)
      ⊢ iprop((iprop(owns c arg5 fullShare V ∗ owns c arg7 fullShare T ∗ owns c arg9 fullShare (aV T (ldK V off hoff) A X Y) ∗ owns c sp fullShare X ∗ owns c ls fullShare Y) -∗ wp frame (wpE (defs₀ (F := F)) 𝒱 (c : Thread nD τ) bd) E (k ⟨⟩) Q)
        -∗ wp frame (wpE (defs₀ (F := F)) 𝒱 (c : Thread nD τ) bd) E (stageV arg5 arg7 arg9 sp ls off hoff >>= k) Q) := by
  iintro ⟨HV, HT, HA, Hs, Hl⟩ Hk
  unfold stageV
  simp only [bind_assoc, Prog.bind_lift, pure_bind]
  iapply (own_load 𝒱 (c : Thread nD τ) bd E (m := sp)) $$ Hs
  iintro Hs
  iapply (own_load 𝒱 (c : Thread nD τ) bd E (m := arg7)) $$ HT
  iintro HT
  iapply (own_load 𝒱 (c : Thread nD τ) bd E (m := ls)) $$ Hl
  iintro Hl
  iapply (own_load 𝒱 (c : Thread nD τ) bd E (m := sp)) $$ Hs
  iintro Hs
  iapply (own_load 𝒱 (c : Thread nD τ) bd E (m := arg7)) $$ HT
  iintro HT
  iapply (own_load 𝒱 (c : Thread nD τ) bd E (m := ls)) $$ Hl
  iintro Hl
  iapply (own_load 𝒱 (c : Thread nD τ) bd E (m := arg9)) $$ HA
  iintro HA
  iapply (own_load 𝒱 (c : Thread nD τ) bd E (m := arg5)) $$ HV
  iintro HV
  iapply (own_load 𝒱 (c : Thread nD τ) bd E (m := arg9)) $$ HA
  iintro HA
  iapply (own_store 𝒱 (c : Thread nD τ) bd E (m := arg9)) $$ HA
  iintro HA
  iapply Hk
  rw [overlay_full, ld_rT, ld_rA]
  isplitl [HV]; · iexact HV
  isplitl [HT]; · iexact HT
  isplitl [HA]; · iexact HA
  isplitl [Hs]; · iexact Hs
  iexact Hl

theorem wp_stageV0 (off : Fin 3 → ℕ) (hoff : ∀ a, off a + S1x512x256.size a ≤ S1x16384x256.size a) (V : Vec F S1x16384x256 .bf16) (T : Vec F S256x256 .bf16) (A : Vec F S1024x256 .f32) (s l : FVec F S512x512 .f32) (c1 : FVec F S512x1 .f32) {α : Type}
    {k : PUnit → Prog (TpuEff nD τ sig (Elt F) Λ₀ .tc) α} {Q : α → sProp 𝕄} :
    (iprop(owns c arg5 fullShare V ∗ owns c arg7 fullShare T ∗ owns c arg9 fullShare A ∗ (∃ X, owns c sp fullShare (rCH.overlay X (spH s)))
        ∗ (∃ X, owns c ls fullShare (rBl0.overlay (rBl1.overlay X (shifted (hl1 l) c1)) (shifted (hl0 l) (carry c1 (hl1 s)))))) : sProp 𝕄)
      ⊢ iprop((iprop(owns c arg5 fullShare V ∗ owns c arg7 fullShare T ∗ owns c arg9 fullShare (aH T (ldK V off hoff) A s l c1) ∗ (∃ X, owns c sp fullShare X) ∗ (∃ X, owns c ls fullShare X)) -∗ wp frame (wpE (defs₀ (F := F)) 𝒱 (c : Thread nD τ) bd) E (k ⟨⟩) Q)
        -∗ wp frame (wpE (defs₀ (F := F)) 𝒱 (c : Thread nD τ) bd) E (stageV0 arg5 arg7 arg9 sp ls off hoff >>= k) Q) := by
  iintro ⟨HV, HT, HA, ⟨%X, Hs⟩, ⟨%Y, Hl⟩⟩ Hk
  unfold stageV0
  simp only [bind_assoc, Prog.bind_lift, pure_bind]
  iapply (own_load 𝒱 (c : Thread nD τ) bd E (m := sp)) $$ Hs
  iintro Hs
  iapply (own_load 𝒱 (c : Thread nD τ) bd E (m := arg7)) $$ HT
  iintro HT
  iapply (own_load 𝒱 (c : Thread nD τ) bd E (m := ls)) $$ Hl
  iintro Hl
  iapply (own_load 𝒱 (c : Thread nD τ) bd E (m := sp)) $$ Hs
  iintro Hs
  iapply (own_load 𝒱 (c : Thread nD τ) bd E (m := arg7)) $$ HT
  iintro HT
  iapply (own_load 𝒱 (c : Thread nD τ) bd E (m := ls)) $$ Hl
  iintro Hl
  iapply (own_load 𝒱 (c : Thread nD τ) bd E (m := arg9)) $$ HA
  iintro HA
  iapply (own_load 𝒱 (c : Thread nD τ) bd E (m := arg5)) $$ HV
  iintro HV
  iapply (own_load 𝒱 (c : Thread nD τ) bd E (m := arg9)) $$ HA
  iintro HA
  iapply (own_store 𝒱 (c : Thread nD τ) bd E (m := arg9)) $$ HA
  iintro HA
  iapply Hk
  rw [ld_rT, ld_cut0, ld_cut1, ld_bl0, ld_bl1]
  isplitl [HV]; · iexact HV
  isplitl [HT]; · iexact HT
  isplitl [HA]; · iexact HA
  isplitl [Hs]
  · iexists _; iexact Hs
  iexists _; iexact Hl

theorem wp_stageZ {α : Type} {k : PUnit → Prog (TpuEff nD τ sig (Elt F) Λ₀ .tc) α} {Q : α → sProp 𝕄} :
    (iprop(∃ X, owns c arg9 fullShare X) : sProp 𝕄)
      ⊢ iprop((owns c arg9 fullShare (aZ (F := F)) -∗ wp frame (wpE (defs₀ (F := F)) 𝒱 (c : Thread nD τ) bd) E (k ⟨⟩) Q) -∗ wp frame (wpE (defs₀ (F := F)) 𝒱 (c : Thread nD τ) bd) E (stageZ (F := F) arg9 >>= k) Q) := by
  iintro ⟨%X, HA⟩ Hk
  unfold stageZ
  simp only [bind_assoc, Prog.bind_lift, pure_bind]
  iapply (own_load 𝒱 (c : Thread nD τ) bd E (m := arg9)) $$ HA
  iintro HA
  iapply (own_store 𝒱 (c : Thread nD τ) bd E (m := arg9)) $$ HA
  iintro HA
  iapply Hk
  rw [overlay_full]
  iexact HA

theorem wp_stageO (A : Vec F S1024x256 .f32) (g : Vec F S1x1024x256 .f32) {Q : PUnit → sProp 𝕄} :
    (iprop(owns c arg9 fullShare A ∗ owns c arg6 fullShare g ∗ (∃ X, owns c arg8 fullShare X)) : sProp 𝕄)
      ⊢ iprop((iprop(owns c arg9 fullShare A ∗ owns c arg6 fullShare g ∗ owns c arg8 fullShare (outOf A g)) -∗ Q ⟨⟩)
        -∗ wp frame (wpE (defs₀ (F := F)) 𝒱 (c : Thread nD τ) bd) E (stageO arg6 arg8 h8 arg9) Q) := by
  iintro ⟨HA, Hg, ⟨%X, HO⟩⟩ Hk
  unfold stageO
  simp only [bind_assoc, Prog.bind_lift, pure_bind]
  iapply (own_load 𝒱 (c : Thread nD τ) bd E (m := arg9)) $$ HA
  iintro HA
  iapply (own_load 𝒱 (c : Thread nD τ) bd E (m := arg6)) $$ Hg
  iintro Hg
  iapply (own_load 𝒱 (c : Thread nD τ) bd E (m := arg8)) $$ HO
  iintro HO
  iapply (own_store 𝒱 (c : Thread nD τ) bd E (m := arg8)) $$ HO
  iintro HO
  rw [overlay_full, ld_rA, ld_rQ]
  iapply (le_wp_ret frame (wpE (defs₀ (F := F)) 𝒱 (c : Thread nD τ) bd) (E := E))
  iapply Hk
  isplitl [HA]; · iexact HA
  isplitl [Hg]; · iexact Hg
  iexact HO

end stages

end Cert.KernelIdeal.Hand

end
-- ==== Proof.Run.lean ====
/-
  The attention body runs: a pair of chunks, the two loops, a tile.
-/
module

public import proofs.«01_k».proof.Proof.Stage

@[expose] public section

noncomputable section

namespace Cert.KernelIdeal.Hand

open Cert.KernelIdeal Cert.KernelIdeal.Gen Cert.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

section tile

variable (𝒱 : Variants) (c : Dev nD) (bd : Option 𝒱.V) (E : Set ℕ) (i : grid0.Coords) (arg3 : Memref sig .tc .vmem S1x1024x256 .bf16) (arg4 arg5 : Memref sig .tc .vmem S1x16384x256 .bf16)
  (arg6 : Memref sig .tc .vmem S1x1024x256 .f32) (arg7 : Memref sig .tc .vmem S256x256 .bf16)
  (arg8 : Memref sig .tc .vmem S1x1024x256 .bf16) (harg8 : arg8.IsWhole) (arg9 : Memref sig .tc .vmem S1024x256 .f32)
  (arg10 : Memref sig .tc .vmem S1024x512 .bf16) (harg10 : arg10.IsWhole) (arg11 : Memref sig .tc .vmem S1024x512 .f32)
  (arg12 : Memref sig .tc .vmem S1024x512 .bf16) (harg12 : arg12.IsWhole) (arg13 : Memref sig .tc .vmem S1024x512 .f32)
  (q : Vec F S1x1024x256 .bf16) (K V : Vec F S1x16384x256 .bf16) (T : Vec F S256x256 .bf16)

/-- What a core owns between pairs: the inputs, the accumulator, the even chunk's buffers at anything, the odd chunk's at
    the state's contents. -/
def tileR (s : St F) : sProp 𝕄 :=
  iprop(owns c arg3 fullShare q ∗ owns c arg4 fullShare K ∗ owns c arg5 fullShare V ∗ owns c arg7 fullShare T ∗ owns c arg9 fullShare s.acc
    ∗ (∃ X, owns c arg10 fullShare X) ∗ (∃ X, owns c arg11 fullShare X) ∗ owns c arg12 fullShare s.sp ∗ owns c arg13 fullShare s.ls)

theorem wp_pair (offE offO offP : Fin 3 → ℕ) (hE : ∀ a, offE a + S1x512x256.size a ≤ S1x16384x256.size a)
    (hO : ∀ a, offO a + S1x512x256.size a ≤ S1x16384x256.size a) (hP : ∀ a, offP a + S1x512x256.size a ≤ S1x16384x256.size a) (s : St F) {α : Type}
    {k : FVec F S512x1 .f32 × FVec F S512x1 .f32 → Prog (TpuEff nD τ sig (Elt F) Λ₀ .tc) α} {Q : α → sProp 𝕄} :
    tileR c arg3 arg4 arg5 arg7 arg9 arg10 arg11 arg12 arg13 q K V T s
      ⊢ iprop((tileR c arg3 arg4 arg5 arg7 arg9 arg10 arg11 arg12 arg13 q K V T (pairS q K V T offE offO offP hE hO hP s)
          -∗ wp frame (wpE (defs₀ (F := F)) 𝒱 (c : Thread nD τ) bd) E (k (pairS q K V T offE offO offP hE hO hP s).c) Q)
        -∗ wp frame (wpE (defs₀ (F := F)) 𝒱 (c : Thread nD τ) bd) E (stagePair arg3 arg4 arg5 arg7 arg9 arg10 harg10 arg11 arg12 harg12 arg13 offE offO offP hE hO hP s.c >>= k) Q) := by
  unfold tileR
  iintro ⟨Hq, HK, HV, HT, HA, H10, H11, H12, H13⟩ Hk
  unfold stagePair
  simp only [bind_assoc, pure_bind]
  iapply (wp_stageL 𝒱 c bd E arg3 arg4 arg10 harg10 arg11 offE hE s.c q K) $$ [Hq HK H10 H11]
  · isplitl [Hq]; · iexact Hq
    isplitl [HK]; · iexact HK
    isplitl [H10]; · iexact H10
    iexact H11
  iintro ⟨Hq, HK, H10, H11⟩
  iapply (wp_stageV 𝒱 c bd E arg5 arg7 arg9 arg12 arg13 offP hP V T) $$ [HV HT HA H12 H13]
  · isplitl [HV]; · iexact HV
    isplitl [HT]; · iexact HT
    isplitl [HA]; · iexact HA
    isplitl [H12]; · iexact H12
    iexact H13
  iintro ⟨HV, HT, HA, H12, H13⟩
  iapply (wp_stageL 𝒱 c bd E arg3 arg4 arg12 harg12 arg13 offO hO _ q K) $$ [Hq HK H12 H13]
  · isplitl [Hq]; · iexact Hq
    isplitl [HK]; · iexact HK
    isplitl [H12]; · iexists _; iexact H12
    iexists _; iexact H13
  iintro ⟨Hq, HK, H12, H13⟩
  iapply (wp_stageV 𝒱 c bd E arg5 arg7 arg9 arg10 arg11 offE hE V T) $$ [HV HT HA H10 H11]
  · isplitl [HV]; · iexact HV
    isplitl [HT]; · iexact HT
    isplitl [HA]; · iexact HA
    isplitl [H10]; · iexact H10
    iexact H11
  iintro ⟨HV, HT, HA, H10, H11⟩
  iapply Hk
  isplitl [Hq]; · iexact Hq
  isplitl [HK]; · iexact HK
  isplitl [HV]; · iexact HV
  isplitl [HT]; · iexact HT
  isplitl [HA]; · iexact HA
  isplitl [H10]; · iexists _; iexact H10
  isplitl [H11]; · iexists _; iexact H11
  isplitl [H12]; · iexact H12
  iexact H13

/-- The loops' invariant. -/
def inv (s : St F) (a : FVec F S512x1 .f32 × FVec F S512x1 .f32) : sProp 𝕄 :=
  iprop(⌜a = s.c⌝ ∗ tileR c arg3 arg4 arg5 arg7 arg9 arg10 arg11 arg12 arg13 q K V T s)

theorem wp_trip3 (k : Fin (k0_t3_loop i).trips) (s : St F) (a : FVec F S512x1 .f32 × FVec F S512x1 .f32) :
    inv c arg3 arg4 arg5 arg7 arg9 arg10 arg11 arg12 arg13 q K V T s a
      ⊢ wp frame (wpE (defs₀ (F := F)) 𝒱 (c : Thread nD τ) bd) E (trip3 i arg3 arg4 arg5 arg7 arg9 arg10 harg10 arg11 arg12 harg12 arg13 k a)
        (inv c arg3 arg4 arg5 arg7 arg9 arg10 arg11 arg12 arg13 q K V T (tripS3 i q K V T k s)) := by
  unfold inv
  iintro ⟨%ha, H⟩
  subst ha
  rw [← Prog.bind_pure (trip3 i arg3 arg4 arg5 arg7 arg9 arg10 harg10 arg11 arg12 harg12 arg13 k s.c)]
  unfold trip3
  iapply (wp_pair 𝒱 c bd E arg3 arg4 arg5 arg7 arg9 arg10 harg10 arg11 arg12 harg12 arg13 q K V T) $$ H
  iintro H
  iapply (le_wp_ret frame (wpE (defs₀ (F := F)) 𝒱 (c : Thread nD τ) bd) (E := E))
  isplitr
  · ipureintro; rfl
  iexact H

theorem wp_trip1 (k : Fin (k0_t1_loop i).trips) (s : St F) (a : FVec F S512x1 .f32 × FVec F S512x1 .f32) :
    inv c arg3 arg4 arg5 arg7 arg9 arg10 arg11 arg12 arg13 q K V T s a
      ⊢ wp frame (wpE (defs₀ (F := F)) 𝒱 (c : Thread nD τ) bd) E (trip1 i arg3 arg4 arg5 arg7 arg9 arg10 harg10 arg11 arg12 harg12 arg13 k a)
        (inv c arg3 arg4 arg5 arg7 arg9 arg10 arg11 arg12 arg13 q K V T (tripS1 i q K V T k s)) := by
  unfold inv
  iintro ⟨%ha, H⟩
  subst ha
  rw [← Prog.bind_pure (trip1 i arg3 arg4 arg5 arg7 arg9 arg10 harg10 arg11 arg12 harg12 arg13 k s.c)]
  unfold trip1
  simp only [bind_assoc]
  iapply (wp_pair 𝒱 c bd E arg3 arg4 arg5 arg7 arg9 arg10 harg10 arg11 arg12 harg12 arg13 q K V T) $$ H
  iintro H
  iapply (wp_pair 𝒱 c bd E arg3 arg4 arg5 arg7 arg9 arg10 harg10 arg11 arg12 harg12 arg13 q K V T) $$ H
  iintro H
  iapply (wp_pair 𝒱 c bd E arg3 arg4 arg5 arg7 arg9 arg10 harg10 arg11 arg12 harg12 arg13 q K V T) $$ H
  iintro H
  iapply (wp_pair 𝒱 c bd E arg3 arg4 arg5 arg7 arg9 arg10 harg10 arg11 arg12 harg12 arg13 q K V T) $$ H
  iintro H
  iapply (le_wp_ret frame (wpE (defs₀ (F := F)) 𝒱 (c : Thread nD τ) bd) (E := E))
  isplitr
  · ipureintro; rfl
  iexact H

/-- The body runs from its inputs, its output buffer and its scratch at anything, to the inputs as they were and the
    output at the tile's. -/
theorem wp_body (harg3 : arg3.IsWhole) (harg4 : arg4.IsWhole) (harg5 : arg5.IsWhole) (harg6 : arg6.IsWhole) (harg7 : arg7.IsWhole) (harg9 : arg9.IsWhole)
    (harg11 : arg11.IsWhole) (harg13 : arg13.IsWhole) (g : Vec F S1x1024x256 .f32) {Q : PUnit → sProp 𝕄} :
    (iprop(owns c arg3 fullShare q ∗ owns c arg4 fullShare K ∗ owns c arg5 fullShare V ∗ owns c arg6 fullShare g ∗ owns c arg7 fullShare T
        ∗ (∃ X, owns c arg8 fullShare X) ∗ (∃ X, owns c arg9 fullShare X) ∗ (∃ X, owns c arg10 fullShare X) ∗ (∃ X, owns c arg11 fullShare X)
        ∗ (∃ X, owns c arg12 fullShare X) ∗ (∃ X, owns c arg13 fullShare X)) : sProp 𝕄)
      ⊢ iprop((iprop(owns c arg3 fullShare q ∗ owns c arg4 fullShare K ∗ owns c arg5 fullShare V ∗ owns c arg6 fullShare g ∗ owns c arg7 fullShare T
            ∗ owns c arg8 fullShare (outS i q K V T g) ∗ (∃ X, owns c arg9 fullShare X) ∗ (∃ X, owns c arg10 fullShare X) ∗ (∃ X, owns c arg11 fullShare X)
            ∗ (∃ X, owns c arg12 fullShare X) ∗ (∃ X, owns c arg13 fullShare X)) -∗ Q ⟨⟩)
        -∗ wp frame (wpE (defs₀ (F := F)) 𝒱 (c : Thread nD τ) bd) E (cc0_stick_attention (F := F) i arg3 harg3 arg4 harg4 arg5 harg5 arg6 harg6 arg7 harg7 arg8 harg8 arg9 harg9 arg10 harg10 arg11 harg11 arg12 harg12 arg13 harg13) Q) := by
  iintro ⟨Hq, HK, HV, Hg, HT, HO, HA, H10, H11, H12, H13⟩ Hk
  rw [body_eq]
  unfold bodyS
  iapply (wp_stageZ 𝒱 c bd E arg9) $$ HA
  iintro HA
  iapply (wp_stageM0 𝒱 c bd E arg3 arg4 arg10 harg10 arg11 _ _ _ _ _ q K) $$ [Hq HK H10 H11]
  · isplitl [Hq]; · iexact Hq
    isplitl [HK]; · iexact HK
    isplitl [H10]; · iexact H10
    iexact H11
  iintro ⟨Hq, HK, H10, H11⟩
  iapply (wp_stageM 𝒱 c bd E arg3 arg4 arg12 harg12 arg13 _ _ _ _ (zC, c1S i q K) q K) $$ [Hq HK H12 H13]
  · isplitl [Hq]; · iexact Hq
    isplitl [HK]; · iexact HK
    isplitl [H12]; · iexact H12
    iexact H13
  iintro ⟨Hq, HK, H12, H13⟩
  iapply (wp_stageV0 𝒱 c bd E arg5 arg7 arg9 arg10 arg11 _ _ V T) $$ [HV HT HA H10 H11]
  · isplitl [HV]; · iexact HV
    isplitl [HT]; · iexact HT
    isplitl [HA]; · iexact HA
    isplitl [H10]; · iexact H10
    iexact H11
  iintro ⟨HV, HT, HA, H10, H11⟩
  iapply (Scf.wp_for_bind frame (wpE (defs₀ (F := F)) 𝒱 (c : Thread nD τ) bd) E _ _ _ _ _ _
    (fun n a => inv c arg3 arg4 arg5 arg7 arg9 arg10 arg11 arg12 arg13 q K V T (iter (tripS1 i q K V T) (startS i q K V T) n) a)
    (fun k a => by
      beta_reduce
      rw [iter_succ]
      exact wp_trip1 𝒱 c bd E i arg3 arg4 arg5 arg7 arg9 arg10 harg10 arg11 arg12 harg12 arg13 q K V T k _ a)) $$ [Hq HK HV HT HA H10 H11 H12 H13]
  · beta_reduce
    unfold inv tileR
    isplitr
    · ipureintro; rfl
    isplitl [Hq]; · iexact Hq
    isplitl [HK]; · iexact HK
    isplitl [HV]; · iexact HV
    isplitl [HT]; · iexact HT
    isplitl [HA]; · iexact HA
    isplitl [H10]; · iexact H10
    isplitl [H11]; · iexact H11
    isplitl [H12]; · iexact H12
    iexact H13
  iintro %a1 H
  iapply (Scf.wp_for_bind frame (wpE (defs₀ (F := F)) 𝒱 (c : Thread nD τ) bd) E _ _ _ _ _ _
    (fun n a => inv c arg3 arg4 arg5 arg7 arg9 arg10 arg11 arg12 arg13 q K V T (iter (tripS3 i q K V T) (mid1S i q K V T) n) a)
    (fun k a => by
      beta_reduce
      rw [iter_succ]
      exact wp_trip3 𝒱 c bd E i arg3 arg4 arg5 arg7 arg9 arg10 harg10 arg11 arg12 harg12 arg13 q K V T k _ a)) $$ [H]
  · iexact H
  iintro %a3 H
  unfold inv tileR
  icases H with ⟨%_, Hq, HK, HV, HT, HA, H10, H11, H12, H13⟩
  iapply (wp_stageV 𝒱 c bd E arg5 arg7 arg9 arg12 arg13 _ _ V T) $$ [HV HT HA H12 H13]
  · isplitl [HV]; · iexact HV
    isplitl [HT]; · iexact HT
    isplitl [HA]; · iexact HA
    isplitl [H12]; · iexact H12
    iexact H13
  iintro ⟨HV, HT, HA, H12, H13⟩
  iapply (wp_stageO 𝒱 c bd E arg6 arg8 harg8 arg9 _ g) $$ [HA Hg HO]
  · isplitl [HA]; · iexact HA
    isplitl [Hg]; · iexact Hg
    iexact HO
  iintro ⟨HA, Hg, HO⟩
  iapply Hk
  isplitl [Hq]; · iexact Hq
  isplitl [HK]; · iexact HK
  isplitl [HV]; · iexact HV
  isplitl [Hg]; · iexact Hg
  isplitl [HT]; · iexact HT
  isplitl [HO]; · iexact HO
  isplitl [HA]; · iexists _; iexact HA
  isplitl [H10]; · iexact H10
  isplitl [H11]; · iexact H11
  isplitl [H12]; · iexists _; iexact H12
  iexists _; iexact H13

end tile

end Cert.KernelIdeal.Hand

end
-- ==== Proof.Launch.lean ====
/-
  The attention launched: at every grid point the body runs on its blocks (`wp_body`), so @main terminates, its arguments
  stay, every counter ends at zero and the result array holds the tiles `outS`.
-/
module

public import proofs.«01_k».proof.Proof.Run
public import proofs.«01_k».proof.Proof.Gen.KernelIdeal.Frame

@[expose] public section

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The tile the body writes at point `t`. -/
def tileAt (c : Dev nD) (t : Fin cfg0.N) : Vec F S1x1024x256 .bf16 :=
  outS (grid0.coords t) (iblk m c 0 t) (iblk m c 1 t) (iblk m c 2 t) (iblk m c 4 t) (iblk m c 3 t)

/-- The launch's data: inputs keep their blocks, the output's staging buffer ends at `tileAt`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => tileAt m c t
  Φ _ := Pipeline.ΦA spec0 c
  q _ := fullShare
  owed _ := 0

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = tileAt m c t := by dsimp only [dats]

theorem before0 (c : Dev nD) (t : Fin cfg0.N) (d) : (dats m 0 c).before 0 t d = iblk m c 0 t :=
  before0_0_of m (dats m 0 c) rfl (after0 m c) t d
theorem before1 (c : Dev nD) (t : Fin cfg0.N) (d) : (dats m 0 c).before 1 t d = iblk m c 1 t :=
  before0_1_of m (dats m 0 c) rfl (after1 m c) t d
theorem before2 (c : Dev nD) (t : Fin cfg0.N) (d) : (dats m 0 c).before 2 t d = iblk m c 2 t :=
  before0_2_of m (dats m 0 c) rfl (after2 m c) t d
theorem before3 (c : Dev nD) (t : Fin cfg0.N) (d) : (dats m 0 c).before 3 t d = iblk m c 3 t :=
  before0_3_of m (dats m 0 c) rfl (after3 m c) t d
theorem before4 (c : Dev nD) (t : Fin cfg0.N) (d) : (dats m 0 c).before 4 t d = iblk m c 4 t :=
  before0_4_of m (dats m 0 c) rfl (after4 m c) t d

/-- A whole scratch buffer at some contents, held as a memref at some contents. -/
theorem scratch_in (c : Dev nD) (b : Ref sig .tc) :
    (iprop(∃ f : Buf (Elt F) ((c : Thread nD τ).loc b), ((c : Thread nD τ).loc b) ↦{fullShare} f) : sProp 𝕄)
      ⊢ iprop(∃ X, owns (c : Thread nD τ) (Memref.whole b) fullShare X) := by
  simp only [owns_whole_eq]
  iintro ⟨%f, H⟩
  iexists f
  iexists f
  isplitr
  · ipureintro; rfl
  iexact H

/-- And back. -/
theorem scratch_out (c : Dev nD) (b : Ref sig .tc) :
    (iprop(∃ X, owns (c : Thread nD τ) (Memref.whole b) fullShare X) : sProp 𝕄)
      ⊢ iprop(∃ f : Buf (Elt F) ((c : Thread nD τ).loc b), ((c : Thread nD τ).loc b) ↦{fullShare} f) := by
  simp only [owns_whole_eq]
  iintro ⟨%X, %f, -, H⟩
  iexists f
  iexact H

theorem defs₀_row (t : Fin cfg0.N) :
    defs₀ (F := F) .tc cfg0.body (cfg0.bodyArgs t (cfg0.slots t)) = bodyAt0 t := by
  unfold defs₀; rw [Defs.onTc_tc]

/-- What the body is run from, and what it leaves. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, after0, after1, after2, after3, after4, after5]
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl]
  unfold Pipeline.ΦA tileAt
  rw [scopedRest0_eq]
  iintro ⟨⟨⟨S0, S1, S2, S3, S4⟩, Hg⟩, Ho, ⟨%d0, H0⟩, ⟨%d1, H1⟩, ⟨%d2, H2⟩, ⟨%d3, H3⟩, ⟨%d4, H4⟩, ⟨%d5, H5⟩⟩
  ihave S0 := (scratch_in c cc0_scratch0) $$ S0
  ihave S1 := (scratch_in c cc0_scratch1) $$ S1
  ihave S2 := (scratch_in c cc0_scratch2) $$ S2
  ihave S3 := (scratch_in c cc0_scratch3) $$ S3
  ihave S4 := (scratch_in c cc0_scratch4) $$ S4
  iapply (wp_body Variants.none c none Set.univ (grid0.coords t) _ _ _ _ _ _ _ _ _ _ _ _ _ _ (iblk m c 0 t) (iblk m c 1 t) (iblk m c 2 t)
    (iblk m c 4 t) (hstage0_0 _) (hstage0_1 _) (hstage0_2 _) (hstage0_3 _) (hstage0_4 _) (Memref.isWhole_whole _) (Memref.isWhole_whole _)
    (Memref.isWhole_whole _) (iblk m c 3 t)) $$ [H0 H1 H2 H3 H4 H5 S0 S1 S2 S3 S4]
  · isplitl [H0]; · iexact H0
    isplitl [H1]; · iexact H1
    isplitl [H2]; · iexact H2
    isplitl [H3]; · iexact H3
    isplitl [H4]; · iexact H4
    isplitl [H5]; · iexists _; iexact H5
    isplitl [S0]; · iexact S0
    isplitl [S1]; · iexact S1
    isplitl [S2]; · iexact S2
    isplitl [S3]; · iexact S3
    iexact S4
  iintro ⟨H0, H1, H2, H3, H4, H5, S0, S1, S2, S3, S4⟩
  ihave S0 := (scratch_out c cc0_scratch0) $$ S0
  ihave S1 := (scratch_out c cc0_scratch1) $$ S1
  ihave S2 := (scratch_out c cc0_scratch2) $$ S2
  ihave S3 := (scratch_out c cc0_scratch3) $$ S3
  ihave S4 := (scratch_out c cc0_scratch4) $$ S4
  isplitl [S0 S1 S2 S3 S4 Hg]
  · isplitl [S0 S1 S2 S3 S4]
    · isplitl [S0]; · iexact S0
      isplitl [S1]; · iexact S1
      isplitl [S2]; · iexact S2
      isplitl [S3]; · iexact S3
      iexact S4
    iexact Hg
  isplitl [Ho]; · iexact Ho
  isplitl [H0]; · iexact H0
  isplitl [H1]; · iexact H1
  isplitl [H2]; · iexact H2
  isplitl [H3]; · iexact H3
  isplitl [H4]; · iexact H4
  iexact H5

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- @main terminates; every array ends at what the launch's data say, every counter at zero. -/
theorem run_main : θ_run defs (onTc (τ := τ) (main (F := F))) (s₀ m ρ)
    (fun r => Pipeline.FramePost cfgs (dats m) 0 (V m) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := fun _ _ => rfl) (hΦ := fun _ _ => rfl)

/-- The arguments end as launched and the counters at zero. -/
theorem run_frame :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_with_sems (frame_of m ρ (dats m) fun _ _ => rfl) (run_main m ρ)

end Cert.KernelIdeal.Hand

end
-- ==== Proof.Arith.lean ====
/-
  One row of the attention, over the extended reals: the weights of its keys from their logits, and what a chunk of
  keys does to the row's running total.
-/
module

public import Idealize.ShloMosaic.PureOps.Ideal

@[expose] public section

noncomputable section

namespace Cert.Row

open Idealize.ShloMosaic
open Finset

/-! ## Sums of extended reals -/

theorem neg_add_of_nonneg {x y : EReal} (hx : 0 ≤ x) (hy : 0 ≤ y) : -(x + y) = -x + -y := by
  rw [EReal.neg_add (.inl (ne_of_gt (lt_of_lt_of_le EReal.bot_lt_zero hx))) (.inr (ne_of_gt (lt_of_lt_of_le EReal.bot_lt_zero hy)))]
  rfl

theorem sum_neg_of_nonneg {ι : Type} (s : Finset ι) (f : ι → EReal) (hf : ∀ i, 0 ≤ f i) : ∑ i ∈ s, -f i = -∑ i ∈ s, f i := by
  classical
  induction s using Finset.induction_on with
  | empty => simp
  | insert a s ha ih => rw [sum_insert ha, sum_insert ha, ih, neg_add_of_nonneg (hf a) (sum_nonneg fun i _ => hf i)]

theorem sum_fin_shift (f : ℕ → EReal) (a n : ℕ) : ∑ d : Fin n, f (a + d.val) = ∑ j ∈ Ico a (a + n), f j := by
  rw [Fin.sum_univ_eq_sum_range (fun d => f (a + d)) n, sum_Ico_eq_sum_range, Nat.add_sub_cancel_left]

/-- A product with the strictly lower triangle of minus ones sums what lies after, negated. -/
theorem tri_sum (f : ℕ → EReal) (hf : ∀ j, 0 ≤ f j) (a : ℕ) (l : Fin 256) (T : Fin 256 → EReal) (hT : ∀ d : Fin 256, T d = if l.val < d.val then -1 else 0) :
    ∑ d : Fin 256, f (a + d.val) * T d = -∑ j ∈ Ico (a + l.val + 1) (a + 256), f j := by
  have h : ∀ d : Fin 256, f (a + d.val) * T d = (fun j => -(if a + l.val < j then f j else 0)) (a + d.val) := fun d => by
    rw [hT]
    show f (a + d.val) * (if l.val < d.val then -1 else 0) = -(if a + l.val < a + d.val then f (a + d.val) else 0)
    by_cases k : l.val < d.val
    · rw [if_pos k, if_pos (by omega), mul_neg, mul_one]
    · rw [if_neg k, if_neg (by omega), mul_zero, neg_zero]
  rw [Finset.sum_congr rfl (fun d _ => h d), sum_fin_shift (fun j => -(if a + l.val < j then f j else 0)),
    sum_neg_of_nonneg _ (fun j => if a + l.val < j then f j else 0) (fun j => by split; exacts [hf j, le_refl _]), ← sum_filter]
  congr 1
  refine Finset.sum_congr (Finset.ext fun j => ?_) fun _ _ => rfl
  have := l.isLt
  simp only [mem_filter, mem_Ico]
  omega

theorem exp2_nonneg (z : EReal) : 0 ≤ Ideal.exp2 z := by
  induction z with
  | bot => exact le_refl _
  | top => exact le_top
  | coe r => exact EReal.coe_nonneg.2 (Real.rpow_nonneg (by norm_num) _)

/-- The base-two softplus. -/
def sp (z : EReal) : EReal := Ideal.log (1 + Ideal.exp2 z) * (((Real.log 2)⁻¹ : ℝ) : EReal)

theorem log_one_add_nonneg (x : EReal) (h : 0 ≤ x) : 0 ≤ Ideal.log (1 + x) := by
  induction x with
  | bot => exact absurd h (not_le.2 EReal.bot_lt_zero)
  | top => rw [show (1 : EReal) + ⊤ = ⊤ from rfl]; exact le_top
  | coe r =>
    have hr : 0 ≤ r := EReal.coe_nonneg.1 h
    show (0 : EReal) ≤ if 1 + r ≤ 0 then ⊥ else ((Real.log (1 + r) : ℝ) : EReal)
    rw [if_neg (by linarith)]
    exact EReal.coe_nonneg.2 (Real.log_nonneg (by linarith))

theorem sp_nonneg (z : EReal) : 0 ≤ sp z :=
  mul_nonneg (log_one_add_nonneg _ (exp2_nonneg z)) (EReal.coe_nonneg.2 (inv_nonneg.2 (Real.log_nonneg (by norm_num))))

/-! ## A row: the logits `z` of its keys, the first `p` of them attended to -/

variable (z : ℕ → EReal) (p : ℕ)

/-- The softplus of a key, and its log-weight before the later keys are taken off. -/
def S (j : ℕ) : EReal := if j < p then sp (z j) else 0
def L (j : ℕ) : EReal := if j < p then z j - sp (z j) else ⊥

/-- The total of the keys in an interval. -/
def R (a b : ℕ) : EReal := ∑ j ∈ Ico a b, S z p j

/-- The weight of a key among the keys before `E`. -/
def W (E j : ℕ) : EReal := Ideal.exp2 (L z p j + -R z p (j + 1) E)

theorem S_nonneg (j : ℕ) : 0 ≤ S z p j := by unfold S; split; exacts [sp_nonneg _, le_refl _]
theorem R_nonneg (a b : ℕ) : 0 ≤ R z p a b := sum_nonneg fun j _ => S_nonneg z p j

theorem R_split {a b c : ℕ} (h : a ≤ b) (h' : b ≤ c) : R z p a b + R z p b c = R z p a c := sum_Ico_consecutive _ h h'

theorem carry_step {a b c : ℕ} (h : a ≤ b) (h' : b ≤ c) : -R z p b c - R z p a b = -R z p a c := by
  rw [← R_split z p h h', add_comm, neg_add_of_nonneg (R_nonneg z p b c) (R_nonneg z p a b)]
  rfl

theorem R_of_le {a b : ℕ} (h : p ≤ a) : R z p a b = 0 :=
  sum_eq_zero fun j hj => if_neg (by have := (mem_Ico.1 hj).1; omega)

theorem W_of_le {E j : ℕ} (h : p ≤ j) : W z p E j = 0 := by
  unfold W L
  rw [if_neg (by omega), EReal.bot_add]
  rfl

/-- Inside a block of 256 keys, the triangle product completes the log-weight. -/
theorem W_block {E a m l : ℕ} (h : a + l < m) (h' : m ≤ E) :
    Ideal.exp2 (L z p (a + l) + -R z p m E + -R z p (a + l + 1) m) = W z p E (a + l) := by
  unfold W
  rw [← R_split z p (a := a + l + 1) (by omega) h', neg_add_of_nonneg (R_nonneg z p _ _) (R_nonneg z p _ _), add_assoc, add_comm (-R z p m E)]

/-- The weighted values of the keys in an interval. -/
def O (v : ℕ → EReal) (E a b : ℕ) : EReal := ∑ j ∈ Ico a b, W z p E j * v j

theorem O_split (v : ℕ → EReal) {E a b c : ℕ} (h : a ≤ b) (h' : b ≤ c) : O z p v E a b + O z p v E b c = O z p v E a c := sum_Ico_consecutive _ h h'

theorem O_of_le (v : ℕ → EReal) {E a b : ℕ} (h : p ≤ a) : O z p v E a b = 0 :=
  sum_eq_zero fun j hj => by rw [W_of_le z p (le_trans h (mem_Ico.1 hj).1), zero_mul]

/-- The row's result: every key's weight is two to its logit less the softplus of itself and of the attended keys after it. -/
def res (v : ℕ → EReal) : EReal := ∑ j : Fin 16384, (if j.val < p then Ideal.exp2 (z j.val + -∑ k ∈ Ico j.val 16384, S z p k) else 0) * v j.val

theorem O_eq_res (v : ℕ → EReal) {E : ℕ} (h : p ≤ E) (h' : E ≤ 16384) : O z p v E 0 E = res z p v := by
  have e : O z p v E 0 E = O z p v E 0 16384 := by rw [← O_split z p v (Nat.zero_le E) h', O_of_le z p v h, add_zero]
  rw [e]
  unfold O res
  rw [← range_eq_Ico, ← Fin.sum_univ_eq_sum_range (fun j => W z p E j * v j)]
  refine Finset.sum_congr rfl fun j _ => ?_
  congr 1
  by_cases k : j.val < p
  · rw [if_pos k]
    have hr : (∑ k ∈ Ico j.val 16384, S z p k) = sp (z j.val) + R z p (j.val + 1) E := by
      rw [sum_eq_sum_Ico_succ_bot j.isLt]
      congr 1
      · exact if_pos k
      · show R z p (j.val + 1) 16384 = _
        rw [← R_split z p (a := j.val + 1) (by omega) h', R_of_le z p h, add_zero]
    rw [hr, neg_add_of_nonneg (sp_nonneg _) (R_nonneg z p _ _), ← add_assoc]
    unfold W L
    rw [if_pos k]
    rfl
  · rw [if_neg k, W_of_le z p (by omega)]

end Cert.Row

end
-- ==== Proof.Sem.lean ====
/-
  The attention's values over the extended reals: what a chunk's payloads are, element by element.
-/
module

public import proofs.«01_k».proof.Proof.State
public import proofs.«01_k».proof.Proof.Arith
public import Idealize.ShloMosaic.Lib.Pointwise
public import Idealize.ShloMosaic.Lib.IdealHost
public import Idealize.ShloMosaic.Lib.WordCmp

@[expose] public section

noncomputable section

namespace Cert.KernelIdeal.Hand

open Cert.KernelIdeal.Gen
open Idealize.ShloMosaic Idealize.ShloMosaic.TcCoe

theorem cap_top (b : BitVec 32) : (Named.named (F := Ideal) κ "cap" (φ := .f32) b : EReal) = ⊤ := rfl
theorem mask_bot (b : BitVec 32) : (Named.named (F := Ideal) κ "mask" (φ := .f32) b : EReal) = ⊥ := rfl

theorem zOf_at (q : Vec Ideal S1x1024x256 .bf16) (k : Vec Ideal S1x512x256 .bf16) (r : Fin 1024) (l : Fin 512) :
    zOf q k (ix2 r l) = (∑ d : Fin 256, q (ix3 0 r d) * k (ix3 0 l d) : EReal) := by
  unfold zOf
  pointwise
  exact min_top_right _

theorem zOfH_at (q : Vec Ideal S1x512x256 .bf16) (k : Vec Ideal S1x512x256 .bf16) (r : Fin 512) (l : Fin 512) :
    zOfH q k (ix2 r l) = (∑ d : Fin 256, q (ix3 0 r d) * k (ix3 0 l d) : EReal) := by
  unfold zOfH
  pointwise
  exact min_top_right _

theorem spOf_at (z : FVec Ideal S1024x512 .f32) (r : Fin 1024) (l : Fin 512) : spOf z (ix2 r l) = Cert.Row.sp (z (ix2 r l)) := by
  unfold spOf
  pointwise
  rfl

theorem spOfH_at (z : FVec Ideal S512x512 .f32) (r : Fin 512) (l : Fin 512) : spOfH z (ix2 r l) = Cert.Row.sp (z (ix2 r l)) := by
  unfold spOfH
  pointwise
  rfl

theorem carry_at (c : FVec Ideal S512x1 .f32) (x : FVec Ideal S512x256 .f32) (r : Fin 512) :
    carry c x (ix2 r 0) = (c (ix2 r 0) - ∑ d : Fin 256, x (ix2 r d) : EReal) := by
  unfold carry
  pointwise

theorem shifted_at (x : FVec Ideal S512x256 .f32) (c : FVec Ideal S512x1 .f32) (r : Fin 512) (l : Fin 256) :
    shifted x c (ix2 r l) = (x (ix2 r l) + c (ix2 r 0) : EReal) := by
  unfold shifted
  pointwise

theorem wOf_at (sp : Vec Ideal S1024x256 .bf16) (T : Vec Ideal S256x256 .bf16) (ls : Vec Ideal S1024x256 .f32) (r : Fin 1024) (l : Fin 256) :
    wOf sp T ls (ix2 r l) = Ideal.exp2 (ls (ix2 r l) + ∑ d : Fin 256, sp (ix2 r d) * T (ix2 d l)) := by
  unfold wOf
  pointwise
  rfl

theorem wOfH_at (sp : Vec Ideal S512x256 .bf16) (T : Vec Ideal S256x256 .bf16) (ls : Vec Ideal S512x256 .f32) (r : Fin 512) (l : Fin 256) :
    wOfH sp T ls (ix2 r l) = Ideal.exp2 (ls (ix2 r l) + ∑ d : Fin 256, sp (ix2 r d) * T (ix2 d l)) := by
  unfold wOfH
  pointwise
  rfl

/-- The two halves of a chunk. -/
abbrev lo (d : Fin 256) : Fin 512 := ⟨d.val, Nat.lt_of_lt_of_le d.isLt (by decide)⟩
abbrev hi (d : Fin 256) : Fin 512 := ⟨256 + d.val, Nat.add_lt_add_left d.isLt 256⟩

theorem accOf_at (a : Vec Ideal S1024x256 .f32) (p0 p1 : FVec Ideal S1024x256 .bf16) (v : Vec Ideal S1x512x256 .bf16) (r : Fin 1024) (e : Fin 256) :
    accOf a p0 p1 v (ix2 r e) = (a (ix2 r e) + (∑ d : Fin 256, p0 (ix2 r d) * v (ix3 0 (lo d) e)
      + ∑ d : Fin 256, p1 (ix2 r d) * v (ix3 0 (hi d) e)) : EReal) := by
  unfold accOf
  pointwise

theorem accOfH_at (a : Vec Ideal S512x256 .f32) (p0 p1 : FVec Ideal S512x256 .bf16) (v : Vec Ideal S1x512x256 .bf16) (r : Fin 512) (e : Fin 256) :
    accOfH a p0 p1 v (ix2 r e) = (a (ix2 r e) + (∑ d : Fin 256, p0 (ix2 r d) * v (ix3 0 (lo d) e)
      + ∑ d : Fin 256, p1 (ix2 r d) * v (ix3 0 (hi d) e)) : EReal) := by
  unfold accOfH
  pointwise

theorem word_mask (n s r l : ℕ) (hn : n < 16) (hs : s < 16384) (hr : r < 1024) (hl : l < 512) :
    IntOp.cmpi .slt (IntOp.addi (BitVec.ofNat 32 s) (BitVec.ofNat 32 l)) (IntOp.addi (Scalar.muli (BitVec.ofNat 32 n) 1024#32) (BitVec.ofNat 32 r)) = 1#1
      ↔ s + l < n * 1024 + r := by
  have h1 : IntOp.addi (BitVec.ofNat 32 s) (BitVec.ofNat 32 l) = BitVec.ofNat 32 (s + l) := (BitVec.ofNat_add s l).symm
  have h2 : IntOp.addi (Scalar.muli (BitVec.ofNat 32 n) 1024#32) (BitVec.ofNat 32 r) = BitVec.ofNat 32 (n * 1024 + r) := by
    rw [BitVec.ofNat_add, BitVec.ofNat_mul]; rfl
  rw [h1, h2, WordCmp.cmpi_slt_ofNat_eq_one_iff (by omega) (by omega)]

theorem maskOf_at (n s : ℕ) (hn : n < 16) (hs : s < 16384) (r : Fin 1024) (l : Fin 512) :
    maskOf (qpos (BitVec.ofNat 32 n)) (BitVec.ofNat 32 s) (ix2 r l) = 1#1 ↔ s + l.val < n * 1024 + r.val := by
  rw [← word_mask n s r.val l.val hn hs r.isLt l.isLt]
  unfold maskOf qpos
  pointwise

theorem maskOfH_at (n s : ℕ) (hn : n < 16) (hs : s < 16384) (r : Fin 512) (l : Fin 512) :
    maskOfH (qpos (BitVec.ofNat 32 n)) (BitVec.ofNat 32 s) (ix2 r l) = 1#1 ↔ s + l.val < n * 1024 + (512 + r.val) := by
  rw [← word_mask n s (512 + r.val) l.val hn hs (by omega) l.isLt]
  unfold maskOfH qpos
  pointwise

theorem outOf_at (a : Vec Ideal S1024x256 .f32) (g : Vec Ideal S1x1024x256 .f32) (r : Fin 1024) (e : Fin 256) :
    outOf a g (ix3 0 r e) = (a (ix2 r e) * (g (ix3 0 r e) * Ideal.logistic (g (ix3 0 r e))) : EReal) := by
  unfold outOf
  pointwise

end Cert.KernelIdeal.Hand

end
-- ==== Proof.Chunk.lean ====
/-
  What a chunk of keys does to every row of a tile: the invariant of the pass over the chunks, and its steps.
-/
module

public import proofs.«01_k».proof.Proof.Sem

@[expose] public section

noncomputable section

namespace Cert.KernelIdeal.Hand

open Cert.KernelIdeal.Gen
open Idealize.ShloMosaic Idealize.ShloMosaic.TcCoe
open Cert.Row

/-! ## Chunks of the keys and of the values -/

theorem ldK_at {e : EltTy} (K : S1x16384x256.Idx → Elt Ideal e) (off : Fin 3 → ℕ) (h : ∀ a, off a + S1x512x256.size a ≤ S1x16384x256.size a) {a : ℕ} (ha : off 1 = a)
    (l : Fin 512) (d : Fin 256) (hl : a + l.val < 16384) : View.ld K (rK off h) (ix3 0 l d : S1x512x256.Idx) = K (ix3 0 ⟨a + l.val, hl⟩ d) := by
  have h0 : off 0 = 0 := by have := h 0; change off 0 + 1 ≤ 1 at this; omega
  have h2 : off 2 = 0 := by have := h 2; change off 2 + 256 ≤ 256 at this; omega
  show K _ = K _
  congr 1
  refine funext fun x => Fin.ext ?_
  match x with
  | ⟨0, _⟩ => show off 0 + 1 * 0 = 0; omega
  | ⟨1, _⟩ => show off 1 + 1 * l.val = a + l.val; omega
  | ⟨2, _⟩ => show off 2 + 1 * d.val = d.val; omega

section rows

variable (q : Vec Ideal S1x1024x256 .bf16) (K V : Vec Ideal S1x16384x256 .bf16) (T : Vec Ideal S256x256 .bf16)

/-- The logits of a row, and a column of the values, by the key's position. -/
def zr (r : Fin 1024) (j : ℕ) : EReal := if h : j < 16384 then ∑ d : Fin 256, (q (ix3 0 r d) * K (ix3 0 ⟨j, h⟩ d) : EReal) else 0
def vr (e : Fin 256) (j : ℕ) : EReal := if h : j < 16384 then V (ix3 0 ⟨j, h⟩ e) else 0

theorem zOf_ld (off : Fin 3 → ℕ) (h : ∀ a, off a + S1x512x256.size a ≤ S1x16384x256.size a) {a : ℕ} (ha : off 1 = a) (r : Fin 1024) (l : Fin 512) :
    zOf q (ldK K off h) (ix2 r l) = zr q K r (a + l.val) := by
  have hb : a + l.val < 16384 := by have := h 1; change off 1 + 512 ≤ 16384 at this; have := l.isLt; omega
  rw [zOf_at, zr, dif_pos hb]
  exact Finset.sum_congr rfl fun d _ => congrArg (q (ix3 0 r d) * · : EReal → EReal) (ldK_at K off h ha l d hb)

theorem v_ld (off : Fin 3 → ℕ) (h : ∀ a, off a + S1x512x256.size a ≤ S1x16384x256.size a) {a : ℕ} (ha : off 1 = a) (l : Fin 512) (e : Fin 256) :
    ldK V off h (ix3 0 l e) = vr V e (a + l.val) := by
  have hb : a + l.val < 16384 := by have := h 1; change off 1 + 512 ≤ 16384 at this; have := l.isLt; omega
  rw [vr, dif_pos hb]
  exact ldK_at V off h ha l e hb

end rows

/-! ## The carries and the buffers of a chunk at an index -/

/-- The carry of a row. -/
def car (c : FVec Ideal S512x1 .f32 × FVec Ideal S512x1 .f32) (r : Fin 1024) : EReal :=
  if h : r.val < 512 then c.1 (ix2 ⟨r.val, h⟩ 0) else c.2 (ix2 ⟨r.val - 512, by omega⟩ 0)

theorem tl1_at (x : FVec Ideal S1024x512 .f32) (r : Fin 512) (d : Fin 256) : tl1 x (ix2 r d) = x (ix2 ⟨r.val, by omega⟩ (hi d)) := by pointwise
theorem tl0_at (x : FVec Ideal S1024x512 .f32) (r : Fin 512) (d : Fin 256) : tl0 x (ix2 r d) = x (ix2 ⟨r.val, by omega⟩ (lo d)) := by pointwise
theorem bl1_at (x : FVec Ideal S1024x512 .f32) (r : Fin 512) (d : Fin 256) : bl1 x (ix2 r d) = x (ix2 ⟨512 + r.val, by omega⟩ (hi d)) := by pointwise
theorem bl0_at (x : FVec Ideal S1024x512 .f32) (r : Fin 512) (d : Fin 256) : bl0 x (ix2 r d) = x (ix2 ⟨512 + r.val, by omega⟩ (lo d)) := by pointwise

theorem cV_at (s : FVec Ideal S1024x512 .f32) (c : FVec Ideal S512x1 .f32 × FVec Ideal S512x1 .f32) (r : Fin 1024) :
    car (cV s c) r = car c r - ∑ d : Fin 256, s (ix2 r (hi d)) - ∑ d : Fin 256, s (ix2 r (lo d)) := by
  unfold car cV
  by_cases h : r.val < 512
  · simp only [dif_pos h, carry_at, tl1_at, tl0_at]
  · have e : (⟨512 + (r.val - 512), by omega⟩ : Fin 1024) = r := Fin.ext (show 512 + (r.val - 512) = r.val by omega)
    simp only [dif_neg h, carry_at, bl1_at, bl0_at, e]

theorem spV_at (s : FVec Ideal S1024x512 .f32) (r : Fin 1024) (l : Fin 512) : spV s (ix2 r l) = s (ix2 r l) := by
  unfold spV
  pointwise

/-- A block's payload read at its place. -/
theorem ov_in {α : Type} (r0 c0 : ℕ) (inb : ∀ a, (![r0, c0] : Fin 2 → ℕ) a + S512x256.size a ≤ S1024x512.size a) (X : S1024x512.Idx → α) (w : S512x256.Idx → α)
    (r : Fin 1024) (l : Fin 512) (r' : Fin 512) (l' : Fin 256) (hr : r.val = r0 + r'.val) (hl : l.val = c0 + l'.val) :
    (Rect.unit (s := S1024x512) ![r0, c0] S512x256.size inb).overlay X w (ix2 r l) = w (ix2 r' l') := by
  have h : (ix2 r l : S1024x512.Idx) = (Rect.unit (s := S1024x512) ![r0, c0] S512x256.size inb).emb (ix2 r' l' : S512x256.Idx) := by
    refine funext fun x => Fin.ext ?_
    match x with
    | ⟨0, _⟩ => show r.val = r0 + 1 * r'.val; omega
    | ⟨1, _⟩ => show l.val = c0 + 1 * l'.val; omega
  rw [h, Rect.overlay_emb]

theorem ov_out {α : Type} (r0 c0 : ℕ) (inb : ∀ a, (![r0, c0] : Fin 2 → ℕ) a + S512x256.size a ≤ S1024x512.size a) (X : S1024x512.Idx → α) (w : S512x256.Idx → α)
    (r : Fin 1024) (l : Fin 512) (h : (r.val < r0 ∨ r0 + 512 ≤ r.val) ∨ (l.val < c0 ∨ c0 + 256 ≤ l.val)) :
    (Rect.unit (s := S1024x512) ![r0, c0] S512x256.size inb).overlay X w (ix2 r l) = X (ix2 r l) := by
  refine Rect.overlay_of_not_mem _ _ _ ?_
  rcases h with h | h
  · exact Rect.not_mem_set_of_axis _ _ 0 r0 512 rfl rfl rfl h
  · exact Rect.not_mem_set_of_axis _ _ 1 c0 256 rfl rfl rfl h

theorem lsV_hi (s l : FVec Ideal S1024x512 .f32) (c : FVec Ideal S512x1 .f32 × FVec Ideal S512x1 .f32) (r : Fin 1024) (d : Fin 256) :
    lsV s l c (ix2 r (hi d)) = (l (ix2 r (hi d)) + car c r : EReal) := by
  have hd := d.isLt
  unfold lsV lsO car
  by_cases h : r.val < 512
  · rw [ov_out 512 0 _ _ _ r (hi d) (.inl (.inl h)), ov_out 512 256 _ _ _ r (hi d) (.inl (.inl h)), ov_out 0 0 _ _ _ r (hi d) (.inr (.inr (Nat.le_add_right _ _))),
      ov_in 0 256 _ _ _ r (hi d) ⟨r.val, h⟩ d (Nat.zero_add _).symm rfl, shifted_at, dif_pos h, tl1_at]
  · have e : (⟨512 + (r.val - 512), by omega⟩ : Fin 1024) = r := Fin.ext (show 512 + (r.val - 512) = r.val by omega)
    rw [ov_out 512 0 _ _ _ r (hi d) (.inr (.inr (Nat.le_add_right _ _))), ov_in 512 256 _ _ _ r (hi d) ⟨r.val - 512, by omega⟩ d (show r.val = 512 + (r.val - 512) by omega) rfl,
      shifted_at, dif_neg h, bl1_at, e]

theorem lsV_lo (s l : FVec Ideal S1024x512 .f32) (c : FVec Ideal S512x1 .f32 × FVec Ideal S512x1 .f32) (r : Fin 1024) (d : Fin 256) :
    lsV s l c (ix2 r (lo d)) = (l (ix2 r (lo d)) + (car c r - ∑ d : Fin 256, s (ix2 r (hi d))) : EReal) := by
  have hd := d.isLt
  unfold lsV lsO car
  by_cases h : r.val < 512
  · rw [ov_out 512 0 _ _ _ r (lo d) (.inl (.inl h)), ov_out 512 256 _ _ _ r (lo d) (.inl (.inl h)),
      ov_in 0 0 _ _ _ r (lo d) ⟨r.val, h⟩ d (Nat.zero_add _).symm (Nat.zero_add _).symm, shifted_at, dif_pos h, tl0_at, carry_at]
    simp only [tl1_at]
  · have e : (⟨512 + (r.val - 512), by omega⟩ : Fin 1024) = r := Fin.ext (show 512 + (r.val - 512) = r.val by omega)
    rw [ov_in 512 0 _ _ _ r (lo d) ⟨r.val - 512, by omega⟩ d (show r.val = 512 + (r.val - 512) by omega) (Nat.zero_add _).symm,
      shifted_at, dif_neg h, bl0_at, e, carry_at]
    simp only [bl1_at, e]

theorem ld0_at {α : EltTy} (X : S1024x512.Idx → Elt Ideal α) (r : Fin 1024) (d : Fin 256) : View.ld X rC0 (ix2 r d : S1024x256.Idx) = X (ix2 r (lo d)) := by
  show X _ = X _
  congr 1
  refine funext fun x => Fin.ext ?_
  match x with
  | ⟨0, _⟩ => show 0 + 1 * r.val = r.val; omega
  | ⟨1, _⟩ => show 0 + 1 * d.val = d.val; omega

theorem ld1_at {α : EltTy} (X : S1024x512.Idx → Elt Ideal α) (r : Fin 1024) (d : Fin 256) : View.ld X rC1 (ix2 r d : S1024x256.Idx) = X (ix2 r (hi d)) := by
  show X _ = X _
  congr 1
  refine funext fun x => Fin.ext ?_
  match x with
  | ⟨0, _⟩ => show 0 + 1 * r.val = r.val; omega
  | ⟨1, _⟩ => show 256 + 1 * d.val = 256 + d.val; omega

theorem aV_at (T : Vec Ideal S256x256 .bf16) (v : Vec Ideal S1x512x256 .bf16) (A : Vec Ideal S1024x256 .f32) (sp : Vec Ideal S1024x512 .bf16) (ls : Vec Ideal S1024x512 .f32)
    (r : Fin 1024) (e : Fin 256) :
    aV T v A sp ls (ix2 r e) = (A (ix2 r e)
      + (∑ d : Fin 256, Ideal.exp2 (ls (ix2 r (lo d)) + ∑ d' : Fin 256, sp (ix2 r (lo d')) * T (ix2 d' d)) * v (ix3 0 (lo d) e)
      + ∑ d : Fin 256, Ideal.exp2 (ls (ix2 r (hi d)) + ∑ d' : Fin 256, sp (ix2 r (hi d')) * T (ix2 d' d)) * v (ix3 0 (hi d) e)) : EReal) := by
  unfold aV
  rw [accOf_at]
  simp only [wOf_at]
  refine congrArg (A (ix2 r e) + · : EReal → EReal) (congrArg₂ (· + · : EReal → EReal → EReal) (Finset.sum_congr rfl fun d _ => ?_) (Finset.sum_congr rfl fun d _ => ?_))
  · exact congrArg (fun x : EReal => Ideal.exp2 x * v (ix3 0 (lo d) e)) (congrArg₂ (· + · : EReal → EReal → EReal) (ld0_at (α := .f32) ls r d)
      (Finset.sum_congr rfl fun d' _ => congrArg (· * T (ix2 d' d) : EReal → EReal) (ld0_at (α := .bf16) sp r d')))
  · exact congrArg (fun x : EReal => Ideal.exp2 x * v (ix3 0 (hi d) e)) (congrArg₂ (· + · : EReal → EReal → EReal) (ld1_at (α := .f32) ls r d)
      (Finset.sum_congr rfl fun d' _ => congrArg (· * T (ix2 d' d) : EReal → EReal) (ld1_at (α := .bf16) sp r d')))

/-! ## The invariant -/

section inv

variable (T : Vec Ideal S256x256 .bf16) (hT : ∀ d' d : Fin 256, T (ix2 d' d) = if d.val < d'.val then (-1 : EReal) else 0)
variable (z : Fin 1024 → ℕ → EReal) (p : Fin 1024 → ℕ) (v : Fin 256 → ℕ → EReal) (E : ℕ)

/-- A chunk starting at `a`: its softplus, its log-weights. -/
def IsS (a : ℕ) (s : FVec Ideal S1024x512 .f32) : Prop := ∀ r l, s (ix2 r l) = S (z r) (p r) (a + l.val)
def IsL (a : ℕ) (s : FVec Ideal S1024x512 .f32) : Prop := ∀ r l, s (ix2 r l) = L (z r) (p r) (a + l.val)
/-- The carries with the keys from `a` on taken off. -/
def IsC (a : ℕ) (c : FVec Ideal S512x1 .f32 × FVec Ideal S512x1 .f32) : Prop := ∀ r, car c r = -R (z r) (p r) a E
/-- The two buffers of the chunk starting at `a`. -/
def IsSp (a : ℕ) (s : Vec Ideal S1024x512 .bf16) : Prop := ∀ r l, s (ix2 r l) = S (z r) (p r) (a + l.val)
def IsLs (a : ℕ) (s : Vec Ideal S1024x512 .f32) : Prop :=
  (∀ r d, s (ix2 r (lo d)) = (L (z r) (p r) (a + d.val) + -R (z r) (p r) (a + 256) E : EReal))
    ∧ ∀ r d, s (ix2 r (hi d)) = (L (z r) (p r) (a + 256 + d.val) + -R (z r) (p r) (a + 512) E : EReal)
/-- The accumulator with the keys from `a` on. -/
def IsA (a : ℕ) (A : Vec Ideal S1024x256 .f32) : Prop := ∀ r e, A (ix2 r e) = O (z r) (p r) (v e) E a E

variable {z p v E}

theorem sum_lo {a : ℕ} {s : FVec Ideal S1024x512 .f32} (hs : IsS z p a s) (r : Fin 1024) : (∑ d : Fin 256, s (ix2 r (lo d)) : EReal) = R (z r) (p r) a (a + 256) :=
  (Finset.sum_congr rfl fun d _ => hs r (lo d)).trans (sum_fin_shift (S (z r) (p r)) a 256)

theorem sum_hi {a : ℕ} {s : FVec Ideal S1024x512 .f32} (hs : IsS z p a s) (r : Fin 1024) : (∑ d : Fin 256, s (ix2 r (hi d)) : EReal) = R (z r) (p r) (a + 256) (a + 512) :=
  (Finset.sum_congr rfl fun d _ => (hs r (hi d)).trans (congrArg (S (z r) (p r)) (Nat.add_assoc a 256 d.val).symm)).trans (sum_fin_shift (S (z r) (p r)) (a + 256) 256)

theorem isC_step {a : ℕ} (h : a + 512 ≤ E) {s : FVec Ideal S1024x512 .f32} (hs : IsS z p a s) {c} (hc : IsC z p E (a + 512) c) : IsC z p E a (cV s c) := fun r => by
  rw [cV_at, sum_hi hs, sum_lo hs, hc r, carry_step (z r) (p r) (by omega) h, carry_step (z r) (p r) (by omega) (by omega)]

theorem isSp_step {a : ℕ} {s : FVec Ideal S1024x512 .f32} (hs : IsS z p a s) : IsSp z p a (spV s) := fun r l => (spV_at s r l).trans (hs r l)

theorem isLs_step {a : ℕ} (h : a + 512 ≤ E) {s l : FVec Ideal S1024x512 .f32} (hs : IsS z p a s) (hl : IsL z p a l) {c} (hc : IsC z p E (a + 512) c) :
    IsLs z p E a (lsV s l c) := by
  refine ⟨fun r d => ?_, fun r d => ?_⟩
  · rw [lsV_lo, hl r, hc r, sum_hi hs, carry_step (z r) (p r) (by omega) h]
  · rw [lsV_hi, hl r, hc r, Nat.add_assoc a 256]

include hT in
theorem isA_step {a : ℕ} (h : a + 512 ≤ E) {w : Vec Ideal S1x512x256 .bf16} (hw : ∀ l e, w (ix3 0 l e) = v e (a + l.val)) {A : Vec Ideal S1024x256 .f32} (hA : IsA z p v E (a + 512) A)
    {s : Vec Ideal S1024x512 .bf16} (hs : IsSp z p a s) {l : Vec Ideal S1024x512 .f32} (hl : IsLs z p E a l) : IsA z p v E a (aV T w A s l) := fun r e => by
  have h0 : ∀ d : Fin 256, (Ideal.exp2 (l (ix2 r (lo d)) + ∑ d' : Fin 256, s (ix2 r (lo d')) * T (ix2 d' d)) * w (ix3 0 (lo d) e) : EReal)
      = W (z r) (p r) E (a + d.val) * v e (a + d.val) := fun d => by
    have e1 : (∑ d' : Fin 256, s (ix2 r (lo d')) * T (ix2 d' d) : EReal) = -R (z r) (p r) (a + d.val + 1) (a + 256) :=
      (Finset.sum_congr rfl fun d' _ => congrArg (· * T (ix2 d' d) : EReal → EReal) (hs r (lo d'))).trans
        (tri_sum (S (z r) (p r)) (S_nonneg _ _) a d (fun d' => T (ix2 d' d)) (fun d' => hT d' d))
    rw [e1, hl.1 r d, hw, W_block (z r) (p r) (by have := d.isLt; omega) (by omega)]
  have h1 : ∀ d : Fin 256, (Ideal.exp2 (l (ix2 r (hi d)) + ∑ d' : Fin 256, s (ix2 r (hi d')) * T (ix2 d' d)) * w (ix3 0 (hi d) e) : EReal)
      = W (z r) (p r) E (a + 256 + d.val) * v e (a + 256 + d.val) := fun d => by
    have e1 : (∑ d' : Fin 256, s (ix2 r (hi d')) * T (ix2 d' d) : EReal) = -R (z r) (p r) (a + 256 + d.val + 1) (a + 256 + 256) :=
      (Finset.sum_congr rfl fun d' _ => congrArg (· * T (ix2 d' d) : EReal → EReal) ((hs r (hi d')).trans (congrArg (S (z r) (p r)) (Nat.add_assoc a 256 d'.val).symm))).trans
        (tri_sum (S (z r) (p r)) (S_nonneg _ _) (a + 256) d (fun d' => T (ix2 d' d)) (fun d' => hT d' d))
    rw [e1, hl.2 r d, hw, show a + 512 = a + 256 + 256 from rfl, W_block (z r) (p r) (by have := d.isLt; omega) (by omega), ← Nat.add_assoc a 256 d.val]
  rw [aV_at, Finset.sum_congr rfl (fun d _ => h0 d), Finset.sum_congr rfl (fun d _ => h1 d), hA r e,
    sum_fin_shift (fun j => W (z r) (p r) E j * v e j) a 256, sum_fin_shift (fun j => W (z r) (p r) E j * v e j) (a + 256) 256,
    Finset.sum_Ico_consecutive _ (by omega) (by omega), add_comm]
  exact O_split (z r) (p r) (v e) (by omega) h

end inv

end Cert.KernelIdeal.Hand

end
-- ==== Proof.Tile.lean ====
/-
  The pass over a tile's chunks, and the tile's output: every row's weighted values, gated.
-/
module

public import proofs.«01_k».proof.Proof.Chunk

@[expose] public section

noncomputable section

namespace Cert.KernelIdeal.Hand

open Cert.KernelIdeal.Gen
open Idealize.ShloMosaic Idealize.ShloMosaic.TcCoe
open Cert.Row

/-! ## Where the chunks start -/

theorem off1_at : ∀ i : grid0.Coords, k0_off1 i 512#32 1 = (i 2).val * 1024 + 512 ∧ k0_off1 i 1024#32 1 = (i 2).val * 1024 := by decide +kernel
theorem w_at : ∀ n : Fin 16, Scalar.subi (Scalar.muli (Scalar.addi (BitVec.ofNat 32 n.val) 1#32) 1024#32) 512#32 = BitVec.ofNat 32 (n.val * 1024 + 512)
    ∧ Scalar.subi (Scalar.muli (Scalar.addi (BitVec.ofNat 32 n.val) 1#32) 1024#32) 1024#32 = BitVec.ofNat 32 (n.val * 1024) := by decide +kernel
theorem trips1_at : ∀ i : grid0.Coords, (k0_t1_loop i).trips = (i 2).val / 4 := by decide +kernel
theorem trips3_at : ∀ i : grid0.Coords, (k0_t3_loop i).trips = (i 2).val % 4 := by decide +kernel
theorem off23_at : ∀ (i : grid0.Coords) (k : Fin (k0_t1_loop i).trips) (j : Fin 4),
    k0_off2 i k (BitVec.ofNat 32 (2 * j.val)) 1#32 1 + (4096 * k.val + 1024 * j.val + 512) = (i 2).val * 1024
    ∧ k0_off2 i k (BitVec.ofNat 32 (2 * j.val)) 2#32 1 + (4096 * k.val + 1024 * j.val + 1024) = (i 2).val * 1024
    ∧ k0_off3 i k (BitVec.ofNat 32 (2 * j.val)) 1 + (4096 * k.val + 1024 * j.val) = (i 2).val * 1024 := by decide +kernel
theorem off67_at : ∀ (i : grid0.Coords) (k : Fin (k0_t3_loop i).trips),
    k0_off6 i k 1#32 1 + (4096 * ((i 2).val / 4) + 1024 * k.val + 512) = (i 2).val * 1024
    ∧ k0_off6 i k 2#32 1 + (4096 * ((i 2).val / 4) + 1024 * k.val + 1024) = (i 2).val * 1024
    ∧ k0_off7 i k 1 + (4096 * ((i 2).val / 4) + 1024 * k.val) = (i 2).val * 1024 := by decide +kernel
theorem off10_at : ∀ i : grid0.Coords, k0_off10 i 1 = 0 := by decide +kernel

section tile

variable (i : grid0.Coords) (q : Vec Ideal S1x1024x256 .bf16) (K V : Vec Ideal S1x16384x256 .bf16) (T : Vec Ideal S256x256 .bf16)
  (hT : ∀ d' d : Fin 256, T (ix2 d' d) = if d.val < d'.val then (-1 : EReal) else 0)

/-- The keys a row attends to: those before its query; and the end of the tile's keys. -/
def pr (r : Fin 1024) : ℕ := (i 2).val * 1024 + r.val
abbrev En : ℕ := (i 2).val * 1024 + 1024

/-- The keys from `a` on are in the carries, those from `a + 512` on in the accumulator, the chunk at `a` is in the buffers. -/
structure Inv (a : ℕ) (s : St Ideal) : Prop where
  c : IsC (zr q K) (pr i) (En i) a s.c
  sp : IsSp (zr q K) (pr i) a s.sp
  ls : IsLs (zr q K) (pr i) (En i) a s.ls
  acc : IsA (zr q K) (pr i) (vr V) (En i) (a + 512) s.acc

theorem isS_L {a : ℕ} (h : a + 512 ≤ (i 2).val * 1024) (off : Fin 3 → ℕ) (hoff : ∀ x, off x + S1x512x256.size x ≤ S1x16384x256.size x) (ha : off 1 = a) :
    IsS (zr q K) (pr i) a (sL q (ldK K off hoff)) := fun r l => by
  rw [sL, spOf_at, zOf_ld q K off hoff ha, S, if_pos (by unfold pr; have := l.isLt; omega)]

theorem isL_L {a : ℕ} (h : a + 512 ≤ (i 2).val * 1024) (off : Fin 3 → ℕ) (hoff : ∀ x, off x + S1x512x256.size x ≤ S1x16384x256.size x) (ha : off 1 = a) :
    IsL (zr q K) (pr i) a (lL q (ldK K off hoff)) := fun r l => by
  show zOf q (ldK K off hoff) (ix2 r l) - spOf (zOf q (ldK K off hoff)) (ix2 r l) = _
  rw [spOf_at, zOf_ld q K off hoff ha, L, if_pos (by unfold pr; have := l.isLt; omega)]

include hT in
theorem inv_pair {b : ℕ} (h : b + 1024 ≤ (i 2).val * 1024) (offE offO offP : Fin 3 → ℕ) (hE : ∀ a, offE a + S1x512x256.size a ≤ S1x16384x256.size a)
    (hO : ∀ a, offO a + S1x512x256.size a ≤ S1x16384x256.size a) (hP : ∀ a, offP a + S1x512x256.size a ≤ S1x16384x256.size a)
    (eE : offE 1 = b + 512) (eO : offO 1 = b) (eP : offP 1 = b + 1024) {s : St Ideal} (hs : Inv i q K V (b + 1024) s) :
    Inv i q K V b (pairS q K V T offE offO offP hE hO hP s) := by
  have hEn : En i = (i 2).val * 1024 + 1024 := rfl
  have sE := isS_L i q K (a := b + 512) (by omega) offE hE eE
  have lE := isL_L i q K (a := b + 512) (by omega) offE hE eE
  have sO := isS_L i q K (a := b) (by omega) offO hO eO
  have lO := isL_L i q K (a := b) (by omega) offO hO eO
  have cE := isC_step (a := b + 512) (by omega) sE hs.c
  refine ⟨isC_step (by omega) sO cE, isSp_step sO, isLs_step (by omega) sO lO cE, ?_⟩
  exact isA_step T hT (by omega) (fun l e => v_ld V offE hE eE l e) (isA_step T hT (by omega) (fun l e => v_ld V offP hP eP l e) hs.acc hs.sp hs.ls)
    (isSp_step sE) (isLs_step (by omega) sE lE hs.c)

include hT in
theorem inv_trip1 (k : Fin (k0_t1_loop i).trips) {s : St Ideal} (hs : Inv i q K V ((i 2).val * 1024 - 4096 * k.val) s) :
    Inv i q K V ((i 2).val * 1024 - 4096 * (k.val + 1)) (tripS1 i q K V T k s) := by
  have hk : 4096 * (k.val + 1) ≤ (i 2).val * 1024 := by have := k.isLt.trans_eq (trips1_at i); omega
  obtain ⟨a0, b0, c0⟩ := off23_at i k 0
  obtain ⟨a1, b1, c1⟩ := off23_at i k 1
  obtain ⟨a2, b2, c2⟩ := off23_at i k 2
  obtain ⟨a3, b3, c3⟩ := off23_at i k 3
  change k0_off2 i k 0#32 1#32 1 + (4096 * k.val + 0 + 512) = _ at a0
  change k0_off2 i k 0#32 2#32 1 + (4096 * k.val + 0 + 1024) = _ at b0
  change k0_off3 i k 0#32 1 + (4096 * k.val + 0) = _ at c0
  change k0_off2 i k 2#32 1#32 1 + (4096 * k.val + 1024 + 512) = _ at a1
  change k0_off2 i k 2#32 2#32 1 + (4096 * k.val + 1024 + 1024) = _ at b1
  change k0_off3 i k 2#32 1 + (4096 * k.val + 1024) = _ at c1
  change k0_off2 i k 4#32 1#32 1 + (4096 * k.val + 2048 + 512) = _ at a2
  change k0_off2 i k 4#32 2#32 1 + (4096 * k.val + 2048 + 1024) = _ at b2
  change k0_off3 i k 4#32 1 + (4096 * k.val + 2048) = _ at c2
  change k0_off2 i k 6#32 1#32 1 + (4096 * k.val + 3072 + 512) = _ at a3
  change k0_off2 i k 6#32 2#32 1 + (4096 * k.val + 3072 + 1024) = _ at b3
  change k0_off3 i k 6#32 1 + (4096 * k.val + 3072) = _ at c3
  obtain ⟨b, hb⟩ : ∃ b, (i 2).val * 1024 = b + 4096 * (k.val + 1) := ⟨_, (Nat.sub_add_cancel hk).symm⟩
  rw [show (i 2).val * 1024 - 4096 * k.val = b + 3072 + 1024 by omega] at hs
  rw [show (i 2).val * 1024 - 4096 * (k.val + 1) = b by omega]
  unfold tripS1
  refine inv_pair i q K V T hT (by omega) _ _ _ _ _ _ (by omega) (by omega) (by omega) ?_
  refine inv_pair i q K V T hT (by omega) _ _ _ _ _ _ (by omega) (by omega) (by omega) ?_
  refine inv_pair i q K V T hT (b := b + 1024 + 1024) (by omega) _ _ _ _ _ _ (by omega) (by omega) (by omega) ?_
  exact inv_pair i q K V T hT (b := b + 1024 + 1024 + 1024) (by omega) _ _ _ _ _ _ (by omega) (by omega) (by omega) hs

include hT in
theorem inv_trip3 (k : Fin (k0_t3_loop i).trips) {s : St Ideal} (hs : Inv i q K V ((i 2).val * 1024 - 4096 * ((i 2).val / 4) - 1024 * k.val) s) :
    Inv i q K V ((i 2).val * 1024 - 4096 * ((i 2).val / 4) - 1024 * (k.val + 1)) (tripS3 i q K V T k s) := by
  have hk : 4096 * ((i 2).val / 4) + 1024 * (k.val + 1) ≤ (i 2).val * 1024 := by have := k.isLt.trans_eq (trips3_at i); omega
  obtain ⟨a0, b0, c0⟩ := off67_at i k
  rw [show (i 2).val * 1024 - 4096 * ((i 2).val / 4) - 1024 * k.val = (i 2).val * 1024 - 4096 * ((i 2).val / 4) - 1024 * (k.val + 1) + 1024 by omega] at hs
  exact inv_pair i q K V T hT (by omega) _ _ _ _ _ _ (by omega) (by omega) (by omega) hs

theorem iter_inv {n : ℕ} {σ : Type} (f : Fin n → σ → σ) (s : σ) (I : ℕ → σ → Prop) (h0 : I 0 s) (hs : ∀ (k : Fin n) s, I k.val s → I (k.val + 1) (f k s)) :
    I n (iter f s n) := by
  have : ∀ m, m ≤ n → I m (iter f s m) := fun m => by
    induction m with
    | zero => exact fun _ => h0
    | succ m ih => exact fun h => by rw [iter, dif_pos (show m < n from h)]; exact hs ⟨m, h⟩ _ (ih (Nat.le_of_lt h))
  exact this n (Nat.le_refl n)

include hT in
theorem inv_mid (h0 : Inv i q K V ((i 2).val * 1024) (startS i q K V T)) : Inv i q K V 0 (mid3S i q K V T) := by
  have h1 := iter_inv (tripS1 i q K V T) (startS i q K V T) (fun k s => Inv i q K V ((i 2).val * 1024 - 4096 * k) s) h0 fun k s => inv_trip1 i q K V T hT k
  have h1' : Inv i q K V ((i 2).val * 1024 - 4096 * ((i 2).val / 4)) (mid1S i q K V T) := by rw [← trips1_at i]; exact h1
  have h3 := iter_inv (tripS3 i q K V T) (mid1S i q K V T) (fun k s => Inv i q K V ((i 2).val * 1024 - 4096 * ((i 2).val / 4) - 1024 * k) s) h1' fun k s => inv_trip3 i q K V T hT k
  have e : (i 2).val * 1024 - 4096 * ((i 2).val / 4) - 1024 * (k0_t3_loop i).trips = 0 := by rw [trips3_at]; omega
  rw [e] at h3
  exact h3

/-! ## The start -/

theorem i2_lt : (i 2).val < 16 := (i 2).isLt

theorem sel_S {c : BitVec 1} {a b : EReal} {z : ℕ → EReal} {p j : ℕ} (hc : c = 1#1 ↔ j < p) (ha : a = sp (z j)) (hb : b = 0) : Scalar.select c a b = S z p j := by
  unfold Scalar.select S
  change (if c = 1#1 then a else b) = _
  by_cases h : j < p
  · rw [if_pos (hc.2 h), if_pos h, ha]
  · rw [if_neg (fun k => h (hc.1 k)), if_neg h, hb]

theorem sel_L {c : BitVec 1} {a b : EReal} {z : ℕ → EReal} {p j : ℕ} (hc : c = 1#1 ↔ j < p) (ha : a = z j - sp (z j)) (hb : b = ⊥) : Scalar.select c a b = L z p j := by
  unfold Scalar.select L
  change (if c = 1#1 then a else b) = _
  by_cases h : j < p
  · rw [if_pos (hc.2 h), if_pos h, ha]
  · rw [if_neg (fun k => h (hc.1 k)), if_neg h, hb]

theorem ofBits_zero_ideal : (Scalar.ofBits (F := Ideal) .f32 0x00000000#32 : EReal) = 0 := Ideal.ofBits_zero_f32

theorem w0_at : w0 i = BitVec.ofNat 32 ((i 2).val * 1024 + 512) := (w_at (i 2)).1
theorem w1_at : w1 i = BitVec.ofNat 32 ((i 2).val * 1024) := (w_at (i 2)).2

theorem isS_M : IsS (zr q K) (pr i) ((i 2).val * 1024) (sM (qw i) (w1 i) q (K1 i K)) := fun r l => by
  have hm := maskOf_at (i 2).val ((i 2).val * 1024) (i2_lt i) (by have := i2_lt i; omega) r l
  rw [w1_at]
  exact sel_S hm ((spOf_at _ r l).trans (congrArg sp (zOf_ld q K _ _ (off1_at i).2 r l))) ofBits_zero_ideal

theorem isL_M : IsL (zr q K) (pr i) ((i 2).val * 1024) (lM (qw i) (w1 i) q (K1 i K)) := fun r l => by
  have hm := maskOf_at (i 2).val ((i 2).val * 1024) (i2_lt i) (by have := i2_lt i; omega) r l
  rw [w1_at]
  refine sel_L hm ?_ (mask_bot _)
  show zOf q (K1 i K) (ix2 r l) - spOf (zOf q (K1 i K)) (ix2 r l) = _
  rw [spOf_at, zOf_ld q K _ _ (off1_at i).2]

/-- The bottom half's rows. -/
abbrev bot (r : Fin 512) : Fin 1024 := ⟨512 + r.val, by omega⟩

theorem ldQH_at (r : Fin 512) (d : Fin 256) : View.ld q rQH (ix3 0 r d : S1x512x256.Idx) = q (ix3 0 (bot r) d) := by
  show q _ = q _
  congr 1
  refine funext fun x => Fin.ext ?_
  match x with
  | ⟨0, _⟩ => rfl
  | ⟨1, _⟩ => show 512 + 1 * r.val = 512 + r.val; omega
  | ⟨2, _⟩ => show 0 + 1 * d.val = d.val; omega

theorem zOfH_ld (r : Fin 512) (l : Fin 512) : zOfH (View.ld q rQH) (K0 i K) (ix2 r l) = zr q K (bot r) ((i 2).val * 1024 + 512 + l.val) := by
  have hb : (i 2).val * 1024 + 512 + l.val < 16384 := by have := i2_lt i; have := l.isLt; omega
  rw [zOfH_at, zr, dif_pos hb]
  exact Finset.sum_congr rfl fun d _ => congrArg₂ (· * · : EReal → EReal → EReal) (ldQH_at q r d) (ldK_at K _ _ (off1_at i).1 l d hb)

abbrev sS : FVec Ideal S512x512 .f32 := sH (qw i) (w0 i) (View.ld q rQH) (K0 i K)
abbrev lS : FVec Ideal S512x512 .f32 := lH (qw i) (w0 i) (View.ld q rQH) (K0 i K)

theorem sS_at (r l : Fin 512) : sS i q K (ix2 r l) = S (zr q K (bot r)) (pr i (bot r)) ((i 2).val * 1024 + 512 + l.val) := by
  have hm := maskOfH_at (i 2).val ((i 2).val * 1024 + 512) (i2_lt i) (by have := i2_lt i; omega) r l
  unfold sS
  rw [w0_at]
  exact sel_S hm ((spOfH_at _ r l).trans (congrArg sp (zOfH_ld i q K r l))) ofBits_zero_ideal

theorem lS_at (r l : Fin 512) : lS i q K (ix2 r l) = L (zr q K (bot r)) (pr i (bot r)) ((i 2).val * 1024 + 512 + l.val) := by
  have hm := maskOfH_at (i 2).val ((i 2).val * 1024 + 512) (i2_lt i) (by have := i2_lt i; omega) r l
  unfold lS
  rw [w0_at]
  refine sel_L hm ?_ (mask_bot _)
  show zOfH (View.ld q rQH) (K0 i K) (ix2 r l) - spOfH (zOfH (View.ld q rQH) (K0 i K)) (ix2 r l) = _
  rw [spOfH_at, zOfH_ld]

theorem hl1_at (x : FVec Ideal S512x512 .f32) (r : Fin 512) (d : Fin 256) : hl1 x (ix2 r d) = x (ix2 r (hi d)) := by pointwise
theorem hl0_at (x : FVec Ideal S512x512 .f32) (r : Fin 512) (d : Fin 256) : hl0 x (ix2 r d) = x (ix2 r (lo d)) := by pointwise
theorem zC_at (r : Fin 512) : (zC : FVec Ideal S512x1 .f32) (ix2 r 0) = (0 : EReal) := ofBits_zero_ideal

theorem R_nil (z : ℕ → EReal) (p a : ℕ) : R z p a a = 0 := by unfold R; rw [Finset.Ico_self, Finset.sum_empty]

theorem sumH_hi (r : Fin 512) : (∑ d : Fin 256, hl1 (sS i q K) (ix2 r d) : EReal) = R (zr q K (bot r)) (pr i (bot r)) ((i 2).val * 1024 + 768) (En i) :=
  (Finset.sum_congr rfl fun d _ => (hl1_at _ r d).trans ((sS_at i q K r (hi d)).trans (congrArg (S (zr q K (bot r)) (pr i (bot r))) (Nat.add_assoc _ 256 d.val).symm))).trans
    (sum_fin_shift (S (zr q K (bot r)) (pr i (bot r))) ((i 2).val * 1024 + 768) 256)

theorem sumH_lo (r : Fin 512) : (∑ d : Fin 256, hl0 (sS i q K) (ix2 r d) : EReal) = R (zr q K (bot r)) (pr i (bot r)) ((i 2).val * 1024 + 512) ((i 2).val * 1024 + 768) :=
  (Finset.sum_congr rfl fun d _ => (hl0_at _ r d).trans (sS_at i q K r (lo d))).trans
    (sum_fin_shift (S (zr q K (bot r)) (pr i (bot r))) ((i 2).val * 1024 + 512) 256)

theorem carH_at (r : Fin 512) : carry zC (hl1 (sS i q K)) (ix2 r 0) = (-R (zr q K (bot r)) (pr i (bot r)) ((i 2).val * 1024 + 768) (En i) : EReal) := by
  rw [carry_at, zC_at, sumH_hi, zero_sub]

theorem c1S_at (r : Fin 512) : c1S i q K (ix2 r 0) = (-R (zr q K (bot r)) (pr i (bot r)) ((i 2).val * 1024 + 512) (En i) : EReal) := by
  unfold c1S cH
  rw [carry_at, carH_at, sumH_lo, carry_step _ _ (by omega) (by show _ ≤ (i 2).val * 1024 + 1024; omega)]

theorem isC_0 : IsC (zr q K) (pr i) (En i) ((i 2).val * 1024 + 512) (zC, c1S i q K) := fun r => by
  unfold car
  by_cases h : r.val < 512
  · rw [dif_pos h]
    dsimp only
    rw [zC_at, R_of_le _ _ (by unfold pr; omega), neg_zero]
  · have e : bot ⟨r.val - 512, by omega⟩ = r := Fin.ext (show 512 + (r.val - 512) = r.val by omega)
    rw [dif_neg h]
    dsimp only
    rw [c1S_at, e]

theorem cut0_at (s : FVec Ideal S512x512 .f32) (r : Fin 512) (d : Fin 256) : cut0 (spH s) (ix2 r d : S512x256.Idx) = s (ix2 r (lo d)) := by
  show spH s (ix2 r (lo d)) = _
  unfold spH
  pointwise

theorem cut1_at (s : FVec Ideal S512x512 .f32) (r : Fin 512) (d : Fin 256) : cut1 (spH s) (ix2 r d : S512x256.Idx) = s (ix2 r (hi d)) := by
  show spH s (ix2 r (hi d)) = _
  unfold spH
  pointwise

theorem aZ_at (r : Fin 1024) (e : Fin 256) : (aZ : Vec Ideal S1024x256 .f32) (ix2 r e) = (0 : EReal) := by
  unfold aZ
  pointwise

include hT in
theorem isA_0 : IsA (zr q K) (pr i) (vr V) (En i) ((i 2).val * 1024 + 512) (aH T (K0 i V) aZ (sS i q K) (lS i q K) zC) := fun r e => by
  unfold aH
  by_cases h : r.val < 512
  · rw [Rect.overlay_of_not_mem _ _ _ (Rect.not_mem_set_of_axis _ _ 0 512 512 rfl rfl rfl (Or.inl h)), aZ_at, O_of_le _ _ _ (by unfold pr; omega)]
  · obtain ⟨r', rfl⟩ : ∃ r', bot r' = r := ⟨⟨r.val - 512, by omega⟩, Fin.ext (show 512 + (r.val - 512) = r.val by omega)⟩
    have hr : (ix2 (bot r') e : S1024x256.Idx) = rAH.emb (ix2 r' e : S512x256.Idx) := by
      refine funext fun x => Fin.ext ?_
      match x with
      | ⟨0, _⟩ => show 512 + r'.val = 512 + 1 * r'.val; omega
      | ⟨1, _⟩ => show e.val = 0 + 1 * e.val; omega
    have hv : ∀ l, K0 i V (ix3 0 l e) = vr V e ((i 2).val * 1024 + 512 + l.val) := fun l => v_ld V _ _ (off1_at i).1 l e
    have hA : View.ld (aZ : Vec Ideal S1024x256 .f32) rAH (ix2 r' e : S512x256.Idx) = (0 : EReal) := (congrArg aZ hr.symm).trans (aZ_at _ e)
    have h0 : ∀ d : Fin 256, wOfH (cut0 (spH (sS i q K))) T (shifted (hl0 (lS i q K)) (carry zC (hl1 (sS i q K)))) (ix2 r' d)
        = W (zr q K (bot r')) (pr i (bot r')) (En i) ((i 2).val * 1024 + 512 + d.val) := fun d => by
      have e1 : (∑ d' : Fin 256, cut0 (spH (sS i q K)) (ix2 r' d') * T (ix2 d' d) : EReal)
          = -R (zr q K (bot r')) (pr i (bot r')) ((i 2).val * 1024 + 512 + d.val + 1) ((i 2).val * 1024 + 768) :=
        (Finset.sum_congr rfl fun d' _ => congrArg (· * T (ix2 d' d) : EReal → EReal) ((cut0_at _ r' d').trans (sS_at i q K r' (lo d')))).trans
          (tri_sum (S (zr q K (bot r')) (pr i (bot r'))) (S_nonneg _ _) ((i 2).val * 1024 + 512) d (fun d' => T (ix2 d' d)) (fun d' => hT d' d))
      rw [wOfH_at, e1, shifted_at, hl0_at, lS_at, carH_at, show (i 2).val * 1024 + 512 + (lo d).val = (i 2).val * 1024 + 512 + d.val from rfl,
        W_block _ _ (by have := d.isLt; omega) (by show _ ≤ (i 2).val * 1024 + 1024; omega)]
    have h1 : ∀ d : Fin 256, wOfH (cut1 (spH (sS i q K))) T (shifted (hl1 (lS i q K)) zC) (ix2 r' d)
        = W (zr q K (bot r')) (pr i (bot r')) (En i) ((i 2).val * 1024 + 768 + d.val) := fun d => by
      have ea : ∀ d : Fin 256, (i 2).val * 1024 + 512 + (256 + d.val) = (i 2).val * 1024 + 768 + d.val := fun d => by omega
      have e1 : (∑ d' : Fin 256, cut1 (spH (sS i q K)) (ix2 r' d') * T (ix2 d' d) : EReal)
          = -R (zr q K (bot r')) (pr i (bot r')) ((i 2).val * 1024 + 768 + d.val + 1) ((i 2).val * 1024 + 768 + 256) :=
        (Finset.sum_congr rfl fun d' _ => congrArg (· * T (ix2 d' d) : EReal → EReal) ((cut1_at _ r' d').trans ((sS_at i q K r' (hi d')).trans
          (congrArg (S (zr q K (bot r')) (pr i (bot r'))) (ea d'))))).trans
          (tri_sum (S (zr q K (bot r')) (pr i (bot r'))) (S_nonneg _ _) ((i 2).val * 1024 + 768) d (fun d' => T (ix2 d' d)) (fun d' => hT d' d))
      have hz : (zC : FVec Ideal S512x1 .f32) (ix2 r' 0) = (-R (zr q K (bot r')) (pr i (bot r')) ((i 2).val * 1024 + 768 + 256) (En i) : EReal) := by
        rw [zC_at, show En i = (i 2).val * 1024 + 768 + 256 from rfl, R_nil, neg_zero]
      rw [wOfH_at, e1, shifted_at, hl1_at, lS_at, hz, show (i 2).val * 1024 + 512 + (hi d).val = (i 2).val * 1024 + 768 + d.val from ea d,
        W_block _ _ (by have := d.isLt; omega) (by show _ ≤ (i 2).val * 1024 + 1024; omega)]
    rw [hr, Rect.overlay_emb, accOfH_at, hA, zero_add]
    have s0 : (∑ d : Fin 256, wOfH (cut0 (spH (sS i q K))) T (shifted (hl0 (lS i q K)) (carry zC (hl1 (sS i q K)))) (ix2 r' d) * K0 i V (ix3 0 (lo d) e) : EReal)
        = O (zr q K (bot r')) (pr i (bot r')) (vr V e) (En i) ((i 2).val * 1024 + 512) ((i 2).val * 1024 + 768) :=
      (Finset.sum_congr rfl fun d _ => congrArg₂ (· * · : EReal → EReal → EReal) (h0 d) (hv (lo d))).trans
        (sum_fin_shift (fun j => W (zr q K (bot r')) (pr i (bot r')) (En i) j * vr V e j) ((i 2).val * 1024 + 512) 256)
    have s1 : (∑ d : Fin 256, wOfH (cut1 (spH (sS i q K))) T (shifted (hl1 (lS i q K)) zC) (ix2 r' d) * K0 i V (ix3 0 (hi d) e) : EReal)
        = O (zr q K (bot r')) (pr i (bot r')) (vr V e) (En i) ((i 2).val * 1024 + 768) (En i) :=
      (Finset.sum_congr rfl fun d _ => congrArg₂ (· * · : EReal → EReal → EReal) (h1 d) ((hv (hi d)).trans (congrArg (vr V e) (show (i 2).val * 1024 + 512 + (256 + d.val) = (i 2).val * 1024 + 768 + d.val by omega)))).trans
        (sum_fin_shift (fun j => W (zr q K (bot r')) (pr i (bot r')) (En i) j * vr V e j) ((i 2).val * 1024 + 768) 256)
    exact (congrArg₂ (· + · : EReal → EReal → EReal) s0 s1).trans (O_split _ _ _ (by omega) (by show _ ≤ (i 2).val * 1024 + 1024; omega))

include hT in
theorem inv_start : Inv i q K V ((i 2).val * 1024) (startS i q K V T) := by
  have hEn : En i = (i 2).val * 1024 + 1024 := rfl
  exact ⟨isC_step (by omega) (isS_M i q K) (isC_0 i q K), isSp_step (isS_M i q K), isLs_step (by omega) (isS_M i q K) (isL_M i q K) (isC_0 i q K), isA_0 i q K V T hT⟩

include hT in
/-- The tile's output: a row's result gated. -/
theorem outS_at (g : Vec Ideal S1x1024x256 .f32) (r : Fin 1024) (e : Fin 256) :
    outS i q K V T g (ix3 0 r e) = (res (zr q K r) ((i 2).val * 1024 + r.val) (vr V e) * (g (ix3 0 r e) * Ideal.logistic (g (ix3 0 r e))) : EReal) := by
  have h := inv_mid i q K V T hT (inv_start i q K V T hT)
  have hA : IsA (zr q K) (pr i) (vr V) (En i) 0 (endA i q K V T) :=
    isA_step T hT (a := 0) (by show _ ≤ (i 2).val * 1024 + 1024; omega) (fun l e => v_ld V _ _ (off10_at i) l e) h.acc h.sp h.ls
  unfold outS
  rw [outOf_at, hA r e, O_eq_res _ _ _ (by show (i 2).val * 1024 + r.val ≤ (i 2).val * 1024 + 1024; omega) (by show (i 2).val * 1024 + 1024 ≤ 16384; have := i2_lt i; omega)]
  rfl

end tile

end Cert.KernelIdeal.Hand

end
-- ==== Proof.ArithRef.lean ====
/-
  One row of the attention in the problem's own terms: natural logarithms and exponentials, against `Row`'s base two.
-/
module

public import proofs.«01_k».proof.Proof.Arith
public import Idealize.ShloMosaic.Lib.IdealHost

@[expose] public section

noncomputable section

namespace Cert.Row

open Idealize.ShloMosaic
open Finset

/-- The logarithm of two. -/
abbrev ln2 : EReal := ((Real.log 2 : ℝ) : EReal)

theorem coe_max (x y : ℝ) : ((max x y : ℝ) : EReal) = max (x : EReal) (y : EReal) := EReal.coe_strictMono.monotone.map_max

theorem log2_pos : 0 < Real.log 2 := Real.log_pos (by norm_num)
theorem ln2_nonneg : 0 ≤ ln2 := EReal.coe_nonneg.2 log2_pos.le
theorem ln2_ne_top : ln2 ≠ ⊤ := EReal.coe_ne_top _

theorem exp_mul_ln2 (x : EReal) : Ideal.exp (x * ln2) = Ideal.exp2 x := by
  induction x with
  | bot => rw [EReal.bot_mul_coe_of_pos log2_pos]; rfl
  | top => rw [EReal.top_mul_coe_of_pos log2_pos]; rfl
  | coe r =>
    rw [← EReal.coe_mul]
    show ((Real.exp (r * Real.log 2) : ℝ) : EReal) = ((Real.rpow 2 r : ℝ) : EReal)
    congr 1
    rw [mul_comm]
    exact (Real.rpow_def_of_pos (by norm_num) r).symm

theorem add_mul_ln2 (x y : EReal) : (x + y) * ln2 = x * ln2 + y * ln2 := by
  rw [mul_comm, EReal.left_distrib_of_nonneg_of_ne_top ln2_nonneg ln2_ne_top, mul_comm ln2 x, mul_comm ln2 y]

theorem sum_mul_ln2 {ι : Type} (s : Finset ι) (f : ι → EReal) : (∑ i ∈ s, f i) * ln2 = ∑ i ∈ s, f i * ln2 := by
  classical
  induction s using Finset.induction_on with
  | empty => simp
  | insert a s ha ih => rw [sum_insert ha, sum_insert ha, add_mul_ln2, ih]

/-- The problem's softplus is the base-two one times the logarithm of two. -/
theorem softplus_ln2 (z : EReal) :
    max (z * ln2) 0 + Ideal.log1p (Ideal.exp (-max (z * ln2) (-(z * ln2)))) = sp z * ln2 := by
  induction z with
  | bot =>
    rw [EReal.bot_mul_coe_of_pos log2_pos]
    have h1 : Ideal.exp (-max (⊥ : EReal) (-⊥)) = 0 := by rw [EReal.neg_bot, max_eq_right bot_le, EReal.neg_top]; rfl
    have h2 : Ideal.log (1 + 0) = 0 := by
      rw [add_zero]
      show (if (1 : ℝ) ≤ 0 then (⊥ : EReal) else ((Real.log 1 : ℝ) : EReal)) = 0
      rw [if_neg (by norm_num), Real.log_one]; rfl
    rw [h1]
    unfold Ideal.log1p sp
    rw [show Ideal.exp2 ⊥ = 0 from rfl, h2, zero_mul, zero_mul, add_zero]
    exact max_eq_right bot_le
  | top =>
    rw [EReal.top_mul_coe_of_pos log2_pos]
    unfold sp
    rw [show Ideal.exp2 ⊤ = ⊤ from rfl, show (1 : EReal) + ⊤ = ⊤ from rfl, show Ideal.log ⊤ = ⊤ from rfl, EReal.top_mul_coe_of_pos (inv_pos.2 log2_pos),
      EReal.top_mul_coe_of_pos log2_pos, max_eq_left le_top, max_eq_left le_top]
    have : Ideal.log1p (Ideal.exp (-⊤)) = 0 := by
      rw [EReal.neg_top, show Ideal.exp ⊥ = 0 from rfl]
      unfold Ideal.log1p
      rw [add_zero]
      show (if (1 : ℝ) ≤ 0 then (⊥ : EReal) else ((Real.log 1 : ℝ) : EReal)) = 0
      rw [if_neg (by norm_num), Real.log_one]; rfl
    rw [this, add_zero]
  | coe r =>
    have hp : ∀ y : ℝ, 0 < y → Ideal.log (1 + (y : EReal)) = ((Real.log (1 + y) : ℝ) : EReal) := fun y hy => by
      show (if 1 + y ≤ 0 then (⊥ : EReal) else ((Real.log (1 + y) : ℝ) : EReal)) = _
      rw [if_neg (by linarith)]
    have hs : sp (r : EReal) * ln2 = ((Real.log (1 + Real.exp (r * Real.log 2)) : ℝ) : EReal) := by
      unfold sp
      rw [← exp_mul_ln2, ← EReal.coe_mul, show Ideal.exp ((r * Real.log 2 : ℝ) : EReal) = ((Real.exp (r * Real.log 2) : ℝ) : EReal) from rfl, hp _ (Real.exp_pos _),
        ← EReal.coe_mul, ← EReal.coe_mul]
      congr 1
      field_simp [log2_pos.ne']
    rw [hs, ← EReal.coe_mul]
    set y := r * Real.log 2
    have hm : max ((y : ℝ) : EReal) (-((y : ℝ) : EReal)) = ((|y| : ℝ) : EReal) := by rw [← EReal.coe_neg, ← coe_max]; rfl
    rw [hm, ← EReal.coe_neg, show Ideal.exp ((-|y| : ℝ) : EReal) = ((Real.exp (-|y|) : ℝ) : EReal) from rfl]
    unfold Ideal.log1p
    rw [hp _ (Real.exp_pos _), show max ((y : ℝ) : EReal) 0 = ((max y 0 : ℝ) : EReal) from (coe_max y 0).symm, ← EReal.coe_add]
    congr 1
    rcases le_total 0 y with h | h
    · rw [max_eq_left h, abs_of_nonneg h]
      have e : 1 + Real.exp y = Real.exp y * (1 + Real.exp (-y)) := by rw [mul_add, mul_one, ← Real.exp_add, add_neg_cancel, Real.exp_zero, add_comm]
      rw [e, Real.log_mul (Real.exp_pos _).ne' (by positivity), Real.log_exp]
    · rw [max_eq_right h, abs_of_nonpos h, neg_neg, zero_add]

/-- A key's weight in the problem's terms. -/
theorem weight_ln2 (z : ℕ → EReal) (p : ℕ) (s : Finset ℕ) (x : EReal) :
    Ideal.exp (x * ln2 + ∑ j ∈ s, (if j < p then -(sp (z j) * ln2) else 0)) = Ideal.exp2 (x + -∑ j ∈ s, S z p j) := by
  have h : ∀ j, (if j < p then -(sp (z j) * ln2) else 0) = -S z p j * ln2 := fun j => by
    unfold S
    by_cases k : j < p
    · rw [if_pos k, if_pos k, neg_mul]
    · rw [if_neg k, if_neg k, neg_zero, zero_mul]
  rw [Finset.sum_congr rfl fun j _ => h j, ← sum_mul_ln2, sum_neg_of_nonneg _ _ (S_nonneg z p), ← add_mul_ln2, exp_mul_ln2]

end Cert.Row

end
-- ==== Proof.RefVal.lean ====
/-
  The reference's result, element by element: every query's row of the attention, gated.
-/
module

public import proofs.«01_k».proof.Proof.Ref
public import proofs.«01_k».proof.Proof.ArithRef
public import Idealize.ShloMosaic.Lib.Pointwise
public import Idealize.ShloMosaic.Lib.WordCmp

@[expose] public section

noncomputable section

namespace Cert.ReferenceIdeal.Hand

open Cert.ReferenceIdeal Cert.ReferenceIdeal.Gen Cert.ReferenceIdeal.Read
open Idealize.ShloMosaic Idealize.ShloMosaic.TcCoe
open Cert.Row

abbrev Arg := S2x16384x2048.Idx → EReal

/-- A head's column. -/
abbrev col (h : Fin 8) (d : Fin 256) : Fin 2048 := ⟨h.val * 256 + d.val, by omega⟩

variable (x0 x1 x2 x3 : Arg) (b : Fin 2) (h : Fin 8)

/-- The logits of a query's row, and a column of the values, by the key's position. -/
def zq (p : Fin 16384) (j : ℕ) : EReal := if hj : j < 16384 then ∑ d : Fin 256, x0 (ix3 b p (col h d)) * x1 (ix3 b ⟨j, hj⟩ (col h d)) else 0
def vq (e : Fin 256) (j : ℕ) : EReal := if hj : j < 16384 then x2 (ix3 b ⟨j, hj⟩ (col h e)) else 0

theorem split_idx (p : Fin 16384) (d : Fin 256) : (idx_main_v1 (idx_main_v2 (ix4 b h p d)) : S2x16384x2048.Idx) = ix3 b p (col h d) := by
  refine funext fun a => Fin.ext ?_
  have := b.isLt; have := h.isLt; have := p.isLt; have := d.isLt
  match a with
  | ⟨0, _⟩ => show (((b.val * 16384 + p.val) * 8 + h.val) * 256 + d.val) / 33554432 = b.val; omega
  | ⟨1, _⟩ => show (((b.val * 16384 + p.val) * 8 + h.val) * 256 + d.val) / 2048 % 16384 = p.val; omega
  | ⟨2, _⟩ => show (((b.val * 16384 + p.val) * 8 + h.val) * 256 + d.val) % 2048 = h.val * 256 + d.val; omega

theorem v2_at (p : Fin 16384) (d : Fin 256) : val_main_v2 (F := Ideal) x0 (ix4 b h p d) = x0 (ix3 b p (col h d)) := by
  rw [val_main_v2_apply, val_main_v1_apply, val_main_v0_apply, split_idx]; rfl
theorem v5_at (p : Fin 16384) (d : Fin 256) : val_main_v5 (F := Ideal) x1 (ix4 b h p d) = x1 (ix3 b p (col h d)) := by
  rw [val_main_v5_apply, val_main_v4_apply, val_main_v3_apply]
  exact congrArg x1 (split_idx b h p d)
theorem v8_at (p : Fin 16384) (d : Fin 256) : val_main_v8 (F := Ideal) x2 (ix4 b h p d) = x2 (ix3 b p (col h d)) := by
  rw [val_main_v8_apply, val_main_v7_apply, val_main_v6_apply]
  exact congrArg x2 (split_idx b h p d)

theorem ix4_ext {n0 n1 n2 n3 : ℕ} (f : (⟨4, ![n0, n1, n2, n3]⟩ : Shape).Idx) (a : Fin n0) (b : Fin n1) (c : Fin n2) (e : Fin n3)
    (ha : (f 0).val = a.val) (hb : (f 1).val = b.val) (hc : (f 2).val = c.val) (he : (f 3).val = e.val) : f = ix4 a b c e := by
  refine funext fun x => Fin.ext ?_
  match x with
  | ⟨0, _⟩ => exact ha
  | ⟨1, _⟩ => exact hb
  | ⟨2, _⟩ => exact hc
  | ⟨3, _⟩ => exact he

theorem v9_at (p j : Fin 16384) : val_main_v9 (F := Ideal) x0 x1 (ix4 b h p j) = zq x0 x1 b h p j.val := by
  rw [val_main_v9_apply, zq, dif_pos j.isLt]
  refine Finset.sum_congr rfl fun d _ => ?_
  rw [ix4_ext (lidx_main_v9 (ix4 b h p j) d) b h p d rfl rfl rfl rfl, ix4_ext (ridx_main_v9 (ix4 b h p j) d) b h j d rfl rfl rfl rfl, v2_at, v5_at]

theorem ofBits_two : (FloatOps.ofBits (F := Ideal) .f32 0x40000000#32 : EReal) = ((2 : ℝ) : EReal) := by
  show Ideal.ofBits .f32 0x40000000#32 = _
  simp [Ideal.ofBits, Ideal.ieee]
  rw [← EReal.coe_mul]
  norm_num

theorem v12_at (p j : Fin 16384) : val_main_v12 (F := Ideal) x0 x1 (ix4 b h p j) = zq x0 x1 b h p j.val * ln2 := by
  rw [val_main_v12_apply, v9_at, val_main_v11_apply, val_main_v10_apply, val_main_cst_apply, ofBits_two]
  show zq x0 x1 b h p j.val * Ideal.log ((2 : ℝ) : EReal) = _
  congr 1
  show (if (2 : ℝ) ≤ 0 then (⊥ : EReal) else ((Real.log 2 : ℝ) : EReal)) = _
  rw [if_neg (by norm_num)]

theorem zero_f32 : (FloatOps.ofBits (F := Ideal) .f32 0x00000000#32 : EReal) = 0 := Ideal.ofBits_zero_f32
theorem one_f32 : (FloatOps.ofBits (F := Ideal) .f32 0x3F800000#32 : EReal) = 1 := Ideal.ofBits_one_f32

theorem une_self (x : EReal) : Ideal.cmp .une x x = 0#1 := by unfold Ideal.cmp; simp

theorem v20_at (p j : Fin 16384) : val_main_v20 (F := Ideal) x0 x1 (ix4 b h p j) = -(sp (zq x0 x1 b h p j.val) * ln2) := by
  have h0 : val_main_call0_v0 (F := Ideal) x0 x1 (ix4 b h p j) = zq x0 x1 b h p j.val * ln2 := by
    rw [val_main_call0_v0_apply, val_main_v19_apply, v12_at]
    exact neg_neg _
  have h3 : val_main_call0_call0_v3 (F := Ideal) x0 x1 (ix4 b h p j) = zq x0 x1 b h p j.val * ln2 := by
    rw [val_main_call0_call0_v3_apply, h0, val_main_call0_call0_v2_apply, val_main_call0_call0_cst_apply, zero_f32]
    exact sub_zero _
  rw [val_main_v20_apply, val_main_call0_v1_apply, val_main_call0_call0_v4_apply, val_main_call0_call0_v11_apply, val_main_call0_call0_v1_apply, val_main_call0_call0_v10_apply,
    val_main_call0_call0_v9_apply, val_main_call0_call0_v8_apply, val_main_call0_call0_v7_apply, h3, h0, val_main_call0_call0_v0_apply, val_main_call0_call0_cst_apply, zero_f32,
    ← softplus_ln2]
  show -(Scalar.select (Ideal.cmp .une _ _) _ _) = _
  rw [une_self]
  rfl

/-- The causal mask. -/
theorem v18_at (p j : Fin 16384) : val_main_v18 (F := Ideal) (ix2 p j) = 1#1 ↔ j.val < p.val := by
  rw [val_main_v18_apply, val_main_v16_apply, val_main_v17_apply, val_main_v14_apply, val_main_v15_apply, val_main_v13_apply, val_main_v13_apply]
  exact WordCmp.cmpi_slt_ofNat_eq_one_iff (show j.val < 2147483648 by omega) (show p.val < 2147483648 by omega)

theorem v21_at (p j : Fin 16384) : val_main_v21 (F := Ideal) x0 x1 (ix4 b h p j) = if j.val < p.val then -(sp (zq x0 x1 b h p j.val) * ln2) else 0 := by
  have hm : val_main_call1_v1 (F := Ideal) (ix4 b h p j) = 1#1 ↔ j.val < p.val := by
    rw [val_main_call1_v1_apply, ← v18_at p j]
    exact iff_of_eq (congrArg (fun x => val_main_v18 (F := Ideal) x = 1#1) (funext fun a => by match a with | ⟨0, _⟩ => rfl | ⟨1, _⟩ => rfl))
  rw [val_main_v21_apply, v20_at, val_main_call1_v2_apply, val_main_call1_v0_apply, val_main_cst_0_apply, zero_f32]
  show (if val_main_call1_v1 (F := Ideal) (ix4 b h p j) = 1#1 then _ else _) = _
  by_cases k : j.val < p.val
  · rw [if_pos (hm.2 k), if_pos k]
  · rw [if_neg (fun y => k (hm.1 y)), if_neg k]

theorem foldl_add {ι : Type} (g : ι → EReal) (l : List ι) (v : EReal) : l.foldl (fun r n => r + g n) v = v + (l.map g).sum := by
  induction l generalizing v with
  | nil => simp
  | cons a l ih => rw [List.foldl_cons, ih, List.map_cons, List.sum_cons, add_assoc]

/-- A sum over a window of the row that may reach past its end, where nothing is. -/
theorem window_sum (f : ℕ → EReal) (hf : ∀ j, 16384 ≤ j → f j = 0) (a : ℕ) (ha : a ≤ 16384) : ∑ k : Fin 16384, f (a + k.val) = ∑ j ∈ Finset.Ico a 16384, f j := by
  rw [sum_fin_shift, ← Finset.sum_Ico_consecutive f ha (Nat.le_add_left _ _), Finset.sum_eq_zero fun j hj => hf j (Finset.mem_Ico.1 hj).1, add_zero]

/-- What a window's element adds to the running sum at an index. -/
def windowed {s t : Shape} (hr : t.rank = s.rank) (window strides lo : Fin s.rank → ℕ) (x : s.Idx → EReal) (j : t.Idx) (w : (⟨s.rank, window⟩ : Shape).Idx) : EReal :=
  if hin : ∀ a, lo a ≤ (j (a.cast hr.symm)).val * strides a + (w a).val ∧ (j (a.cast hr.symm)).val * strides a + (w a).val - lo a < s.size a
  then x fun a => ⟨(j (a.cast hr.symm)).val * strides a + (w a).val - lo a, (hin a).2⟩ else 0

theorem hostWindow_apply {s t : Shape} (window strides lo hi : Fin s.rank → ℕ) (hw : s.ReduceWindows window strides lo hi t) (x : s.Idx → EReal) (j : t.Idx) :
    Ideal.hostReduceWindowAdd window strides lo hi hw x 0 j = ∑ w, windowed hw.1 window strides lo x j w := by
  unfold Ideal.hostReduceWindowAdd Host.reduceWindow
  dsimp only
  rw [foldl_add, zero_add, ← Fin.sum_univ_def]
  refine Eq.trans (Finset.sum_congr rfl fun n _ => ?_) (Equiv.sum_comp (Shape.rowMajor ⟨s.rank, window⟩).symm (windowed hw.1 window strides lo x j))
  unfold windowed
  split <;> rfl

theorem windowed_at (f : S2x8x16384x16384.Idx → EReal) (p j k : Fin 16384) : windowed (s := S2x8x16384x16384) (t := S2x8x16384x16384) rfl ![1, 1, 1, 16384] ![1, 1, 1, 1] ![0, 0, 0, 0] f (ix4 b h p j) (ix4 (0 : Fin 1) (0 : Fin 1) (0 : Fin 1) k)
    = if hk : j.val + k.val < 16384 then f (ix4 b h p ⟨j.val + k.val, hk⟩) else 0 := by
  unfold windowed
  by_cases hk : j.val + k.val < 16384
  · rw [dif_pos hk, dif_pos]
    · refine congrArg f (ix4_ext _ _ _ _ _ ?_ ?_ ?_ ?_)
      · show b.val * 1 + 0 - 0 = b.val; omega
      · show h.val * 1 + 0 - 0 = h.val; omega
      · show p.val * 1 + 0 - 0 = p.val; omega
      · show j.val * 1 + k.val - 0 = j.val + k.val; omega
    · have := b.isLt; have := h.isLt; have := p.isLt
      intro a
      match a with
      | ⟨0, _⟩ => show 0 ≤ b.val * 1 + 0 ∧ b.val * 1 + 0 - 0 < 2; omega
      | ⟨1, _⟩ => show 0 ≤ h.val * 1 + 0 ∧ h.val * 1 + 0 - 0 < 8; omega
      | ⟨2, _⟩ => show 0 ≤ p.val * 1 + 0 ∧ p.val * 1 + 0 - 0 < 16384; omega
      | ⟨3, _⟩ => show 0 ≤ j.val * 1 + k.val ∧ j.val * 1 + k.val - 0 < 16384; omega
  · rw [dif_neg hk, dif_neg]
    intro hin
    have h3 : j.val * 1 + k.val - 0 < 16384 := (hin 3).2
    omega

theorem v22_at (p j : Fin 16384) : val_main_v22 (F := Ideal) x0 x1 (ix4 b h p j)
    = ∑ k ∈ Finset.Ico j.val 16384, (if k < p.val then -(sp (zq x0 x1 b h p k) * ln2) else 0) := by
  unfold val_main_v22
  rw [← window_sum (fun k => if k < p.val then -(sp (zq x0 x1 b h p k) * ln2) else 0) (fun k hk => if_neg (by have := p.isLt; omega)) j.val j.isLt.le]
  have hz : val_main_call2_v0 (F := Ideal) (Shape.Idx.first h_S_) = (0 : EReal) := by rw [val_main_call2_v0_apply, val_main_call2_cst_apply, zero_f32]
  unfold Host.reduceWindowAdd
  rw [hz]
  show Ideal.hostReduceWindowAdd _ _ _ _ _ _ _ _ = _
  refine (hostWindow_apply _ _ _ _ reduceWindows_S2x8x16384x16384_S2x8x16384x16384_w1s1p0_0_w1s1p0_0_w1s1p0_0_w16384s1p0_16383 _ _).trans ?_
  refine (sum_idx4 (n0 := 1) (n1 := 1) (n2 := 1) (n3 := 16384) _).trans ?_
  rw [Fin.sum_univ_one, Fin.sum_univ_one, Fin.sum_univ_one]
  refine Finset.sum_congr rfl fun k _ => ?_
  rw [windowed_at]
  by_cases hk : j.val + k.val < 16384
  · rw [dif_pos hk, v21_at]
  · rw [dif_neg hk, if_neg (by have := p.isLt; omega)]

theorem v25_at (p j : Fin 16384) : val_main_v25 (F := Ideal) x0 x1 (ix4 b h p j)
    = if j.val < p.val then Ideal.exp2 (zq x0 x1 b h p j.val + -∑ k ∈ Finset.Ico j.val 16384, S (zq x0 x1 b h p) p.val k) else 0 := by
  have hm : val_main_call3_v1 (F := Ideal) (ix4 b h p j) = 1#1 ↔ j.val < p.val := by
    rw [val_main_call3_v1_apply, ← v18_at p j]
    exact iff_of_eq (congrArg (fun x => val_main_v18 (F := Ideal) x = 1#1) (funext fun a => by match a with | ⟨0, _⟩ => rfl | ⟨1, _⟩ => rfl))
  rw [val_main_v25_apply, val_main_v24_apply, val_main_v23_apply, v12_at, v22_at, val_main_call3_v2_apply, val_main_call3_v0_apply, val_main_cst_1_apply, zero_f32,
    ← weight_ln2]
  show (if val_main_call3_v1 (F := Ideal) (ix4 b h p j) = 1#1 then _ else _) = _
  by_cases k : j.val < p.val
  · rw [if_pos (hm.2 k), if_pos k]; rfl
  · rw [if_neg (fun y => k (hm.1 y)), if_neg k]

theorem v26_at (p : Fin 16384) (e : Fin 256) : val_main_v26 (F := Ideal) x0 x1 x2 (ix4 b h p e) = res (zq x0 x1 b h p) p.val (vq x2 b h e) := by
  rw [val_main_v26_apply]
  unfold res
  refine Finset.sum_congr rfl fun j _ => ?_
  rw [ix4_ext (lidx_main_v26 (ix4 b h p e) j) b h p j rfl rfl rfl rfl, ix4_ext (ridx_main_v26 (ix4 b h p e) j) b h j e rfl rfl rfl rfl, v25_at, v8_at, vq, dif_pos j.isLt]

theorem join_idx (p : Fin 16384) (e : Fin 256) : (idx_main_v27 (idx_main_v28 (ix3 b p (col h e))) : S2x8x16384x256.Idx) = ix4 b h p e := by
  have := b.isLt; have := h.isLt; have := p.isLt; have := e.isLt
  refine ix4_ext _ _ _ _ _ ?_ ?_ ?_ ?_
  · show ((b.val * 16384 + p.val) * 2048 + (h.val * 256 + e.val)) / 33554432 = b.val; omega
  · show ((b.val * 16384 + p.val) * 2048 + (h.val * 256 + e.val)) / 256 % 8 = h.val; omega
  · show ((b.val * 16384 + p.val) * 2048 + (h.val * 256 + e.val)) / 2048 % 16384 = p.val; omega
  · show ((b.val * 16384 + p.val) * 2048 + (h.val * 256 + e.val)) % 256 = e.val; omega

/-- The reference's result at a query and a head's column. -/
theorem v31_at (p : Fin 16384) (e : Fin 256) : val_main_v31 (F := Ideal) x0 x1 x2 x3 (ix3 b p (col h e))
    = res (zq x0 x1 b h p) p.val (vq x2 b h e) * (x3 (ix3 b p (col h e)) * Ideal.logistic (x3 (ix3 b p (col h e)))) := by
  rw [val_main_v31_apply, val_main_v30_apply, val_main_v28_apply, val_main_v27_apply, join_idx, v26_at, val_main_v29_apply, val_main_call4_v5_apply, val_main_call4_v4_apply,
    val_main_call4_cst_0_apply, val_main_call4_v3_apply, val_main_call4_v2_apply, val_main_call4_cst_apply, val_main_call4_v1_apply, val_main_call4_v0_apply, one_f32]
  rfl

end Cert.ReferenceIdeal.Hand

end
-- ==== Proof.Alg.lean ====
/-
  The value claim of the attention: the result array, from its tiles, is the reference's.
-/
module

public import proofs.«01_k».proof.Proof.Launch
public import proofs.«01_k».proof.Proof.Tile
public import proofs.«01_k».proof.Proof.RefVal
public import Idealize.ShloMosaic.Lib.Pipeline.ValueKit
public import Idealize.ShloMosaic.Lib.StableHlo.ReadAt

@[expose] public section

noncomputable section

namespace Cert.KernelIdeal.Hand

open Cert.KernelIdeal Cert.KernelIdeal.Gen
open Idealize.ShloMosaic Idealize.ShloMosaic.TcCoe Idealize.SL.Sem
open Cert.Row
open Cert.ReferenceIdeal.Hand (zq vq col)

variable (m : (ℓ : Loc nD τ sig) → Buf (Elt Ideal) ℓ)

abbrev argQ (c : Dev nD) : S2x16384x2048.Idx → EReal := m ((c : Thread nD τ).loc main_arg0)
abbrev argK (c : Dev nD) : S2x16384x2048.Idx → EReal := m ((c : Thread nD τ).loc main_arg1)
abbrev argV (c : Dev nD) : S2x16384x2048.Idx → EReal := m ((c : Thread nD τ).loc main_arg2)
abbrev argG (c : Dev nD) : S2x16384x2048.Idx → EReal := m ((c : Thread nD τ).loc main_arg3)

theorem co0 (t : Fin cfg0.N) : (grid0.coords t 0).val < 2 := (grid0.coords t 0).isLt
theorem co1 (t : Fin cfg0.N) : (grid0.coords t 1).val < 8 := (grid0.coords t 1).isLt
theorem co2 (t : Fin cfg0.N) : (grid0.coords t 2).val < 16 := (grid0.coords t 2).isLt

abbrev bt (t : Fin cfg0.N) : Fin 2 := ⟨(grid0.coords t 0).val, co0 t⟩
abbrev hd (t : Fin cfg0.N) : Fin 8 := ⟨(grid0.coords t 1).val, co1 t⟩
abbrev row (t : Fin cfg0.N) (r : Fin 1024) : Fin 16384 := ⟨(grid0.coords t 2).val * 1024 + r.val, by have := co2 t; omega⟩

theorem idx : ∀ t : Fin cfg0.N, win0_0.index t = ![(grid0.coords t 0).val, (grid0.coords t 2).val, (grid0.coords t 1).val]
    ∧ win0_1.index t = ![(grid0.coords t 0).val, 0, (grid0.coords t 1).val] ∧ win0_2.index t = ![(grid0.coords t 0).val, 0, (grid0.coords t 1).val]
    ∧ win0_3.index t = ![(grid0.coords t 0).val, (grid0.coords t 2).val, (grid0.coords t 1).val] ∧ win0_4.index t = ![0, 0]
    ∧ win0_5.index t = ![(grid0.coords t 0).val, (grid0.coords t 2).val, (grid0.coords t 1).val] :=
  (by decide +kernel : ∀ t : Fin grid0.N, _)

theorem q_at (c : Dev nD) (t : Fin cfg0.N) (r : Fin 1024) (d : Fin 256) : iblk m c 0 t (ix3 0 r d) = argQ m c (ix3 (bt t) (row t r) (col (hd t) d)) := by
  blk_simp [iblk]
  rw [V_main_arg0]
  refine congrArg (argQ m c) ?_
  blk_ext [(idx t).1]

theorem k_at (c : Dev nD) (t : Fin cfg0.N) (j : Fin 16384) (d : Fin 256) : iblk m c 1 t (ix3 0 j d) = argK m c (ix3 (bt t) j (col (hd t) d)) := by
  blk_simp [iblk]
  rw [V_main_arg1]
  refine congrArg (argK m c) ?_
  blk_ext [(idx t).2.1]

theorem v_at (c : Dev nD) (t : Fin cfg0.N) (j : Fin 16384) (d : Fin 256) : iblk m c 2 t (ix3 0 j d) = argV m c (ix3 (bt t) j (col (hd t) d)) := by
  blk_simp [iblk]
  rw [V_main_arg2]
  refine congrArg (argV m c) ?_
  blk_ext [(idx t).2.2.1]

theorem g_at (c : Dev nD) (t : Fin cfg0.N) (r : Fin 1024) (d : Fin 256) : iblk m c 3 t (ix3 0 r d) = argG m c (ix3 (bt t) (row t r) (col (hd t) d)) := by
  blk_simp [iblk]
  rw [V_main_arg3]
  refine congrArg (argG m c) ?_
  blk_ext [(idx t).2.2.2.1]

/-- The triangle as the host prepares it. -/
def tri : S256x256.Idx → EReal :=
  fun i => Scalar.select (IntOp.cmpi .sgt (BitVec.ofNat 32 (i 0).val) (BitVec.ofNat 32 (i 1).val)) (Ideal.ofBits .f32 0xBF800000#32) (Ideal.ofBits .f32 0x00000000#32)

theorem V_tri (c : Dev nD) : V m c main_v4 = tri := by
  unfold V
  after_reads_simp
  rfl

theorem tri_at (c : Dev nD) (t : Fin cfg0.N) (d' d : Fin 256) : iblk m c 4 t (ix2 d' d) = if d.val < d'.val then (-1 : EReal) else 0 := by
  blk_simp [iblk]
  rw [V_tri, show (win0_4.blk t).view.emb (ix2 d' d) = (ix2 d' d : S256x256.Idx) by blk_ext [(idx t).2.2.2.2.1]]
  have hc : IntOp.cmpi .sgt (BitVec.ofNat 32 d'.val) (BitVec.ofNat 32 d.val) = 1#1 ↔ d.val < d'.val :=
    WordCmp.cmpi_sgt_ofNat_eq_one_iff (show d'.val < 2147483648 by omega) (show d.val < 2147483648 by omega)
  show (if IntOp.cmpi .sgt (BitVec.ofNat 32 d'.val) (BitVec.ofNat 32 d.val) = 1#1 then Ideal.ofBits .f32 0xBF800000#32 else Ideal.ofBits .f32 0x00000000#32) = _
  have h1 : Ideal.ofBits .f32 0xBF800000#32 = (-1 : EReal) := by
    simp [Ideal.ofBits, Ideal.ieee]
    rw [← EReal.coe_mul]
    norm_num
  rw [h1, Ideal.ofBits_zero_f32]
  by_cases h : d.val < d'.val
  · rw [if_pos (hc.2 h), if_pos h]
  · rw [if_neg (fun y => h (hc.1 y)), if_neg h]

theorem zr_eq (c : Dev nD) (t : Fin cfg0.N) (r : Fin 1024) : zr (iblk m c 0 t) (iblk m c 1 t) r = zq (argQ m c) (argK m c) (bt t) (hd t) (row t r) := by
  funext j
  unfold zr zq
  split
  · exact Finset.sum_congr rfl fun d _ => congrArg₂ (· * ·) (q_at m c t r d) (k_at m c t _ d)
  · rfl

theorem vr_eq (c : Dev nD) (t : Fin cfg0.N) (e : Fin 256) : vr (iblk m c 2 t) e = vq (argV m c) (bt t) (hd t) e := by
  funext j
  unfold vr vq
  split
  · exact v_at m c t _ e
  · rfl

/-- The reference's result on the kernel's arguments. -/
abbrev result (c : Dev nD) : S2x16384x2048.Idx → EReal :=
  Cert.ReferenceIdeal.Read.val_main_v31 (F := Ideal) (argQ m c) (argK m c) (argV m c) (argG m c)

theorem tile_at (c : Dev nD) (t : Fin cfg0.N) (r : Fin 1024) (e : Fin 256) : tileAt m c t (ix3 0 r e) = result m c (ix3 (bt t) (row t r) (col (hd t) e)) := by
  unfold tileAt result
  rw [outS_at _ _ _ _ _ (tri_at m c t), Cert.ReferenceIdeal.Hand.v31_at, zr_eq, vr_eq]
  have hg := g_at m c t r e
  rw [hg]

theorem final (c : Dev nD) : (dats m 0 c).arrAt 5 cfg0.N = result m c := by
  refine (dats m 0 c).arrAt_eq_of_covers 5 _ (by decide +kernel) fun t hf y => ?_
  blk_simp
  rw [after5]
  let r : Fin 1024 := ⟨(y 1).val, (y 1).isLt⟩
  let e : Fin 256 := ⟨(y 2).val, (y 2).isLt⟩
  have hy : y = (ix3 0 r e : S1x1024x256.Idx) := by
    refine funext fun a => Fin.ext ?_
    match a with
    | ⟨0, _⟩ => exact Nat.lt_one_iff.1 (y 0).isLt
    | ⟨1, _⟩ => rfl
    | ⟨2, _⟩ => rfl
  rw [hy]
  refine (tile_at m c t r e).trans (congrArg (result m c) ?_)
  blk_ext [(idx t).2.2.2.2.2]

/-- The kernel's run: its result array ends at the reference's result, its arguments as launched. -/
theorem run_value (ρ : Dev nD → PrngReg) :
    θ_run defs (onTc (τ := τ) (main (F := Ideal))) ⟨m, fun _ => 0, ρ⟩ (fun r => ∀ c : Dev nD,
      r.2.mem ((c.tc : Thread nD τ).loc main_v5) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(h.1.out_eq c 5).trans (final m c), (h.1.in_eq c 0 rfl).trans (V_main_arg0 m c), (h.1.in_eq c 1 rfl).trans (V_main_arg1 m c),
    (h.1.in_eq c 2 rfl).trans (V_main_arg2 m c), (h.1.in_eq c 3 rfl).trans (V_main_arg3 m c)⟩) (run_main m ρ)

end Cert.KernelIdeal.Hand

end
-- ==== Proof.Norm.lean ====
/-
  The root-mean-square norm and the products of rows by columns, over the extended reals.
-/
module

public import Idealize.ShloMosaic.PureOps.Ideal
public import Idealize.ShloMosaic.Lib.Pointwise

@[expose] public section

noncomputable section

namespace Cert.Norm

open Idealize.ShloMosaic

/-- A token's row among all rows of both batches. -/
abbrev tok (b : Fin 2) (s : Fin 16384) : Fin 32768 := ⟨b.val * 16384 + s.val, by omega⟩

/-- The batch and the position of a tile's row, 64 tiles of 512 rows. -/
abbrev tb (t : ℕ) (ht : t < 64) (r : Fin 512) : Fin 2 := ⟨(t * 512 + r.val) / 16384, by omega⟩
abbrev ts (t : ℕ) (r : Fin 512) : Fin 16384 := ⟨(t * 512 + r.val) % 16384, by omega⟩

theorem tok_tile (t : ℕ) (ht : t < 64) (r : Fin 512) : (tok (tb t ht r) (ts t r)).val = t * 512 + r.val := by
  show (t * 512 + r.val) / 16384 * 16384 + (t * 512 + r.val) % 16384 = _
  omega

theorem ix2_ext {n0 n1 : ℕ} (f : (⟨2, ![n0, n1]⟩ : Shape).Idx) (a : Fin n0) (b : Fin n1) (ha : (f 0).val = a.val) (hb : (f 1).val = b.val) : f = ix2 a b := by
  refine funext fun x => Fin.ext ?_
  match x with
  | ⟨0, _⟩ => exact ha
  | ⟨1, _⟩ => exact hb

theorem ix3_ext {n0 n1 n2 : ℕ} (f : (⟨3, ![n0, n1, n2]⟩ : Shape).Idx) (a : Fin n0) (b : Fin n1) (c : Fin n2)
    (ha : (f 0).val = a.val) (hb : (f 1).val = b.val) (hc : (f 2).val = c.val) : f = ix3 a b c := by
  refine funext fun x => Fin.ext ?_
  match x with
  | ⟨0, _⟩ => exact ha
  | ⟨1, _⟩ => exact hb
  | ⟨2, _⟩ => exact hc

/-- A token's row read back. -/
theorem tok_div (b : Fin 2) (s : Fin 16384) : (b.val * 16384 + s.val) / 16384 = b.val := by omega
theorem tok_mod (b : Fin 2) (s : Fin 16384) : (b.val * 16384 + s.val) % 16384 = s.val := by omega

/-- A token's element in the order of its rows, read back: the batch, the position, the column. -/
theorem flat_batch (b : Fin 2) (s : Fin 16384) (j : Fin 2048) : ((b.val * 16384 + s.val) * 2048 + j.val) / 33554432 = b.val := by omega
theorem flat_pos (b : Fin 2) (s : Fin 16384) (j : Fin 2048) : ((b.val * 16384 + s.val) * 2048 + j.val) / 2048 % 16384 = s.val := by omega
theorem flat_col (b : Fin 2) (s : Fin 16384) (j : Fin 2048) : ((b.val * 16384 + s.val) * 2048 + j.val) % 2048 = j.val := by omega

/-- A row of an array by a column of another. -/
def dot (a w : Fin 2048 → EReal) : EReal := ∑ k, a k * w k

/-- The mean square of a row with the norm's small constant, under the inverse root. -/
def scale (a : Fin 2048 → EReal) : EReal := Ideal.rsqrt (Ideal.div (∑ k, a k * a k) (Ideal.ofBits .f32 0x45000000#32) + Ideal.ofBits .f32 0x358637BD#32)

/-- A row, normed and weighted. -/
def weighted (a g : Fin 2048 → EReal) (k : Fin 2048) : EReal := a k * scale a * g k

end Cert.Norm

end
-- ==== Proof.Out2.lean ====
/-
  The last output projection: the stream plus the product, normed and weighted.
-/
module

public import proofs.«01_k».proof.Defs
public import proofs.«01_k».proof.Proof.Norm
public import proofs.«01_k».proof.Proof.Gen.Kernel2Ideal
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import Idealize.ShloMosaic.Lib.Pipeline.ValueKit
public import Idealize.ShloMosaic.Lib.StableHlo.ReadAt
public import Idealize.ShloMosaic.Lib.Pointwise

@[expose] public section

noncomputable section

namespace Cert.Kernel2Ideal.Hand

open Cert.Kernel2Ideal Cert.Kernel2Ideal.Gen
open Idealize.ShloMosaic Idealize.ShloMosaic.TcCoe Idealize.SL.Sem
open Cert.Norm

variable (m : (ℓ : Loc nD τ sig) → Buf (Elt Ideal) ℓ)

theorem pay_at (x : Vec Ideal S512x2048 .f32) (y : Vec Ideal S512x2048 .bf16) (w : Vec Ideal S2048x2048 .bf16) (g : Vec Ideal S1x2048 .f32) (r : Fin 512) (j : Fin 2048) :
    k0_pay1 x y w g (ix2 r j) = weighted (fun d => x (ix2 r d) + dot (fun k => y (ix2 r k)) (fun k => w (ix2 k d))) (fun d => g (ix2 0 d)) j := by
  unfold k0_pay1 weighted scale dot
  pointwise

abbrev arg0 (c : Dev nD) : S2x16384x2048.Idx → EReal := m ((c : Thread nD τ).loc main_arg0)
abbrev arg1 (c : Dev nD) : S2x16384x2048.Idx → EReal := m ((c : Thread nD τ).loc main_arg1)
abbrev arg2 (c : Dev nD) : S2048x2048.Idx → EReal := m ((c : Thread nD τ).loc main_arg2)

abbrev arg3 (c : Dev nD) : S2048.Idx → EReal := m ((c : Thread nD τ).loc main_arg3)

/-- The stream with the product added, at a token's columns. -/
def row (x0 x1 : S2x16384x2048.Idx → EReal) (x2 : S2048x2048.Idx → EReal) (b : Fin 2) (s : Fin 16384) (d : Fin 2048) : EReal :=
  x0 (ix3 b s d) + dot (fun k => x1 (ix3 b s k)) (fun k => x2 (ix2 k d))

theorem V0 (c : Dev nD) (b : Fin 2) (s : Fin 16384) (d : Fin 2048) : V m c main_v0 (ix2 (tok b s) d) = arg0 m c (ix3 b s d) := by
  unfold V
  after_reads_simp
  pointwise
  exact congrArg (arg0 m c) (ix3_ext _ b s d (tok_div b s) (tok_mod b s) rfl)

theorem V1 (c : Dev nD) (b : Fin 2) (s : Fin 16384) (d : Fin 2048) : V m c main_v1 (ix2 (tok b s) d) = arg1 m c (ix3 b s d) := by
  unfold V
  after_reads_simp
  pointwise
  exact congrArg (arg1 m c) (ix3_ext _ b s d (tok_div b s) (tok_mod b s) rfl)

theorem V2 (c : Dev nD) : V m c main_v2 = arg2 m c := by
  unfold V
  after_reads_simp
  rfl

theorem V3 (c : Dev nD) (d : Fin 2048) : V m c main_v3 (ix2 (0 : Fin 1) d) = arg3 m c (ix1 d) := by
  unfold V
  after_reads_simp
  pointwise

theorem idx : ∀ t : Fin cfg0.N, win0_0.index t = ![t.val, 0] ∧ win0_1.index t = ![t.val, 0] ∧ win0_2.index t = ![0, 0] ∧ win0_3.index t = ![0, 0] ∧ win0_4.index t = ![t.val, 0] :=
  (by decide +kernel : ∀ t : Fin grid0.N, _)

theorem lt (t : Fin cfg0.N) : t.val < 64 := t.isLt.trans_eq N_0

theorem x_at (c : Dev nD) (t : Fin cfg0.N) (r : Fin 512) (d : Fin 2048) : iblk m c 0 t (ix2 r d) = arg0 m c (ix3 (tb t.val (lt t) r) (ts t.val r) d) := by
  rw [← V0]
  blk_simp [iblk]
  refine congrArg (V m c main_v0) ?_
  have := tok_tile t.val (lt t) r
  blk_ext [(idx t).1]

theorem y_at (c : Dev nD) (t : Fin cfg0.N) (r : Fin 512) (d : Fin 2048) : iblk m c 1 t (ix2 r d) = arg1 m c (ix3 (tb t.val (lt t) r) (ts t.val r) d) := by
  rw [← V1]
  blk_simp [iblk]
  refine congrArg (V m c main_v1) ?_
  have := tok_tile t.val (lt t) r
  blk_ext [(idx t).2.1]

theorem w_at (c : Dev nD) (t : Fin cfg0.N) (k j : Fin 2048) : iblk m c 2 t (ix2 k j) = arg2 m c (ix2 k j) := by
  rw [← V2]
  blk_simp [iblk]
  refine congrArg (V m c main_v2) ?_
  blk_ext [(idx t).2.2.1]

theorem g_at (c : Dev nD) (t : Fin cfg0.N) (d : Fin 2048) : iblk m c 3 t (ix2 (0 : Fin 1) d) = arg3 m c (ix1 d) := by
  rw [← V3]
  blk_simp [iblk]
  refine congrArg (V m c main_v3) ?_
  blk_ext [(idx t).2.2.2.1]

theorem ref_row (x0 x1 : S2x16384x2048.Idx → EReal) (x2 : S2048x2048.Idx → EReal) (b : Fin 2) (s : Fin 16384) (j : Fin 2048) :
    Cert.Reference2Ideal.Read.val_main_v2 (F := Ideal) x0 x1 x2 (ix3 b s j) = row x0 x1 x2 b s j := by
  rw [Cert.Reference2Ideal.Read.val_main_v2_apply, Cert.Reference2Ideal.Read.val_main_v1_apply]
  refine congrArg (x0 (ix3 b s j) + ·) (Finset.sum_congr rfl fun k _ => congrArg₂ (· * ·) ?_ ?_)
  · exact congrArg x1 (ix3_ext _ b s k rfl rfl rfl)
  · exact congrArg x2 (ix2_ext _ k j rfl rfl)

open Cert.Reference2Ideal.Read in
theorem ref_sum (x0 x1 : S2x16384x2048.Idx → EReal) (x2 : S2048x2048.Idx → EReal) (b : Fin 2) (s : Fin 16384) (i : Cert.Reference2Ideal.S2x16384.Idx)
    (hi : i = ix2 b s) :
    val_main_v4 (F := Ideal) x0 x1 x2 i = ∑ k, row x0 x1 x2 b s k * row x0 x1 x2 b s k := by
  subst hi
  rw [val_main_v4_apply]
  have h0 : val_main_cst (F := Ideal) (Shape.Idx.first Cert.Reference2Ideal.Gen.h_S_) = (0 : EReal) := by
    rw [val_main_cst_apply]
    exact Ideal.ofBits_zero_f32
  rw [h0, zero_add]
  refine Finset.sum_congr rfl fun k _ => ?_
  rw [val_main_v3_apply, show idx_main_v4 (ix2 b s) k = ix3 b s k from ix3_ext _ b s k rfl rfl rfl, ref_row]
  rfl

open Cert.Reference2Ideal.Read in
theorem ref_at (x0 x1 : S2x16384x2048.Idx → EReal) (x2 : S2048x2048.Idx → EReal) (x3 : S2048.Idx → EReal) (b : Fin 2) (s : Fin 16384) (j : Fin 2048) :
    val_main_v16 (F := Ideal) x0 x1 x2 x3 (ix2 (tok b s) j) = weighted (row x0 x1 x2 b s) (fun d => x3 (ix1 d)) j := by
  have hi : idx_main_v16 (ix2 (tok b s) j) = ix3 b s j := ix3_ext _ b s j (flat_batch b s j) (flat_pos b s j) (flat_col b s j)
  rw [val_main_v16_apply, hi, val_main_v15_apply, val_main_v12_apply, val_main_v11_apply, val_main_v10_apply, val_main_v9_apply, val_main_v8_apply,
    val_main_v7_apply, val_main_v6_apply, val_main_v5_apply, val_main_v14_apply, val_main_v13_apply, val_main_cst_0_apply, val_main_cst_1_apply, ref_row,
    ref_sum x0 x1 x2 b s _ (ix2_ext _ b s rfl rfl)]
  refine congrArg (_ * ·) (congrArg x3 ?_)
  refine funext fun a => Fin.ext ?_
  match a with
  | ⟨0, _⟩ => rfl

/-- The reference's result on the kernel's arguments. -/
abbrev result (c : Dev nD) : S32768x2048.Idx → EReal := Cert.Reference2Ideal.Read.val_main_v16 (F := Ideal) (arg0 m c) (arg1 m c) (arg2 m c) (arg3 m c)

theorem tile_at (c : Dev nD) (t : Fin cfg0.N) (r : Fin 512) (j : Fin 2048) :
    k0_pay1 (iblk m c 0 t) (iblk m c 1 t) (iblk m c 2 t) (iblk m c 3 t) (ix2 r j) = result m c (ix2 (tok (tb t.val (lt t) r) (ts t.val r)) j) := by
  unfold result
  rw [pay_at, ref_at]
  refine congrArg₂ (fun a g => weighted a g j) (funext fun d => ?_) (funext fun d => g_at m c t d)
  unfold row
  rw [x_at]
  exact congrArg₂ (fun a w => _ + dot a w) (funext fun k => y_at m c t r k) (funext fun k => w_at m c t k d)

theorem final (c : Dev nD) : (dats m 0 c).arrAt 4 cfg0.N = result m c := by
  refine (dats m 0 c).arrAt_eq_of_covers 4 _ (by decide +kernel) fun t hf y => ?_
  blk_simp
  rw [after0_4]
  frame_out
  let r : Fin 512 := ⟨(y 0).val, (y 0).isLt⟩
  let j : Fin 2048 := ⟨(y 1).val, (y 1).isLt⟩
  have hy : y = (ix2 r j : S512x2048.Idx) := by
    refine funext fun a => ?_
    match a with
    | ⟨0, _⟩ => rfl
    | ⟨1, _⟩ => rfl
  rw [hy]
  refine (tile_at m c t r j).trans (congrArg (result m c) ?_)
  have := tok_tile t.val (lt t) r
  blk_ext [(idx t).2.2.2.2]

/-- Both programs end with the reference's result on the shared arguments. -/
theorem algebraic : Cert.algebraic_Kernel2Ideal_Reference2Ideal := by
  intro m g m' g' _ hagree
  refine ⟨fun c => result m c, (θ_run defs _ _).mono (fun r h c => ⟨(h c).1.trans (final m c), (h c).2⟩) (Cert.Kernel2Ideal.Value.run_blocks m g), ?_⟩
  refine (θ_run Cert.Reference2Ideal.defs _ _).mono (fun r h c => ⟨(h c).1.trans ?_, (h c).2⟩) (Cert.Reference2Ideal.Value.run (F := Ideal) m' g')
  obtain ⟨h0, h1, h2, h3⟩ := hagree c
  rw [h0, h1, h2, h3]
  exact Cert.Reference2Ideal.Read.val_main_v16_eq _ _ _ _

end Cert.Kernel2Ideal.Hand

end
-- ==== Proof.Out3.lean ====
/-
  An output projection: the stream plus the product.
-/
module

public import proofs.«01_k».proof.Defs
public import proofs.«01_k».proof.Proof.Norm
public import proofs.«01_k».proof.Proof.Gen.Kernel3Ideal
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import Idealize.ShloMosaic.Lib.Pipeline.ValueKit
public import Idealize.ShloMosaic.Lib.StableHlo.ReadAt
public import Idealize.ShloMosaic.Lib.Pointwise

@[expose] public section

noncomputable section

namespace Cert.Kernel3Ideal.Hand

open Cert.Kernel3Ideal Cert.Kernel3Ideal.Gen
open Idealize.ShloMosaic Idealize.ShloMosaic.TcCoe Idealize.SL.Sem
open Cert.Norm

variable (m : (ℓ : Loc nD τ sig) → Buf (Elt Ideal) ℓ)

theorem pay_at (x : Vec Ideal S512x2048 .f32) (y : Vec Ideal S512x2048 .bf16) (w : Vec Ideal S2048x2048 .bf16) (r : Fin 512) (j : Fin 2048) :
    k0_pay1 x y w (ix2 r j) = x (ix2 r j) + dot (fun k => y (ix2 r k)) (fun k => w (ix2 k j)) := by
  unfold k0_pay1 dot
  pointwise

abbrev arg0 (c : Dev nD) : S2x16384x2048.Idx → EReal := m ((c : Thread nD τ).loc main_arg0)
abbrev arg1 (c : Dev nD) : S2x16384x2048.Idx → EReal := m ((c : Thread nD τ).loc main_arg1)
abbrev arg2 (c : Dev nD) : S2048x2048.Idx → EReal := m ((c : Thread nD τ).loc main_arg2)

theorem V0 (c : Dev nD) (b : Fin 2) (s : Fin 16384) (d : Fin 2048) : V m c main_v0 (ix2 (tok b s) d) = arg0 m c (ix3 b s d) := by
  unfold V
  after_reads_simp
  pointwise
  exact congrArg (arg0 m c) (ix3_ext _ b s d (tok_div b s) (tok_mod b s) rfl)

theorem V1 (c : Dev nD) (b : Fin 2) (s : Fin 16384) (d : Fin 2048) : V m c main_v1 (ix2 (tok b s) d) = arg1 m c (ix3 b s d) := by
  unfold V
  after_reads_simp
  pointwise
  exact congrArg (arg1 m c) (ix3_ext _ b s d (tok_div b s) (tok_mod b s) rfl)

theorem V2 (c : Dev nD) : V m c main_v2 = arg2 m c := by
  unfold V
  after_reads_simp
  rfl

theorem idx : ∀ t : Fin cfg0.N, win0_0.index t = ![t.val, 0] ∧ win0_1.index t = ![t.val, 0] ∧ win0_2.index t = ![0, 0] ∧ win0_3.index t = ![t.val, 0] :=
  (by decide +kernel : ∀ t : Fin grid0.N, _)

theorem lt (t : Fin cfg0.N) : t.val < 64 := t.isLt.trans_eq N_0

theorem x_at (c : Dev nD) (t : Fin cfg0.N) (r : Fin 512) (d : Fin 2048) : iblk m c 0 t (ix2 r d) = arg0 m c (ix3 (tb t.val (lt t) r) (ts t.val r) d) := by
  rw [← V0]
  blk_simp [iblk]
  refine congrArg (V m c main_v0) ?_
  have := tok_tile t.val (lt t) r
  blk_ext [(idx t).1]

theorem y_at (c : Dev nD) (t : Fin cfg0.N) (r : Fin 512) (d : Fin 2048) : iblk m c 1 t (ix2 r d) = arg1 m c (ix3 (tb t.val (lt t) r) (ts t.val r) d) := by
  rw [← V1]
  blk_simp [iblk]
  refine congrArg (V m c main_v1) ?_
  have := tok_tile t.val (lt t) r
  blk_ext [(idx t).2.1]

theorem w_at (c : Dev nD) (t : Fin cfg0.N) (k j : Fin 2048) : iblk m c 2 t (ix2 k j) = arg2 m c (ix2 k j) := by
  rw [← V2]
  blk_simp [iblk]
  refine congrArg (V m c main_v2) ?_
  blk_ext [(idx t).2.2.1]

theorem ref_at (x0 x1 : S2x16384x2048.Idx → EReal) (x2 : S2048x2048.Idx → EReal) (b : Fin 2) (s : Fin 16384) (j : Fin 2048) :
    Cert.Reference3Ideal.Read.val_main_v3 (F := Ideal) x0 x1 x2 (ix2 (tok b s) j) = x0 (ix3 b s j) + dot (fun k => x1 (ix3 b s k)) (fun k => x2 (ix2 k j)) := by
  have hi : Cert.Reference3Ideal.Read.idx_main_v3 (ix2 (tok b s) j) = ix3 b s j := ix3_ext _ b s j (flat_batch b s j) (flat_pos b s j) (flat_col b s j)
  rw [Cert.Reference3Ideal.Read.val_main_v3_apply, hi, Cert.Reference3Ideal.Read.val_main_v2_apply, Cert.Reference3Ideal.Read.val_main_v1_apply]
  refine congrArg (x0 (ix3 b s j) + ·) (Finset.sum_congr rfl fun k _ => congrArg₂ (· * ·) ?_ ?_)
  · exact congrArg x1 (ix3_ext _ b s k rfl rfl rfl)
  · exact congrArg x2 (ix2_ext _ k j rfl rfl)

/-- The reference's result on the kernel's arguments. -/
abbrev result (c : Dev nD) : S32768x2048.Idx → EReal := Cert.Reference3Ideal.Read.val_main_v3 (F := Ideal) (arg0 m c) (arg1 m c) (arg2 m c)

theorem tile_at (c : Dev nD) (t : Fin cfg0.N) (r : Fin 512) (j : Fin 2048) :
    k0_pay1 (iblk m c 0 t) (iblk m c 1 t) (iblk m c 2 t) (ix2 r j) = result m c (ix2 (tok (tb t.val (lt t) r) (ts t.val r)) j) := by
  unfold result
  rw [pay_at, ref_at, x_at]
  exact congrArg₂ (fun a w => _ + dot a w) (funext fun k => y_at m c t r k) (funext fun k => w_at m c t k j)

theorem final (c : Dev nD) : (dats m 0 c).arrAt 3 cfg0.N = result m c := by
  refine (dats m 0 c).arrAt_eq_of_covers 3 _ (by decide +kernel) fun t hf y => ?_
  blk_simp
  rw [after0_3]
  frame_out
  let r : Fin 512 := ⟨(y 0).val, (y 0).isLt⟩
  let j : Fin 2048 := ⟨(y 1).val, (y 1).isLt⟩
  have hy : y = (ix2 r j : S512x2048.Idx) := by
    refine funext fun a => ?_
    match a with
    | ⟨0, _⟩ => rfl
    | ⟨1, _⟩ => rfl
  rw [hy]
  refine (tile_at m c t r j).trans (congrArg (result m c) ?_)
  have := tok_tile t.val (lt t) r
  blk_ext [(idx t).2.2.2]

/-- Both programs end with the reference's result on the shared arguments. -/
theorem algebraic : Cert.algebraic_Kernel3Ideal_Reference3Ideal := by
  intro m g m' g' _ hagree
  refine ⟨fun c => result m c, (θ_run defs _ _).mono (fun r h c => ⟨(h c).1.trans (final m c), (h c).2⟩) (Cert.Kernel3Ideal.Value.run_blocks m g), ?_⟩
  refine (θ_run Cert.Reference3Ideal.defs _ _).mono (fun r h c => ⟨(h c).1.trans ?_, (h c).2⟩) (Cert.Reference3Ideal.Value.run (F := Ideal) m' g')
  obtain ⟨h0, h1, h2⟩ := hagree c
  rw [h0, h1, h2]
  exact Cert.Reference3Ideal.Read.val_main_v3_eq _ _ _

end Cert.Kernel3Ideal.Hand

end
-- ==== Proof.Out4.lean ====
/-
  The keys and values: the stream normed, weighted and projected.
-/
module

public import proofs.«01_k».proof.Defs
public import proofs.«01_k».proof.Proof.Norm
public import proofs.«01_k».proof.Proof.Gen.Kernel4Ideal
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import Idealize.ShloMosaic.Lib.Pipeline.ValueKit
public import Idealize.ShloMosaic.Lib.StableHlo.ReadAt
public import Idealize.ShloMosaic.Lib.Pointwise

@[expose] public section

noncomputable section

namespace Cert.Kernel4Ideal.Hand

open Cert.Kernel4Ideal Cert.Kernel4Ideal.Gen
open Idealize.ShloMosaic Idealize.ShloMosaic.TcCoe Idealize.SL.Sem
open Cert.Norm

variable (m : (ℓ : Loc nD τ sig) → Buf (Elt Ideal) ℓ)

theorem hid_at (x : Vec Ideal S512x2048 .f32) (g : Vec Ideal S1x2048 .f32) (r : Fin 512) (d : Fin 2048) :
    k0_pay3 x g (ix2 r d) = weighted (fun d => x (ix2 r d)) (fun d => g (ix2 0 d)) d := by
  unfold k0_pay3 weighted scale
  pointwise

theorem pay_at (h : Vec Ideal S512x2048 .bf16) (w : Vec Ideal S2048x512 .bf16) (r j : Fin 512) :
    k0_pay1 h w (ix2 r j) = dot (fun k => h (ix2 r k)) (fun k => w (ix2 k j)) := by
  unfold k0_pay1 dot
  pointwise

abbrev arg0 (c : Dev nD) : S2x16384x2048.Idx → EReal := m ((c : Thread nD τ).loc main_arg0)
abbrev arg1 (c : Dev nD) : S2048.Idx → EReal := m ((c : Thread nD τ).loc main_arg1)
abbrev arg2 (c : Dev nD) : S2048x4096.Idx → EReal := m ((c : Thread nD τ).loc main_arg2)

theorem V0 (c : Dev nD) (b : Fin 2) (s : Fin 16384) (d : Fin 2048) : V m c main_v0 (ix2 (tok b s) d) = arg0 m c (ix3 b s d) := by
  unfold V
  after_reads_simp
  pointwise
  exact congrArg (arg0 m c) (ix3_ext _ b s d (tok_div b s) (tok_mod b s) rfl)

theorem V1 (c : Dev nD) (d : Fin 2048) : V m c main_v2 (ix2 (0 : Fin 1) d) = arg1 m c (ix1 d) := by
  unfold V
  after_reads_simp
  pointwise

theorem V2 (c : Dev nD) : V m c main_v1 = arg2 m c := by
  unfold V
  after_reads_simp
  rfl

theorem idx : ∀ t : Fin cfg0.N, win0_0.index t = ![t.val, 0] ∧ win0_1.index t = ![0, 0] ∧ win0_2.index t = ![0, 0] ∧ win0_3.index t = ![t.val, 0] ∧ win0_4.index t = ![t.val, 0] :=
  (by decide +kernel : ∀ t : Fin grid0.N, _)

theorem lt (t : Fin cfg0.N) : t.val < 64 := t.isLt.trans_eq N_0

theorem x_at (c : Dev nD) (t : Fin cfg0.N) (r : Fin 512) (d : Fin 2048) : iblk m c 0 t (ix2 r d) = arg0 m c (ix3 (tb t.val (lt t) r) (ts t.val r) d) := by
  rw [← V0]
  blk_simp [iblk]
  refine congrArg (V m c main_v0) ?_
  have := tok_tile t.val (lt t) r
  blk_ext [(idx t).1]

theorem g_at (c : Dev nD) (t : Fin cfg0.N) (d : Fin 2048) : iblk m c 1 t (ix2 (0 : Fin 1) d) = arg1 m c (ix1 d) := by
  rw [← V1]
  blk_simp [iblk]
  refine congrArg (V m c main_v2) ?_
  blk_ext [(idx t).2.1]

theorem w_at (c : Dev nD) (t : Fin cfg0.N) (k : Fin 2048) (j : Fin 4096) : iblk m c 2 t (ix2 k j) = arg2 m c (ix2 k j) := by
  rw [← V2]
  blk_simp [iblk]
  refine congrArg (V m c main_v1) ?_
  blk_ext [(idx t).2.2.1]

/-- A token's row of the normed stream by a column of the weights. -/
def proj (x0 : S2x16384x2048.Idx → EReal) (x1 : S2048.Idx → EReal) (x2 : S2048x4096.Idx → EReal) (b : Fin 2) (s : Fin 16384) (j : Fin 4096) : EReal :=
  dot (weighted (fun d => x0 (ix3 b s d)) (fun d => x1 (ix1 d))) (fun k => x2 (ix2 k j))

/-- A column of the first half of the weights, and of the second. -/
def lo (j : Fin 2048) : Fin 4096 := ⟨j.val, by omega⟩
def hi (j : Fin 2048) : Fin 4096 := ⟨j.val + 2048, by omega⟩

/-- A tile of the normed stream by a tile of the weights, at a row and a column. -/
theorem chunk_at (c : Dev nD) (t : Fin cfg0.N) (o : ℕ) (inb) (x : S512x512.Idx) (r : Fin 512) (j : Fin 4096) (hr : (r.val = (x 0).val)) (hj : j.val = o + (x 1).val) :
    k0_pay1 (k0_pay3 (iblk m c 0 t) (iblk m c 1 t)) (View.ld (iblk m c 2 t) (Rect.unit (s := S2048x4096) ![0, o] S2048x512.size inb)) x
      = proj (arg0 m c) (arg1 m c) (arg2 m c) (tb t.val (lt t) r) (ts t.val r) j := by
  have hx : x = ix2 r (⟨(x 1).val, (x 1).isLt⟩ : Fin 512) := ix2_ext _ _ _ hr.symm rfl
  rw [hx, pay_at]
  refine congrArg₂ dot (funext fun k => ?_) (funext fun k => ?_)
  · rw [hid_at]
    refine congrArg₂ (fun a g => weighted a g k) (funext fun d => x_at m c t r d) (funext fun d => g_at m c t d)
  · rw [← w_at m c t k j]
    refine congrArg (iblk m c 2 t) (ix2_ext _ k j ?_ ?_)
    · simp [Rect.idx_unit_val]
    · simp [Rect.idx_unit_val, hj]

theorem out3_at (c : Dev nD) (t : Fin cfg0.N) (r : Fin 512) (j : Fin 2048) :
    (outsAt0 m c t).1 (ix2 r j) = proj (arg0 m c) (arg1 m c) (arg2 m c) (tb t.val (lt t) r) (ts t.val r) (lo j) := by
  unfold outsAt0
  dsimp only
  frame_out
  canon_tiles x h
  all_goals
    refine chunk_at m c t _ _ x r (lo j) h0 ?_
    have h1' : j.val = _ := h1
    simp only [lo]
    omega

theorem out4_at (c : Dev nD) (t : Fin cfg0.N) (r : Fin 512) (j : Fin 2048) :
    (outsAt0 m c t).2 (ix2 r j) = proj (arg0 m c) (arg1 m c) (arg2 m c) (tb t.val (lt t) r) (ts t.val r) (hi j) := by
  unfold outsAt0
  dsimp only
  frame_out
  canon_tiles x h
  all_goals
    refine chunk_at m c t _ _ x r (hi j) h0 ?_
    have h1' : j.val = _ := h1
    simp only [hi]
    omega

open Cert.Reference4Ideal.Read in
theorem ref_sum (x0 : S2x16384x2048.Idx → EReal) (b : Fin 2) (s : Fin 16384) (i : Cert.Reference4Ideal.S2x16384.Idx) (hi : i = ix2 b s) :
    val_main_v1 (F := Ideal) x0 i = ∑ k, x0 (ix3 b s k) * x0 (ix3 b s k) := by
  subst hi
  rw [val_main_v1_apply]
  have h0 : val_main_cst (F := Ideal) (Shape.Idx.first Cert.Reference4Ideal.Gen.h_S_) = (0 : EReal) := by
    rw [val_main_cst_apply]
    exact Ideal.ofBits_zero_f32
  rw [h0, zero_add]
  refine Finset.sum_congr rfl fun k _ => ?_
  rw [val_main_v0_apply, show idx_main_v1 (ix2 b s) k = ix3 b s k from ix3_ext _ b s k rfl rfl rfl]
  rfl

open Cert.Reference4Ideal.Read in
theorem ref_hid (x0 : S2x16384x2048.Idx → EReal) (x1 : S2048.Idx → EReal) (b : Fin 2) (s : Fin 16384) (k : Fin 2048) :
    val_main_v12 (F := Ideal) x0 x1 (ix3 b s k) = weighted (fun d => x0 (ix3 b s d)) (fun d => x1 (ix1 d)) k := by
  rw [val_main_v12_apply, val_main_v9_apply, val_main_v8_apply, val_main_v7_apply, val_main_v6_apply, val_main_v5_apply,
    val_main_v4_apply, val_main_v3_apply, val_main_v2_apply, val_main_v11_apply, val_main_v10_apply, val_main_cst_0_apply, val_main_cst_1_apply,
    ref_sum x0 b s _ (ix2_ext _ b s rfl rfl)]
  refine congrArg (_ * ·) (congrArg x1 ?_)
  refine funext fun a => Fin.ext ?_
  match a with
  | ⟨0, _⟩ => rfl

open Cert.Reference4Ideal.Read in
theorem ref_proj (x0 : S2x16384x2048.Idx → EReal) (x1 : S2048.Idx → EReal) (x2 : S2048x4096.Idx → EReal) (b : Fin 2) (s : Fin 16384) (j : Fin 4096)
    (i : Cert.Reference4Ideal.S2x16384x4096.Idx) (hi : i = ix3 b s j) :
    val_main_v13 (F := Ideal) x0 x1 x2 i = proj x0 x1 x2 b s j := by
  subst hi
  rw [val_main_v13_apply]
  unfold proj dot
  refine Finset.sum_congr rfl fun k _ => congrArg₂ (· * ·) ?_ ?_
  · rw [show lidx_main_v13 (ix3 b s j) k = ix3 b s k from ix3_ext _ b s k rfl rfl rfl, ref_hid]
  · exact congrArg x2 (ix2_ext _ k j rfl rfl)

open Cert.Reference4Ideal.Read in
theorem ref_lo (x0 : S2x16384x2048.Idx → EReal) (x1 : S2048.Idx → EReal) (x2 : S2048x4096.Idx → EReal) (b : Fin 2) (s : Fin 16384) (j : Fin 2048) :
    val_main_v17 (F := Ideal) x0 x1 x2 (ix2 (tok b s) j) = proj x0 x1 x2 b s (lo j) := by
  have hi : idx_main_v17 (ix2 (tok b s) j) = ix3 b s j := ix3_ext _ b s j (flat_batch b s j) (flat_pos b s j) (flat_col b s j)
  rw [val_main_v17_apply, hi, val_main_v16_apply, val_main_v14_apply]
  exact ref_proj x0 x1 x2 b s (lo j) _ (ix3_ext _ b s (lo j) (by simp [idx_main_v14]) (by simp [idx_main_v14]) (by simp [idx_main_v14, lo]))

open Cert.Reference4Ideal.Read in
theorem ref_hi (x0 : S2x16384x2048.Idx → EReal) (x1 : S2048.Idx → EReal) (x2 : S2048x4096.Idx → EReal) (b : Fin 2) (s : Fin 16384) (j : Fin 2048) :
    val_main_v19 (F := Ideal) x0 x1 x2 (ix2 (tok b s) j) = proj x0 x1 x2 b s (hi j) := by
  have he : idx_main_v19 (ix2 (tok b s) j) = ix3 b s j := ix3_ext _ b s j (flat_batch b s j) (flat_pos b s j) (flat_col b s j)
  rw [val_main_v19_apply, he, val_main_v18_apply, val_main_v15_apply]
  exact ref_proj x0 x1 x2 b s (hi j) _ (ix3_ext _ b s (hi j) (by simp [idx_main_v15]) (by simp [idx_main_v15]) (by simp [idx_main_v15, hi, Nat.add_comm]))

/-- The reference's two results on the kernel's arguments. -/
abbrev keys (c : Dev nD) : S32768x2048.Idx → EReal := Cert.Reference4Ideal.Read.val_main_v17 (F := Ideal) (arg0 m c) (arg1 m c) (arg2 m c)
abbrev vals (c : Dev nD) : S32768x2048.Idx → EReal := Cert.Reference4Ideal.Read.val_main_v19 (F := Ideal) (arg0 m c) (arg1 m c) (arg2 m c)

theorem final3 (c : Dev nD) : (dats m 0 c).arrAt 3 cfg0.N = keys m c := by
  refine (dats m 0 c).arrAt_eq_of_covers 3 _ (by decide +kernel) fun t hf y => ?_
  blk_simp
  rw [after0_3]
  let r : Fin 512 := ⟨(y 0).val, (y 0).isLt⟩
  let j : Fin 2048 := ⟨(y 1).val, (y 1).isLt⟩
  have hy : y = (ix2 r j : S512x2048.Idx) := ix2_ext _ r j rfl rfl
  rw [hy]
  refine ((out3_at m c t r j).trans (ref_lo _ _ _ _ _ j).symm).trans (congrArg (keys m c) ?_)
  have := tok_tile t.val (lt t) r
  blk_ext [(idx t).2.2.2.1]

theorem final4 (c : Dev nD) : (dats m 0 c).arrAt 4 cfg0.N = vals m c := by
  refine (dats m 0 c).arrAt_eq_of_covers 4 _ (by decide +kernel) fun t hf y => ?_
  blk_simp
  rw [after0_4]
  let r : Fin 512 := ⟨(y 0).val, (y 0).isLt⟩
  let j : Fin 2048 := ⟨(y 1).val, (y 1).isLt⟩
  have hy : y = (ix2 r j : S512x2048.Idx) := ix2_ext _ r j rfl rfl
  rw [hy]
  refine ((out4_at m c t r j).trans (ref_hi _ _ _ _ _ j).symm).trans (congrArg (vals m c) ?_)
  have := tok_tile t.val (lt t) r
  blk_ext [(idx t).2.2.2.2]

/-- Both programs end with the reference's results on the shared arguments. -/
theorem algebraic : Cert.algebraic_Kernel4Ideal_Reference4Ideal := by
  intro m g m' g' _ hagree
  refine ⟨fun c => keys m c, fun c => vals m c, (θ_run defs _ _).mono (fun r h c => ⟨(h c).1.trans (final3 m c), (h c).2.1.trans (final4 m c), (h c).2.2⟩)
    (Cert.Kernel4Ideal.Value.run_blocks m g), ?_⟩
  refine (θ_run Cert.Reference4Ideal.defs _ _).mono (fun r h c => ⟨(h c).1.trans ?_, (h c).2.1.trans ?_, (h c).2.2⟩) (Cert.Reference4Ideal.Value.run (F := Ideal) m' g')
  all_goals
    obtain ⟨h0, h1, h2⟩ := hagree c
    rw [h0, h1, h2]
  · exact Cert.Reference4Ideal.Read.val_main_v17_eq _ _ _
  · exact Cert.Reference4Ideal.Read.val_main_v19_eq _ _ _

end Cert.Kernel4Ideal.Hand

end
-- ==== Proof.Out5.lean ====
/-
  The queries and the gate: the same projection, the queries carrying the score scale in the base of two.
-/
module

public import proofs.«01_k».proof.Defs
public import proofs.«01_k».proof.Proof.Out4
public import proofs.«01_k».proof.Proof.Gen.Kernel5Ideal
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import Idealize.ShloMosaic.Lib.Pipeline.ValueKit
public import Idealize.ShloMosaic.Lib.StableHlo.ReadAt
public import Idealize.ShloMosaic.Lib.Pointwise

@[expose] public section

noncomputable section

namespace Cert.Kernel5Ideal.Hand

open Cert.Kernel5Ideal Cert.Kernel5Ideal.Gen
open Idealize.ShloMosaic Idealize.ShloMosaic.TcCoe Idealize.SL.Sem
open Cert.Norm
open Cert.Kernel4Ideal.Hand (proj lo hi hid_at ref_proj)

variable (m : (ℓ : Loc nD τ sig) → Buf (Elt Ideal) ℓ)

theorem pay_at (h : Vec Ideal S512x2048 .bf16) (w : Vec Ideal S2048x512 .bf16) (r j : Fin 512) :
    k0_pay2 h w (ix2 r j) = dot (fun k => h (ix2 r k)) (fun k => w (ix2 k j)) :=
  Cert.Kernel4Ideal.Hand.pay_at h w r j

/-- The score scale times the base-two logarithm of `e`. -/
abbrev κs : EReal := (((Real.log 65536)⁻¹ : ℝ) : EReal)

/-- A scaled tile is the plain one times the constant. -/
theorem scaled_at (h : Vec Ideal S512x2048 .bf16) (w : Vec Ideal S2048x512 .bf16) (i : S512x512.Idx) :
    k0_pay5 h w i = k0_pay2 h w i * κs := rfl

theorem two_bits : Ideal.ofBits .f32 0x40000000#32 = ((2 : ℝ) : EReal) := by
  simp [Ideal.ofBits, Ideal.ieee]
  rw [← EReal.coe_mul]
  norm_num

theorem sixteenth_bits : Ideal.ofBits .f32 0x3D800000#32 = ((1 / 16 : ℝ) : EReal) := by
  simp [Ideal.ofBits, Ideal.ieee]
  rw [← EReal.coe_mul]
  norm_num

/-- A sixteenth over the logarithm of two is the constant. -/
theorem scale_eq (p : EReal) : Ideal.div (p * Ideal.ofBits .f32 0x3D800000#32) (Ideal.log (Ideal.ofBits .f32 0x40000000#32)) = p * κs := by
  have h2 : (0 : ℝ) < Real.log 2 := Real.log_pos (by norm_num)
  have hl : Ideal.log ((2 : ℝ) : EReal) = ((Real.log 2 : ℝ) : EReal) := by
    show (if (2 : ℝ) ≤ 0 then (⊥ : EReal) else ((Real.log 2 : ℝ) : EReal)) = _
    rw [if_neg (by norm_num)]
  rw [two_bits, sixteenth_bits, hl]
  unfold Ideal.div
  rw [if_neg (by exact_mod_cast h2.ne'), mul_assoc, ← EReal.coe_inv, ← EReal.coe_mul]
  have h16 : Real.log 65536 = 16 * Real.log 2 := by
    rw [show (65536 : ℝ) = 2 ^ 16 by norm_num, Real.log_pow]
    norm_num
  unfold κs
  rw [h16]
  congr 2
  field_simp

abbrev arg0 (c : Dev nD) : S2x16384x2048.Idx → EReal := m ((c : Thread nD τ).loc main_arg0)
abbrev arg1 (c : Dev nD) : S2048.Idx → EReal := m ((c : Thread nD τ).loc main_arg1)
abbrev arg2 (c : Dev nD) : S2048x4096.Idx → EReal := m ((c : Thread nD τ).loc main_arg2)

theorem V0 (c : Dev nD) (b : Fin 2) (s : Fin 16384) (d : Fin 2048) : V m c main_v0 (ix2 (tok b s) d) = arg0 m c (ix3 b s d) := by
  unfold V
  after_reads_simp
  pointwise
  exact congrArg (arg0 m c) (ix3_ext _ b s d (tok_div b s) (tok_mod b s) rfl)

theorem V1 (c : Dev nD) (d : Fin 2048) : V m c main_v2 (ix2 (0 : Fin 1) d) = arg1 m c (ix1 d) := by
  unfold V
  after_reads_simp
  pointwise

theorem V2 (c : Dev nD) : V m c main_v1 = arg2 m c := by
  unfold V
  after_reads_simp
  rfl

theorem idx : ∀ t : Fin cfg0.N, win0_0.index t = ![t.val, 0] ∧ win0_1.index t = ![0, 0] ∧ win0_2.index t = ![0, 0] ∧ win0_3.index t = ![t.val, 0] ∧ win0_4.index t = ![t.val, 0] :=
  (by decide +kernel : ∀ t : Fin grid0.N, _)

theorem lt (t : Fin cfg0.N) : t.val < 64 := t.isLt.trans_eq N_0

theorem x_at (c : Dev nD) (t : Fin cfg0.N) (r : Fin 512) (d : Fin 2048) : iblk m c 0 t (ix2 r d) = arg0 m c (ix3 (tb t.val (lt t) r) (ts t.val r) d) := by
  rw [← V0]
  blk_simp [iblk]
  refine congrArg (V m c main_v0) ?_
  have := tok_tile t.val (lt t) r
  blk_ext [(idx t).1]

theorem g_at (c : Dev nD) (t : Fin cfg0.N) (d : Fin 2048) : iblk m c 1 t (ix2 (0 : Fin 1) d) = arg1 m c (ix1 d) := by
  rw [← V1]
  blk_simp [iblk]
  refine congrArg (V m c main_v2) ?_
  blk_ext [(idx t).2.1]

theorem w_at (c : Dev nD) (t : Fin cfg0.N) (k : Fin 2048) (j : Fin 4096) : iblk m c 2 t (ix2 k j) = arg2 m c (ix2 k j) := by
  rw [← V2]
  blk_simp [iblk]
  refine congrArg (V m c main_v1) ?_
  blk_ext [(idx t).2.2.1]

/-- A tile of the normed stream by a tile of the weights, at a row and a column. -/
theorem chunk_at (c : Dev nD) (t : Fin cfg0.N) (o : ℕ) (inb) (x : S512x512.Idx) (r : Fin 512) (j : Fin 4096) (hr : (r.val = (x 0).val)) (hj : j.val = o + (x 1).val) :
    k0_pay2 (k0_pay4 (iblk m c 0 t) (iblk m c 1 t)) (View.ld (iblk m c 2 t) (Rect.unit (s := S2048x4096) ![0, o] S2048x512.size inb)) x
      = proj (arg0 m c) (arg1 m c) (arg2 m c) (tb t.val (lt t) r) (ts t.val r) j := by
  have hx : x = ix2 r (⟨(x 1).val, (x 1).isLt⟩ : Fin 512) := ix2_ext _ _ _ hr.symm rfl
  rw [hx, pay_at]
  refine congrArg₂ dot (funext fun k => ?_) (funext fun k => ?_)
  · refine (hid_at _ _ r k).trans ?_
    exact congrArg₂ (fun a g => weighted a g k) (funext fun d => x_at m c t r d) (funext fun d => g_at m c t d)
  · rw [← w_at m c t k j]
    refine congrArg (iblk m c 2 t) (ix2_ext _ k j ?_ ?_)
    · simp [Rect.idx_unit_val]
    · simp [Rect.idx_unit_val, hj]

theorem out3_at (c : Dev nD) (t : Fin cfg0.N) (r : Fin 512) (j : Fin 2048) :
    (outsAt0 m c t).1 (ix2 r j) = proj (arg0 m c) (arg1 m c) (arg2 m c) (tb t.val (lt t) r) (ts t.val r) (lo j) * κs := by
  unfold outsAt0
  dsimp only
  frame_out
  canon_tiles x h
  all_goals
    refine congrArg (· * κs) (chunk_at m c t _ _ x r (lo j) h0 ?_)
    have h1' : j.val = _ := h1
    simp only [lo]
    omega

theorem out4_at (c : Dev nD) (t : Fin cfg0.N) (r : Fin 512) (j : Fin 2048) :
    (outsAt0 m c t).2 (ix2 r j) = proj (arg0 m c) (arg1 m c) (arg2 m c) (tb t.val (lt t) r) (ts t.val r) (hi j) := by
  unfold outsAt0
  dsimp only
  frame_out
  canon_tiles x h
  all_goals
    refine chunk_at m c t _ _ x r (hi j) h0 ?_
    have h1' : j.val = _ := h1
    simp only [hi]
    omega

open Cert.Reference5Ideal.Read in
theorem ref_lo (x0 : S2x16384x2048.Idx → EReal) (x1 : S2048.Idx → EReal) (x2 : S2048x4096.Idx → EReal) (b : Fin 2) (s : Fin 16384) (j : Fin 2048) :
    val_main_v22 (F := Ideal) x0 x1 x2 (ix2 (tok b s) j) = proj x0 x1 x2 b s (lo j) * κs := by
  have he : idx_main_v22 (ix2 (tok b s) j) = ix3 b s j := ix3_ext _ b s j (flat_batch b s j) (flat_pos b s j) (flat_col b s j)
  rw [val_main_v22_apply, he, val_main_v21_apply, val_main_v20_apply, val_main_v19_apply, val_main_v18_apply, val_main_cst_3_apply,
    val_main_v17_apply, val_main_v16_apply, val_main_cst_2_apply, val_main_v14_apply]
  refine (scale_eq _).trans (congrArg (· * κs) ?_)
  exact ref_proj x0 x1 x2 b s (lo j) _ (ix3_ext _ b s (lo j) (by simp [idx_main_v14]) (by simp [idx_main_v14]) (by simp [idx_main_v14, lo]))

open Cert.Reference5Ideal.Read in
theorem ref_hi (x0 : S2x16384x2048.Idx → EReal) (x1 : S2048.Idx → EReal) (x2 : S2048x4096.Idx → EReal) (b : Fin 2) (s : Fin 16384) (j : Fin 2048) :
    val_main_v23 (F := Ideal) x0 x1 x2 (ix2 (tok b s) j) = proj x0 x1 x2 b s (hi j) := by
  have he : idx_main_v23 (ix2 (tok b s) j) = ix3 b s j := ix3_ext _ b s j (flat_batch b s j) (flat_pos b s j) (flat_col b s j)
  rw [val_main_v23_apply, he, val_main_v15_apply]
  exact ref_proj x0 x1 x2 b s (hi j) _ (ix3_ext _ b s (hi j) (by simp [idx_main_v15]) (by simp [idx_main_v15]) (by simp [idx_main_v15, hi, Nat.add_comm]))

/-- The reference's two results on the kernel's arguments. -/
abbrev queries (c : Dev nD) : S32768x2048.Idx → EReal := Cert.Reference5Ideal.Read.val_main_v22 (F := Ideal) (arg0 m c) (arg1 m c) (arg2 m c)
abbrev gates (c : Dev nD) : S32768x2048.Idx → EReal := Cert.Reference5Ideal.Read.val_main_v23 (F := Ideal) (arg0 m c) (arg1 m c) (arg2 m c)

theorem final3 (c : Dev nD) : (dats m 0 c).arrAt 3 cfg0.N = queries m c := by
  refine (dats m 0 c).arrAt_eq_of_covers 3 _ (by decide +kernel) fun t hf y => ?_
  blk_simp
  rw [after0_3]
  let r : Fin 512 := ⟨(y 0).val, (y 0).isLt⟩
  let j : Fin 2048 := ⟨(y 1).val, (y 1).isLt⟩
  have hy : y = (ix2 r j : S512x2048.Idx) := ix2_ext _ r j rfl rfl
  rw [hy]
  refine ((out3_at m c t r j).trans (ref_lo _ _ _ _ _ j).symm).trans (congrArg (queries m c) ?_)
  have := tok_tile t.val (lt t) r
  blk_ext [(idx t).2.2.2.1]

theorem final4 (c : Dev nD) : (dats m 0 c).arrAt 4 cfg0.N = gates m c := by
  refine (dats m 0 c).arrAt_eq_of_covers 4 _ (by decide +kernel) fun t hf y => ?_
  blk_simp
  rw [after0_4]
  let r : Fin 512 := ⟨(y 0).val, (y 0).isLt⟩
  let j : Fin 2048 := ⟨(y 1).val, (y 1).isLt⟩
  have hy : y = (ix2 r j : S512x2048.Idx) := ix2_ext _ r j rfl rfl
  rw [hy]
  refine ((out4_at m c t r j).trans (ref_hi _ _ _ _ _ j).symm).trans (congrArg (gates m c) ?_)
  have := tok_tile t.val (lt t) r
  blk_ext [(idx t).2.2.2.2]

/-- Both programs end with the reference's results on the shared arguments. -/
theorem algebraic : Cert.algebraic_Kernel5Ideal_Reference5Ideal := by
  intro m g m' g' _ hagree
  refine ⟨fun c => queries m c, fun c => gates m c, (θ_run defs _ _).mono (fun r h c => ⟨(h c).1.trans (final3 m c), (h c).2.1.trans (final4 m c), (h c).2.2⟩)
    (Cert.Kernel5Ideal.Value.run_blocks m g), ?_⟩
  refine (θ_run Cert.Reference5Ideal.defs _ _).mono (fun r h c => ⟨(h c).1.trans ?_, (h c).2.1.trans ?_, (h c).2.2⟩) (Cert.Reference5Ideal.Value.run (F := Ideal) m' g')
  all_goals
    obtain ⟨h0, h1, h2⟩ := hagree c
    rw [h0, h1, h2]
  · exact Cert.Reference5Ideal.Read.val_main_v22_eq _ _ _
  · exact Cert.Reference5Ideal.Read.val_main_v23_eq _ _ _

end Cert.Kernel5Ideal.Hand

end
-- ==== Proof.Pool6.lean ====
/-
  The pooling layer's arithmetic: what each operation of a tile leaves at a row and a column.
-/
module

public import proofs.«01_k».proof.Defs
public import proofs.«01_k».proof.Proof.Out4
public import proofs.«01_k».proof.Proof.Gen.Kernel6Ideal
public import proofs.«01_k».proof.Proof.Gen.Kernel6Ideal.Value
public import Idealize.ShloMosaic.Lib.Pipeline.ValueKit
public import Idealize.ShloMosaic.Lib.StableHlo.ReadAt
public import Idealize.ShloMosaic.Lib.Pointwise

@[expose] public section

noncomputable section

namespace Cert.Kernel6Ideal.Hand

open Cert.Kernel6Ideal Cert.Kernel6Ideal.Gen
open Idealize.ShloMosaic Idealize.ShloMosaic.TcCoe Idealize.SL.Sem
open Cert.Norm
open Cert.Kernel4Ideal.Hand (proj lo hi)

theorem hid_at (x : Vec Ideal S1x512x2048 .f32) (g : Vec Ideal S1x2048 .f32) (r : Fin 512) (d : Fin 2048) :
    k0_pay6 x g (ix2 r d) = weighted (fun d => x (ix3 0 r d)) (fun d => g (ix2 0 d)) d := by
  unfold k0_pay6 weighted scale
  pointwise

theorem chunk_pay (h : Vec Ideal S512x2048 .bf16) (w : Vec Ideal S2048x512 .bf16) (r j : Fin 512) :
    k0_pay11 h w (ix2 r j) = dot (fun k => h (ix2 r k)) (fun k => w (ix2 k j)) := by
  unfold k0_pay11 dot
  pointwise

/-- The number of positions a window holds. -/
def count (w : BitVec 32) (s : ℕ) : EReal := FloatOps.sitofp (F := Ideal) .f32 (IntOp.minsi (IntOp.addi (BitVec.ofNat 32 s) 1#32) w)

/-- A tile's positions. -/
theorem pos_at (i : grid0.Coords) (r : Fin 512) : k0_pay7 i (ix2 r (0 : Fin 1)) = BitVec.ofNat 32 ((i 1).val * 512 + r.val) := by
  have h : k0_pay7 i (ix2 r (0 : Fin 1)) = IntOp.addi (Scalar.muli (BitVec.ofNat 32 (i 1).val) 512#32) (BitVec.ofNat 32 r.val) := by
    unfold k0_pay7
    pointwise
  rw [h]
  show BitVec.ofNat 32 (i 1).val * 512#32 + BitVec.ofNat 32 r.val = _
  rw [BitVec.ofNat_add, BitVec.ofNat_mul]

/-- The windowed means less the stream's own rows. -/
def means (w : BitVec 32) (v : IVec S512x1 32) (X : FVec Ideal S528x512 .f32) (cur : FVec Ideal S512x512 .f32) : FVec Ideal S512x512 .bf16 :=
  truncf .bf16 (subf (divf (extractStridedSlice S512x512 ![16, 0] X slices_S528x512_o16_0_S512x512)
    (broadcastTo S512x512 (sitofp .f32 (minsi (addi v (broadcast S512x1 1#32)) (broadcast S512x1 w)) : FVec Ideal S512x1 .f32) broadcasts_S512x1_S512x512)) cur) bitsLt_bf16_f32

theorem means_at (w : BitVec 32) (v : IVec S512x1 32) (X : FVec Ideal S528x512 .f32) (cur : FVec Ideal S512x512 .f32) (r k : Fin 512) (s : ℕ) (hs : v (ix2 r (0 : Fin 1)) = BitVec.ofNat 32 s) :
    means w v X cur (ix2 r k) = (Ideal.div (X (ix2 (⟨16 + r.val, by omega⟩ : Fin 528) k)) (count w s) - cur (ix2 r k) : EReal) := by
  unfold means count
  rw [← hs]
  pointwise

theorem gate_at (pm : FVec Ideal S512x512 .bf16) (wg : Vec Ideal S1x512x512 .bf16) (h : Vec Ideal S512x2048 .bf16) (wz : Vec Ideal S2048x512 .bf16) (sc : Vec Ideal S1x512 .f32) (r e : Fin 512) :
    k0_pay1 pm wg h wz sc (ix3 (0 : Fin 1) r e)
      = ((∑ k : Fin 512, pm (ix2 r k) * wg (ix3 0 k e)) * sc (ix2 0 e)) * (dot (fun k => h (ix2 r k)) (fun k => wz (ix2 k e)) * Ideal.logistic (dot (fun k => h (ix2 r k)) (fun k => wz (ix2 k e))) : EReal) := by
  unfold k0_pay1 dot
  pointwise

theorem group0 (v : IVec S512x1 32) (X Y : FVec Ideal S528x512 .f32) (cur : FVec Ideal S512x512 .f32) (wg : Vec Ideal S1x512x512 .bf16) (h : Vec Ideal S512x2048 .bf16) (wz : Vec Ideal S2048x512 .bf16) (sc : Vec Ideal S1x512 .f32) :
    k0_pay10 v X Y cur wg h wz sc = k0_pay1 (means 2#32 v (addf X Y) cur) wg h wz sc := rfl
theorem group1 (v : IVec S512x1 32) (X Y Z : FVec Ideal S528x512 .f32) (cur : FVec Ideal S512x512 .f32) (wg : Vec Ideal S1x512x512 .bf16) (h : Vec Ideal S512x2048 .bf16) (wz : Vec Ideal S2048x512 .bf16) (sc : Vec Ideal S1x512 .f32) :
    k0_pay15 (k0_pay14 v X Y Z cur wg) h wz sc = k0_pay1 (means 4#32 v (addf (addf X Y) Z) cur) wg h wz sc := rfl
theorem group2 (v : IVec S512x1 32) (X Y Z W : FVec Ideal S528x512 .f32) (cur : FVec Ideal S512x512 .f32) (wg : Vec Ideal S1x512x512 .bf16) (h : Vec Ideal S512x2048 .bf16) (wz : Vec Ideal S2048x512 .bf16) (sc : Vec Ideal S1x512 .f32) :
    k0_pay21 v (k0_pay19 X Y Z) W cur wg h wz sc = k0_pay1 (means 8#32 v (addf (addf (addf X Y) Z) W) cur) wg h wz sc := rfl
theorem group3 (v : IVec S512x1 32) (X Y Z W V : FVec Ideal S528x512 .f32) (cur : FVec Ideal S512x512 .f32) :
    k0_pay30 v X Y Z W V cur = means 16#32 v (addf (addf (addf (addf X Y) Z) W) V) cur := rfl

/-- A stored level is the level. -/
theorem level2 (X Y : FVec Ideal S528x512 .f32) (y : S528x512.Idx) : k0_pay13 X Y y = addf X Y y := by
  rw [eq_ix2 y]
  unfold k0_pay13 k0_pay12
  pointwise
theorem level4 (X Y Z : FVec Ideal S528x512 .f32) (y : S528x512.Idx) : k0_pay20 X Y Z y = addf (addf X Y) Z y := by
  rw [eq_ix2 y]
  unfold k0_pay20 k0_pay19 k0_pay17
  pointwise
theorem level8 (X Y Z W : FVec Ideal S528x512 .f32) (y : S528x512.Idx) : k0_pay29 X Y Z W y = addf (addf (addf X Y) Z) W y := by
  rw [eq_ix2 y]
  unfold k0_pay29 k0_pay28 k0_pay26 k0_pay24
  pointwise

/-- Rows that hold the sums of their last `w` rows of `U`, from the first whose window is whole. -/
def Level (w : ℕ) (U : ℕ → Fin 512 → EReal) (X : FVec Ideal S528x512 .f32) : Prop :=
  ∀ (a : Fin 528) (k : Fin 512), w ≤ a.val + 1 → X (ix2 a k) = ∑ i ∈ Finset.range w, U (8 + a.val - i) k

theorem level_two (U : ℕ → Fin 512 → EReal) (X Y : FVec Ideal S528x512 .f32) (hX : ∀ (a : Fin 528) (k : Fin 512), X (ix2 a k) = U (8 + a.val) k)
    (hY : ∀ (a : Fin 528) (k : Fin 512), 1 ≤ a.val → Y (ix2 a k) = U (7 + a.val) k) : Level 2 U (addf X Y) := by
  intro a k h
  rw [Finset.sum_range_succ, Finset.sum_range_one]
  show (X (ix2 a k) + Y (ix2 a k) : EReal) = _
  rw [hX, hY a k (by omega), show 8 + a.val - 1 = 7 + a.val by omega, Nat.sub_zero]

theorem level_double (w n : ℕ) (hn : n = w + w) (U : ℕ → Fin 512 → EReal) (X Y : FVec Ideal S528x512 .f32) (hX : Level w U X)
    (hY : ∀ (a a' : Fin 528) (k : Fin 512), a.val = a'.val + w → Y (ix2 a k) = X (ix2 a' k)) : Level n U (addf X Y) := by
  subst hn
  intro a k h
  show (X (ix2 a k) + Y (ix2 a k) : EReal) = _
  rw [Finset.sum_range_add, hX a k (by omega)]
  by_cases hw : w = 0
  · subst hw
    have h0 := hX a k (by omega)
    rw [hY a a k (by omega), h0]
    simp
  · rw [hY a ⟨a.val - w, by omega⟩ k (by show a.val = a.val - w + w; omega), hX _ k (by show w ≤ a.val - w + 1; omega)]
    refine congrArg (_ + ·) (Finset.sum_congr rfl fun i _ => congrArg (U · k) ?_)
    show 8 + (a.val - w) - i = 8 + a.val - (w + i)
    omega

end Cert.Kernel6Ideal.Hand

end
-- ==== Proof.Out6.lean ====
/-
  The pooling layer up to its output projection: a tile's output.
-/
module

public import proofs.«01_k».proof.Proof.Pool6

@[expose] public section

noncomputable section

namespace Cert.Kernel6Ideal.Hand

open Cert.Kernel6Ideal Cert.Kernel6Ideal.Gen
open Idealize.ShloMosaic Idealize.ShloMosaic.TcCoe Idealize.SL.Sem
open Cert.Norm
open Cert.Kernel4Ideal.Hand (proj lo hi)

variable (m : (ℓ : Loc nD τ sig) → Buf (Elt Ideal) ℓ)

abbrev arg0 (c : Dev nD) : S2x16384x2048.Idx → EReal := m ((c : Thread nD τ).loc main_arg0)
abbrev arg1 (c : Dev nD) : S2048.Idx → EReal := m ((c : Thread nD τ).loc main_arg1)
abbrev arg2 (c : Dev nD) : S2048x4096.Idx → EReal := m ((c : Thread nD τ).loc main_arg2)
abbrev arg3 (c : Dev nD) : S4x512x512.Idx → EReal := m ((c : Thread nD τ).loc main_arg3)
abbrev arg4 (c : Dev nD) : S2048.Idx → EReal := m ((c : Thread nD τ).loc main_arg4)

theorem V0 (c : Dev nD) : V m c main_v0 = arg2 m c := by
  unfold V
  after_reads_simp
  rfl

theorem V1 (c : Dev nD) : V m c main_v1 = arg3 m c := by
  unfold V
  after_reads_simp
  rfl

theorem V2 (c : Dev nD) (d : Fin 2048) : V m c main_v2 (ix2 (0 : Fin 1) d) = arg1 m c (ix1 d) := by
  unfold V
  after_reads_simp
  pointwise

theorem V3 (c : Dev nD) (d : Fin 2048) : V m c main_v3 (ix2 (0 : Fin 1) d) = arg4 m c (ix1 d) := by
  unfold V
  after_reads_simp
  pointwise

theorem Va (c : Dev nD) : V m c main_arg0 = arg0 m c := by
  unfold V
  after_reads_simp

theorem idx : ∀ t : Fin cfg0.N, win0_0.index t = ![t.val / 32, t.val % 32, 0] ∧ win0_1.index t = ![0, 0] ∧ win0_2.index t = ![0, 0] ∧ win0_3.index t = ![0, 0, 0] ∧ win0_4.index t = ![0, 0] ∧ win0_5.index t = ![t.val / 32, t.val % 32, 0] ∧ (grid0.coords t 1).val = t.val % 32 :=
  (by decide +kernel : ∀ t : Fin grid0.N, _)

theorem lt (t : Fin cfg0.N) : t.val < 64 := t.isLt.trans_eq N_0

/-- A tile's batch, and its row's position. -/
def bt (t : Fin cfg0.N) : Fin 2 := ⟨t.val / 32, by have := lt t; omega⟩
def st (t : Fin cfg0.N) (r : Fin 512) : Fin 16384 := ⟨t.val % 32 * 512 + r.val, by omega⟩

theorem x_at (c : Dev nD) (t : Fin cfg0.N) (r : Fin 512) (d : Fin 2048) : iblk m c 0 t (ix3 (0 : Fin 1) r d) = arg0 m c (ix3 (bt t) (st t r) d) := by
  rw [← Va]
  blk_simp [iblk]
  refine congrArg (V m c main_arg0) ?_
  simp only [bt, st]
  blk_ext [(idx t).1]

theorem g_at (c : Dev nD) (t : Fin cfg0.N) (d : Fin 2048) : iblk m c 1 t (ix2 (0 : Fin 1) d) = arg1 m c (ix1 d) := by
  rw [← V2]
  blk_simp [iblk]
  refine congrArg (V m c main_v2) ?_
  blk_ext [(idx t).2.1]

theorem w_at (c : Dev nD) (t : Fin cfg0.N) (k : Fin 2048) (j : Fin 4096) : iblk m c 2 t (ix2 k j) = arg2 m c (ix2 k j) := by
  rw [← V0]
  blk_simp [iblk]
  refine congrArg (V m c main_v0) ?_
  blk_ext [(idx t).2.2.1]

theorem wg_at (c : Dev nD) (t : Fin cfg0.N) (g : Fin 4) (k e : Fin 512) : iblk m c 3 t (ix3 g k e) = arg3 m c (ix3 g k e) := by
  rw [← V1]
  blk_simp [iblk]
  refine congrArg (V m c main_v1) ?_
  blk_ext [(idx t).2.2.2.1]

theorem sc_at (c : Dev nD) (t : Fin cfg0.N) (d : Fin 2048) : iblk m c 4 t (ix2 (0 : Fin 1) d) = arg4 m c (ix1 d) := by
  rw [← V3]
  blk_simp [iblk]
  refine congrArg (V m c main_v3) ?_
  blk_ext [(idx t).2.2.2.2.1]

/-- A tile of the normed stream by a tile of the weights, at a row and a column. -/
theorem dot_at (c : Dev nD) (t : Fin cfg0.N) (o : ℕ) (inb) (r k : Fin 512) (j : Fin 4096) (hj : j.val = o + k.val) :
    dot (fun d => k0_pay6 (iblk m c 0 t) (iblk m c 1 t) (ix2 r d)) (fun d => View.ld (iblk m c 2 t) (Rect.unit (s := S2048x4096) ![0, o] S2048x512.size inb) (ix2 d k))
      = proj (arg0 m c) (arg1 m c) (arg2 m c) (bt t) (st t r) j := by
  refine congrArg₂ dot (funext fun k => ?_) (funext fun d => ?_)
  · rw [hid_at]
    refine congrArg₂ (fun a g => weighted a g k) (funext fun d => x_at m c t r d) (funext fun d => g_at m c t d)
  · rw [← w_at m c t d j]
    refine congrArg (iblk m c 2 t) (ix2_ext _ d j ?_ ?_)
    · simp [Rect.idx_unit_val]
    · simp [Rect.idx_unit_val, hj]

/-- The pooled stream's column by its position, twenty-four rows of nothing ahead of it. -/
def padded (x0 : S2x16384x2048.Idx → EReal) (x1 : S2048.Idx → EReal) (x2 : S2048x4096.Idx → EReal) (b : Fin 2) (j : Fin 2048) (n : ℕ) : EReal :=
  if h : 24 ≤ n ∧ n < 16408 then proj x0 x1 x2 b ⟨n - 24, by omega⟩ (lo j) else 0

/-- What the stream's buffer holds at a tile's end. -/
def rows (c : Dev nD) (t : Fin cfg0.N) (y : S536x2048.Idx) : EReal :=
  padded (arg0 m c) (arg1 m c) (arg2 m c) (bt t) ⟨(y 1).val, (y 1).isLt⟩ (t.val % 32 * 512 + (y 0).val)

/-- Every stored piece holds the buffer's rows. -/
def Good (c : Dev nD) (t : Fin cfg0.N) (L : List (View.Piece (Elt Ideal) S536x2048 .f32)) : Prop :=
  ∀ p ∈ L, ∀ x, p.2 x = rows m c t (p.1.emb x)

theorem good_nil (c : Dev nD) (t : Fin cfg0.N) : Good m c t [] := fun p hp => absurd hp List.not_mem_nil

theorem good_cons (c : Dev nD) (t : Fin cfg0.N) (r : Rect S536x2048) (w : r.shape.Idx → EReal) (L : List (View.Piece (Elt Ideal) S536x2048 .f32))
    (hw : ∀ x, w x = rows m c t (r.emb x)) (h : Good m c t L) : Good m c t (⟨r, w⟩ :: L) := by
  intro p hp
  rcases List.mem_cons.1 hp with e | e
  · subst e; exact hw
  · exact h p e

theorem good_tile (c : Dev nD) (t : Fin cfg0.N) (o : ℕ) (inb) (inb') (L : List (View.Piece (Elt Ideal) S536x2048 .f32)) (h : Good m c t L) :
    Good m c t (⟨Rect.unit (s := S536x2048) ![24, o] ![512, 512] inb', k0_pay11 (k0_pay6 (iblk m c 0 t) (iblk m c 1 t)) (View.ld (iblk m c 2 t) (Rect.unit (s := S2048x4096) ![0, o] S2048x512.size inb))⟩ :: L) := by
  have ho : o + 512 ≤ 2048 := inb' 1
  refine good_cons m c t _ _ L (fun x => ?_) h
  let r : Fin 512 := ⟨(x 0).val, (x 0).isLt⟩
  let k : Fin 512 := ⟨(x 1).val, (x 1).isLt⟩
  have hx : x = ix2 r k := ix2_ext _ _ _ rfl rfl
  rw [hx, chunk_pay, dot_at m c t o inb r k (lo ⟨o + k.val, by omega⟩) rfl]
  unfold rows padded
  have h0 : ((Rect.unit (s := S536x2048) ![24, o] ![512, 512] inb').emb (ix2 r k) 0).val = 24 + r.val := by
    show 24 + 1 * r.val = _; omega
  have h1 : ((Rect.unit (s := S536x2048) ![24, o] ![512, 512] inb').emb (ix2 r k) 1).val = o + k.val := by
    show o + 1 * k.val = _; omega
  simp only [h0, h1]
  rw [dif_pos (by omega)]
  congr 1
  simp only [st, Fin.mk.injEq]
  omega

theorem good_zero (c : Dev nD) (t : Fin cfg0.N) (ht : t.val % 32 = 0) (inb) : Good m c t [⟨Rect.unit (s := S536x2048) ![0, 0] ![24, 2048] inb, (k0_pay2 (F := Ideal) : S24x2048.Idx → EReal)⟩] := by
  refine good_cons m c t _ _ [] (fun x => ?_) (good_nil m c t)
  have hx0 : (x 0).val < 24 := (x 0).isLt
  have hz : (k0_pay2 (F := Ideal) x : EReal) = 0 := by
    rw [eq_ix2 x]
    unfold k0_pay2
    pointwise
  rw [hz]
  unfold rows padded
  rw [dif_neg]
  show ¬(24 ≤ t.val % 32 * 512 + (0 + 1 * (x 0).val) ∧ _)
  omega

theorem good_halo (c : Dev nD) (t u : Fin cfg0.N) (hu : t.val = u.val + 1) (ht : ¬t.val % 32 = 0) (inb) (inb') (X : S536x2048.Idx → EReal)
    (hX : ∀ y : S536x2048.Idx, 24 ≤ (y 0).val → X y = rows m c u y) :
    Good m c t [⟨Rect.unit (s := S536x2048) ![8, 0] ![16, 2048] inb, k0_pay5 (F := Ideal) (View.ld (Val := Elt Ideal) (e' := .f32) X (Rect.unit (s := S536x2048) ![520, 0] ![16, 2048] inb'))⟩] := by
  refine good_cons m c t _ _ [] (fun x => ?_) (good_nil m c t)
  let r : Fin 16 := ⟨(x 0).val, (x 0).isLt⟩
  let k : Fin 2048 := ⟨(x 1).val, (x 1).isLt⟩
  have hx : x = ix2 r k := ix2_ext _ _ _ rfl rfl
  have h5 : k0_pay5 (F := Ideal) (View.ld (Val := Elt Ideal) (e' := .f32) X (Rect.unit (s := S536x2048) ![520, 0] ![16, 2048] inb')) (ix2 r k) = X (ix2 (⟨520 + r.val, by omega⟩ : Fin 536) k) := by
    unfold k0_pay5
    pointwise
  rw [hx, h5, hX _ (by show 24 ≤ 520 + r.val; omega)]
  unfold rows
  have h0 : ((Rect.unit (s := S536x2048) ![8, 0] ![16, 2048] inb).emb (ix2 r k) 0).val = 8 + r.val := by
    show 8 + 1 * r.val = _; omega
  have h1 : ((Rect.unit (s := S536x2048) ![8, 0] ![16, 2048] inb).emb (ix2 r k) 1).val = k.val := by
    show 0 + 1 * k.val = _; omega
  simp only [h0, h1]
  have hb : bt u = bt t := Fin.ext (by show u.val / 32 = t.val / 32; omega)
  rw [hb]
  show padded _ _ _ _ k (u.val % 32 * 512 + (520 + r.val)) = padded _ _ _ _ k _
  congr 1
  omega

variable {m}

theorem good_canon {c : Dev nD} {t : Fin cfg0.N} {L : List (View.Piece (Elt Ideal) S536x2048 .f32)} (h : Good m c t L) (y : S536x2048.Idx) (hc : ∃ p ∈ L, y ∈ p.1.set) :
    View.canon L y = rows m c t y := by
  induction L with
  | nil => obtain ⟨p, hp, _⟩ := hc; exact absurd hp List.not_mem_nil
  | cons p L ih =>
    by_cases hm : y ∈ p.1.set
    · rw [← Rect.map_emb_univ] at hm
      obtain ⟨x, -, rfl⟩ := Finset.mem_map.1 hm
      exact (View.canon_cons_emb p.1 p.2 L x).trans (h p List.mem_cons_self x)
    · rw [View.canon_cons_of_not_mem p L hm]
      refine ih (fun q hq => h q (List.mem_cons_of_mem _ hq)) ?_
      obtain ⟨q, hq, hy⟩ := hc
      rcases List.mem_cons.1 hq with e | e
      · subst e; exact absurd hy hm
      · exact ⟨q, e, hy⟩

theorem read_good {c : Dev nD} {t : Fin cfg0.N} {L : List (View.Piece (Elt Ideal) S536x2048 .f32)} (h : Good m c t L) (f) (y : S536x2048.Idx) (hc : ∃ p ∈ L, y ∈ p.1.set) :
    View.read (Elt Ideal) (View.whole cc0_scratch1) ((View.whole cc0_scratch1).writes (Elt Ideal) f L) y = rows m c t y :=
  (View.read_writes_apply_eq_canon (View.whole cc0_scratch1) f y L hc).trans (good_canon h y hc)

/-- The stored pieces hold the rows before a tile's own; and, at a group's columns, every row from the eighth. -/
def Halo (L : List (View.Piece (Elt Ideal) S536x2048 .f32)) : Prop :=
  ∀ y : S536x2048.Idx, 8 ≤ (y 0).val → (y 0).val < 24 → ∃ p ∈ L, y ∈ p.1.set
def Covers (C : ℕ) (L : List (View.Piece (Elt Ideal) S536x2048 .f32)) : Prop :=
  ∀ y : S536x2048.Idx, 8 ≤ (y 0).val → C ≤ (y 1).val → (y 1).val < C + 512 → ∃ p ∈ L, y ∈ p.1.set

theorem halo_base (o : ℕ) (n : ℕ) (ho : o ≤ 8) (hn : o + n = 24) (inb) (w) : Halo [⟨Rect.unit (s := S536x2048) ![o, 0] ![n, 2048] inb, w⟩] := by
  intro y h h'
  refine ⟨_, List.mem_cons_self, (Rect.mem_set_unit (inb := inb) (i := y)).2 fun a => ?_⟩
  match a with
  | ⟨0, _⟩ => show o ≤ (y 0).val ∧ (y 0).val < o + n; omega
  | ⟨1, _⟩ => have := (y 1).isLt; show 0 ≤ (y 1).val ∧ (y 1).val < 0 + 2048; exact ⟨by omega, by simpa using this⟩

theorem halo_cons (p : View.Piece (Elt Ideal) S536x2048 .f32) (L : List (View.Piece (Elt Ideal) S536x2048 .f32)) (h : Halo L) : Halo (p :: L) := by
  intro y h0 h1
  obtain ⟨q, hq, hy⟩ := h y h0 h1
  exact ⟨q, List.mem_cons_of_mem _ hq, hy⟩

theorem covers_cons (C : ℕ) (inb) (w) (L : List (View.Piece (Elt Ideal) S536x2048 .f32)) (h : Halo L) : Covers C (⟨Rect.unit (s := S536x2048) ![24, C] ![512, 512] inb, w⟩ :: L) := by
  intro y h0 h1 h2
  by_cases hy : (y 0).val < 24
  · obtain ⟨q, hq, hy⟩ := h y h0 hy
    exact ⟨q, List.mem_cons_of_mem _ hq, hy⟩
  · refine ⟨_, List.mem_cons_self, (Rect.mem_set_unit (inb := inb) (i := y)).2 fun a => ?_⟩
    match a with
    | ⟨0, _⟩ => have : (y 0).val < 536 := (y 0).isLt; show 24 ≤ (y 0).val ∧ (y 0).val < 24 + 512; omega
    | ⟨1, _⟩ => exact ⟨h1, h2⟩

/-- A group's column of the pooled stream by a tile's buffer's row. -/
def colOf (m : (ℓ : Loc nD τ sig) → Buf (Elt Ideal) ℓ) (c : Dev nD) (t : Fin cfg0.N) (g : Fin 4) (p : ℕ) (k : Fin 512) : EReal :=
  padded (arg0 m c) (arg1 m c) (arg2 m c) (bt t) ⟨512 * g.val + k.val, by omega⟩ (t.val % 32 * 512 + p)

theorem rows_col (c : Dev nD) (t : Fin cfg0.N) (g : Fin 4) (C : ℕ) (hC : C = 512 * g.val) (o n : ℕ) (inb) (a : Fin n) (k : Fin 512) :
    rows m c t ((Rect.unit (s := S536x2048) ![o, C] ![n, 512] inb).emb (ix2 a k)) = colOf m c t g (o + a.val) k := by
  have h0 : ((Rect.unit (s := S536x2048) ![o, C] ![n, 512] inb).emb (ix2 a k) 0).val = o + a.val := by
    show o + 1 * a.val = _; omega
  have h1 : ((Rect.unit (s := S536x2048) ![o, C] ![n, 512] inb).emb (ix2 a k) 1).val = 512 * g.val + k.val := by
    show C + 1 * k.val = _; omega
  unfold rows colOf
  simp only [h0, h1]

theorem covered (L : List (View.Piece (Elt Ideal) S536x2048 .f32)) (C : ℕ) (hc : Covers C L) (o n : ℕ) (inb) (a : Fin n) (k : Fin 512) (ha : 8 ≤ o + a.val) :
    ∃ p ∈ L, (Rect.unit (s := S536x2048) ![o, C] ![n, 512] inb).emb (ix2 a k) ∈ p.1.set := by
  refine hc _ ?_ ?_ ?_
  · show 8 ≤ o + 1 * a.val; omega
  · show C ≤ C + 1 * k.val; omega
  · show C + 1 * k.val < C + 512; omega

/-- What a load of a group's columns reads of the buffer: over the stored pieces alone, and over any contents under them. -/
theorem load_cov (c : Dev nD) (t : Fin cfg0.N) (g : Fin 4) (C : ℕ) (hC : C = 512 * g.val) (L : List (View.Piece (Elt Ideal) S536x2048 .f32)) (hL : Good m c t L) (hc : Covers C L)
    (o n : ℕ) (inb) (a : Fin n) (k : Fin 512) (ha : 8 ≤ o + a.val) :
    (View.whole cc0_scratch1).readCov (Val := Elt Ideal) L (Rect.unit (s := S536x2048) ![o, C] ![n, 512] inb).toLoadRect (ix2 a k) = colOf m c t g (o + a.val) k := by
  rw [View.readCov_eq_canon']
  exact (good_canon hL _ (covered L C hc o n inb a k ha)).trans (rows_col c t g C hC o n inb a k)

theorem load_ld (c : Dev nD) (t : Fin cfg0.N) (g : Fin 4) (C : ℕ) (hC : C = 512 * g.val) (L : List (View.Piece (Elt Ideal) S536x2048 .f32)) (hL : Good m c t L) (hc : Covers C L)
    (f) (o n : ℕ) (inb) (a : Fin n) (k : Fin 512) (ha : 8 ≤ o + a.val) :
    View.ld (View.read (Elt Ideal) (View.whole cc0_scratch1) ((View.whole cc0_scratch1).writes (Elt Ideal) f L)) (Rect.unit (s := S536x2048) ![o, C] ![n, 512] inb) (ix2 a k) = colOf m c t g (o + a.val) k := by
  have hcov := covered L C hc o n inb a k ha
  exact ((View.read_writes_apply_eq_canon (View.whole cc0_scratch1) f _ L hcov).trans (good_canon hL _ hcov)).trans (rows_col c t g C hC o n inb a k)

/-- What a load of a level's buffer reads of the level stored last. -/
theorem shift_emb (n : ℕ) (o : ℕ) (inb) (inb') (a a' : Fin n) (k : Fin 512) (h : o + a.val = 8 + a'.val) :
    (Rect.unit (s := S536x512) ![o, 0] ![n, 512] inb').emb (ix2 a k) = (Rect.unit (s := S536x512) ![8, 0] ![n, 512] inb).emb (ix2 a' k) := by
  refine funext fun x => Fin.ext ?_
  match x with
  | ⟨0, _⟩ => show o + 1 * a.val = 8 + 1 * a'.val; omega
  | ⟨1, _⟩ => rfl

theorem shift_cov {sp : Space} (v : View sig .tc sp S536x512 .f32) (n : ℕ) (W : (⟨2, ![n, 512]⟩ : Shape).Idx → EReal) (L : List (View.Piece (Elt Ideal) S536x512 .f32)) (o : ℕ) (inb) (inb') (a a' : Fin n) (k : Fin 512) (h : o + a.val = 8 + a'.val) :
    v.readCov (Val := Elt Ideal) (⟨Rect.unit (s := S536x512) ![8, 0] ![n, 512] inb, W⟩ :: L) (Rect.unit (s := S536x512) ![o, 0] ![n, 512] inb').toLoadRect (ix2 a k) = W (ix2 a' k) := by
  rw [View.readCov_eq_canon']
  exact (congrArg (View.canon _) (shift_emb n o inb inb' a a' k h)).trans (View.canon_cons_emb (Val := Elt Ideal) (e := .f32) (Rect.unit (s := S536x512) ![8, 0] ![n, 512] inb) W L (ix2 a' k))

theorem shift_ld {sp : Space} (v : View sig .tc sp S536x512 .f32) (n : ℕ) (W : (⟨2, ![n, 512]⟩ : Shape).Idx → EReal) (L : List (View.Piece (Elt Ideal) S536x512 .f32)) (f) (o : ℕ) (inb) (inb') (a a' : Fin n) (k : Fin 512) (h : o + a.val = 8 + a'.val) :
    View.ld (View.read (Elt Ideal) v (v.writes (Elt Ideal) f (⟨Rect.unit (s := S536x512) ![8, 0] ![n, 512] inb, W⟩ :: L))) (Rect.unit (s := S536x512) ![o, 0] ![n, 512] inb') (ix2 a k) = W (ix2 a' k) := by
  exact (congrArg (View.read (Elt Ideal) v _) (shift_emb n o inb inb' a a' k h)).trans (View.read_writes_cons_emb v f (Rect.unit (s := S536x512) ![8, 0] ![n, 512] inb) W L (ix2 a' k))

/-- A pooled row's output: the window's mean less the row itself, by the group's weights, scaled and gated. -/
def pooled (x0 : S2x16384x2048.Idx → EReal) (x1 : S2048.Idx → EReal) (x2 : S2048x4096.Idx → EReal) (x3 : S4x512x512.Idx → EReal) (x4 : S2048.Idx → EReal)
    (g : Fin 4) (w : ℕ) (v : BitVec 32) (b : Fin 2) (s : Fin 16384) (e : Fin 512) : EReal :=
  ((∑ k : Fin 512, (Ideal.div (∑ i ∈ Finset.range w, padded x0 x1 x2 b ⟨512 * g.val + k.val, by omega⟩ (s.val + 24 - i)) (count v s.val)
      - padded x0 x1 x2 b ⟨512 * g.val + k.val, by omega⟩ (s.val + 24)) * x3 (ix3 g k e)) * x4 (ix1 (⟨512 * g.val + e.val, by omega⟩ : Fin 2048)))
    * (proj x0 x1 x2 b s (hi ⟨512 * g.val + e.val, by omega⟩) * Ideal.logistic (proj x0 x1 x2 b s (hi ⟨512 * g.val + e.val, by omega⟩)))

theorem piece_at (c : Dev nD) (t : Fin cfg0.N) (g : Fin 4) (C : ℕ) (hC : C = 512 * g.val) (w : ℕ) (hw : w ≤ 16) (v : BitVec 32) (X : FVec Ideal S528x512 .f32) (cur : FVec Ideal S512x512 .f32)
    (hX : Level w (colOf m c t g) X) (hcur : ∀ r k : Fin 512, cur (ix2 r k) = colOf m c t g (24 + r.val) k) (G Z : ℕ) (hG : G = g.val) (hZ : Z = 2048 + C) (inbG) (inbZ) (inbC)
    (x : S1x512x512.Idx) (r e : Fin 512) (hr : r.val = (x 1).val) (he : e.val = (x 2).val) :
    k0_pay1 (means v (k0_pay7 (grid0.coords t)) X cur) (View.ld (iblk m c 3 t) (Rect.unit (s := S4x512x512) ![G, 0, 0] ![1, 512, 512] inbG)) (k0_pay6 (iblk m c 0 t) (iblk m c 1 t))
        (View.ld (iblk m c 2 t) (Rect.unit (s := S2048x4096) ![0, Z] ![2048, 512] inbZ)) (View.ld (iblk m c 4 t) (Rect.unit (s := S1x2048) ![0, C] ![1, 512] inbC)) x
      = pooled (arg0 m c) (arg1 m c) (arg2 m c) (arg3 m c) (arg4 m c) g w v (bt t) (st t r) e := by
  have hx : x = ix3 (0 : Fin 1) r e := ix3_ext _ _ _ _ (by have : (x 0).val < 1 := (x 0).isLt; show (x 0).val = 0; omega) hr.symm he.symm
  have hz := dot_at m c t Z inbZ r e (hi ⟨512 * g.val + e.val, by omega⟩) (by show 512 * g.val + e.val + 2048 = Z + e.val; omega)
  rw [hx, gate_at]
  unfold pooled
  rw [show (dot (fun k => k0_pay6 (iblk m c 0 t) (iblk m c 1 t) (ix2 r k)) fun k => View.ld (iblk m c 2 t) (Rect.unit (s := S2048x4096) ![0, Z] ![2048, 512] inbZ) (ix2 k e)) = _ from hz]
  refine congrArg (· * _) (congrArg₂ (· * ·) (Finset.sum_congr rfl fun k _ => congrArg₂ (· * ·) ?_ ?_) ?_)
  · rw [means_at v _ X cur r k (st t r).val (by rw [pos_at, (idx t).2.2.2.2.2.2]; rfl), hX _ _ (by show w ≤ 16 + r.val + 1; omega), hcur]
    unfold colOf
    refine congrArg₂ (fun a b => Ideal.div a _ - b) (Finset.sum_congr rfl fun i hi => ?_) ?_
    · have := Finset.mem_range.1 hi
      congr 1
      show t.val % 32 * 512 + (8 + (16 + r.val) - i) = t.val % 32 * 512 + r.val + 24 - i
      omega
    · congr 1
      show t.val % 32 * 512 + (24 + r.val) = t.val % 32 * 512 + r.val + 24
      omega
  · rw [← wg_at m c t g k e]
    refine congrArg (iblk m c 3 t) (ix3_ext _ g k e ?_ ?_ ?_)
    · show G + 1 * 0 = g.val; omega
    · show 0 + 1 * k.val = k.val; omega
    · show 0 + 1 * e.val = e.val; omega
  · rw [← sc_at m c t]
    refine congrArg (iblk m c 4 t) (ix2_ext _ _ _ ?_ ?_)
    · rfl
    · show C + 1 * e.val = 512 * g.val + e.val; omega

/-- A tile of the pooled stream, as it is stored. -/
abbrev tile (m : (ℓ : Loc nD τ sig) → Buf (Elt Ideal) ℓ) (c : Dev nD) (t : Fin cfg0.N) (o : ℕ) (inb : ∀ a, (![0, o] : Fin S2048x4096.rank → ℕ) a + S2048x512.size a ≤ S2048x4096.size a)
    (inb' : ∀ a, (![24, o] : Fin S536x2048.rank → ℕ) a + (![512, 512] : Fin S536x2048.rank → ℕ) a ≤ S536x2048.size a) : View.Piece (Elt Ideal) S536x2048 .f32 :=
  ⟨Rect.unit (s := S536x2048) ![24, o] ![512, 512] inb', k0_pay11 (k0_pay6 (iblk m c 0 t) (iblk m c 1 t)) (View.ld (iblk m c 2 t) (Rect.unit (s := S2048x4096) ![0, o] S2048x512.size inb))⟩

abbrev tile0 (m : (ℓ : Loc nD τ sig) → Buf (Elt Ideal) ℓ) (c : Dev nD) (t : Fin cfg0.N) := tile m c t 0 inb_S2048x4096_S2048x512_0_0 inb_S536x2048_S512x512_24_0
abbrev tile1 (m : (ℓ : Loc nD τ sig) → Buf (Elt Ideal) ℓ) (c : Dev nD) (t : Fin cfg0.N) := tile m c t 512 inb_S2048x4096_S2048x512_0_512 inb_S536x2048_S512x512_24_512
abbrev tile2 (m : (ℓ : Loc nD τ sig) → Buf (Elt Ideal) ℓ) (c : Dev nD) (t : Fin cfg0.N) := tile m c t 1024 inb_S2048x4096_S2048x512_0_1024 inb_S536x2048_S512x512_24_1024
abbrev tile3 (m : (ℓ : Loc nD τ sig) → Buf (Elt Ideal) ℓ) (c : Dev nD) (t : Fin cfg0.N) := tile m c t 1536 inb_S2048x4096_S2048x512_0_1536 inb_S536x2048_S512x512_24_1536

theorem good0 {c : Dev nD} {t : Fin cfg0.N} {B : List (View.Piece (Elt Ideal) S536x2048 .f32)} (hb : Good m c t B) : Good m c t (tile0 m c t :: B) := good_tile m c t 0 _ _ B hb
theorem good1 {c : Dev nD} {t : Fin cfg0.N} {B : List (View.Piece (Elt Ideal) S536x2048 .f32)} (hb : Good m c t B) : Good m c t (tile1 m c t :: tile0 m c t :: B) := good_tile m c t 512 _ _ _ (good0 hb)
theorem good2 {c : Dev nD} {t : Fin cfg0.N} {B : List (View.Piece (Elt Ideal) S536x2048 .f32)} (hb : Good m c t B) : Good m c t (tile2 m c t :: tile1 m c t :: tile0 m c t :: B) := good_tile m c t 1024 _ _ _ (good1 hb)
theorem good3 {c : Dev nD} {t : Fin cfg0.N} {B : List (View.Piece (Elt Ideal) S536x2048 .f32)} (hb : Good m c t B) : Good m c t (tile3 m c t :: tile2 m c t :: tile1 m c t :: tile0 m c t :: B) := good_tile m c t 1536 _ _ _ (good2 hb)

/-- All four tiles and the rows ahead of them cover every row from the eighth. -/
theorem covers_all (c : Dev nD) (t : Fin cfg0.N) (B : List (View.Piece (Elt Ideal) S536x2048 .f32)) (hh : Halo B) (y : S536x2048.Idx) (hy : 8 ≤ (y 0).val) :
    ∃ p ∈ tile3 m c t :: tile2 m c t :: tile1 m c t :: tile0 m c t :: B, y ∈ p.1.set := by
  have hy1 : (y 1).val < 2048 := (y 1).isLt
  have h0 := covers_cons 0 inb_S536x2048_S512x512_24_0 (tile0 m c t).2 B hh
  have h1 := covers_cons 512 inb_S536x2048_S512x512_24_512 (tile1 m c t).2 _ (halo_cons (tile0 m c t) B hh)
  have h2 := covers_cons 1024 inb_S536x2048_S512x512_24_1024 (tile2 m c t).2 _ (halo_cons (tile1 m c t) _ (halo_cons (tile0 m c t) B hh))
  have h3 := covers_cons 1536 inb_S536x2048_S512x512_24_1536 (tile3 m c t).2 _ (halo_cons (tile2 m c t) _ (halo_cons (tile1 m c t) _ (halo_cons (tile0 m c t) B hh)))
  by_cases a3 : 1536 ≤ (y 1).val
  · exact h3 y hy a3 (by omega)
  by_cases a2 : 1024 ≤ (y 1).val
  · obtain ⟨p, hp, hm⟩ := h2 y hy a2 (by omega)
    exact ⟨p, List.mem_cons_of_mem _ hp, hm⟩
  by_cases a1 : 512 ≤ (y 1).val
  · obtain ⟨p, hp, hm⟩ := h1 y hy a1 (by omega)
    exact ⟨p, List.mem_cons_of_mem _ (List.mem_cons_of_mem _ hp), hm⟩
  · obtain ⟨p, hp, hm⟩ := h0 y hy (by omega) (by omega)
    exact ⟨p, List.mem_cons_of_mem _ (List.mem_cons_of_mem _ (List.mem_cons_of_mem _ hp)), hm⟩

/-- A tile leaves its rows of the pooled stream in the buffer. -/
theorem kept (c : Dev nD) (n : ℕ) : ∀ (hn : n < cfg0.N) (y : S536x2048.Idx), 24 ≤ (y 0).val → (outsAt0 m c n hn).2.1 y = rows m c ⟨n, hn⟩ y := by
  induction n with
  | zero =>
    intro hn y hy
    have e := outsAt0_A m c ⟨0, hn⟩ rfl (by show ¬1 ≤ 0 % 32; omega)
    rw [show outsAt0 m c 0 hn = _ from e]
    dsimp only
    frame_out
    exact good_canon (good3 (good_zero m c ⟨0, hn⟩ rfl _)) y (covers_all c ⟨0, hn⟩ _ (halo_base 0 24 (by omega) rfl _ _) y (by omega))
  | succ n ih =>
    intro hn y hy
    by_cases ht : (n + 1) % 32 = 0
    · have e := outsAt0_A m c ⟨n + 1, hn⟩ ht (by show ¬1 ≤ (n + 1) % 32; omega)
      rw [show outsAt0 m c (n + 1) hn = _ from e]
      dsimp only
      frame_out
      exact good_canon (good3 (good_zero m c ⟨n + 1, hn⟩ ht _)) y (covers_all c ⟨n + 1, hn⟩ _ (halo_base 0 24 (by omega) rfl _ _) y (by omega))
    · have e := outsAt0_B m c ⟨n + 1, hn⟩ ht (by show 1 ≤ (n + 1) % 32; omega)
      rw [show outsAt0 m c (n + 1) hn = _ from e]
      dsimp only
      frame_out
      exact read_good (good3 (good_halo m c ⟨n + 1, hn⟩ ⟨n, by omega⟩ rfl ht _ _ _ fun z hz => (congrFun (Memref.IsWhole.read_unread _ _) z).trans (ih _ z hz))) _ y
        (covers_all c ⟨n + 1, hn⟩ _ (halo_base 8 16 (by omega) rfl _ _) y (by omega))

end Cert.Kernel6Ideal.Hand

end
-- ==== Proof.Tile6.lean ====
/-
  The pooling layer up to its output projection: every tile's output, its windows' sums doubled group by group.
-/
module

public import proofs.«01_k».proof.Proof.Out6

@[expose] public section

noncomputable section

namespace Cert.Kernel6Ideal.Hand

open Cert.Kernel6Ideal Cert.Kernel6Ideal.Gen
open Idealize.ShloMosaic Idealize.ShloMosaic.TcCoe Idealize.SL.Sem
open Cert.Norm
open Cert.Kernel4Ideal.Hand (proj lo hi)

variable {m : (ℓ : Loc nD τ sig) → Buf (Elt Ideal) ℓ}

/-- A column's group and its place in the group. -/
def grp (j : Fin 2048) : Fin 4 := ⟨j.val / 512, by omega⟩
def plc (j : Fin 2048) : Fin 512 := ⟨j.val % 512, by omega⟩

/-- The layer's output at a token and a column: the group's window is two rows, doubled group by group. -/
def front (x0 : S2x16384x2048.Idx → EReal) (x1 : S2048.Idx → EReal) (x2 : S2048x4096.Idx → EReal) (x3 : S4x512x512.Idx → EReal) (x4 : S2048.Idx → EReal)
    (b : Fin 2) (s : Fin 16384) (j : Fin 2048) : EReal :=
  pooled x0 x1 x2 x3 x4 (grp j) (2 ^ ((grp j).val + 1)) (BitVec.ofNat 32 (2 ^ ((grp j).val + 1))) b s (plc j)

theorem front_at (x0 : S2x16384x2048.Idx → EReal) (x1 : S2048.Idx → EReal) (x2 : S2048x4096.Idx → EReal) (x3 : S4x512x512.Idx → EReal) (x4 : S2048.Idx → EReal)
    (b : Fin 2) (s : Fin 16384) (j : Fin 2048) (g : Fin 4) (e : Fin 512) (hj : j.val = 512 * g.val + e.val) (w : ℕ) (hw : w = 2 ^ (g.val + 1)) (v : BitVec 32) (hv : v = BitVec.ofNat 32 w) :
    pooled x0 x1 x2 x3 x4 g w v b s e = front x0 x1 x2 x3 x4 b s j := by
  have hg : grp j = g := Fin.ext (by show j.val / 512 = g.val; omega)
  have he : plc j = e := Fin.ext (by show j.val % 512 = e.val; omega)
  unfold front
  rw [hg, he, hv, hw]

/-- A row of every tile read of the buffer at a group's columns, from the rows at `o`. -/
def Reads (m : (ℓ : Loc nD τ sig) → Buf (Elt Ideal) ℓ) (c : Dev nD) (t : Fin cfg0.N) (g : Fin 4) (o n : ℕ) (X : (⟨2, ![n, 512]⟩ : Shape).Idx → EReal) : Prop :=
  ∀ (a : Fin n) (k : Fin 512), 8 ≤ o + a.val → X (ix2 a k) = colOf m c t g (o + a.val) k

/-- A level read again, so many rows earlier. -/
def Shift (w : ℕ) (X Y : FVec Ideal S528x512 .f32) : Prop := ∀ (a a' : Fin 528) (k : Fin 512), a.val = a'.val + w → Y (ix2 a k) = X (ix2 a' k)

section Groups

variable (c : Dev nD) (t : Fin cfg0.N) (g : Fin 4) (X Y Z W V : FVec Ideal S528x512 .f32) (cur : FVec Ideal S512x512 .f32)

theorem two (hX : Reads m c t g 8 528 X) (hY : Reads m c t g 7 528 Y) : Level 2 (colOf m c t g) (addf X Y) :=
  level_two _ X Y (fun a k => hX a k (by omega)) fun a k h => hY a k (by omega)
theorem four (hX : Reads m c t g 8 528 X) (hY : Reads m c t g 7 528 Y) (hZ : Shift 2 (addf X Y) Z) : Level 4 (colOf m c t g) (addf (addf X Y) Z) :=
  level_double 2 4 rfl _ _ _ (two c t g X Y hX hY) hZ
theorem eight (hX : Reads m c t g 8 528 X) (hY : Reads m c t g 7 528 Y) (hZ : Shift 2 (addf X Y) Z) (hW : Shift 4 (addf (addf X Y) Z) W) :
    Level 8 (colOf m c t g) (addf (addf (addf X Y) Z) W) :=
  level_double 4 8 rfl _ _ _ (four c t g X Y Z hX hY hZ) hW
theorem sixteen (hX : Reads m c t g 8 528 X) (hY : Reads m c t g 7 528 Y) (hZ : Shift 2 (addf X Y) Z) (hW : Shift 4 (addf (addf X Y) Z) W) (hV : Shift 8 (addf (addf (addf X Y) Z) W) V) :
    Level 16 (colOf m c t g) (addf (addf (addf (addf X Y) Z) W) V) :=
  level_double 8 16 rfl _ _ _ (eight c t g X Y Z W hX hY hZ hW) hV

variable {X Y Z W V cur} (x : S1x512x512.Idx) (r : Fin 512) (j : Fin 2048) (hr : r.val = (x 1).val)

/-- A group's output over a level of its window. -/
theorem group_at (w : ℕ) (hw : w = 2 ^ (g.val + 1)) (hw' : w ≤ 16) (v : BitVec 32) (hv : v = BitVec.ofNat 32 w) (L : FVec Ideal S528x512 .f32) (hL : Level w (colOf m c t g) L) (hcur : Reads m c t g 24 512 cur)
    (C G Z : ℕ) (hC : C = 512 * g.val) (hG : G = g.val) (hZ : Z = 2048 + C) (inbG) (inbZ) (inbC) (hr : r.val = (x 1).val) (hj : j.val = C + (x 2).val) :
    k0_pay1 (means v (k0_pay7 (grid0.coords t)) L cur) (View.ld (iblk m c 3 t) (Rect.unit (s := S4x512x512) ![G, 0, 0] ![1, 512, 512] inbG)) (k0_pay6 (iblk m c 0 t) (iblk m c 1 t))
        (View.ld (iblk m c 2 t) (Rect.unit (s := S2048x4096) ![0, Z] ![2048, 512] inbZ)) (View.ld (iblk m c 4 t) (Rect.unit (s := S1x2048) ![0, C] ![1, 512] inbC)) x
      = front (arg0 m c) (arg1 m c) (arg2 m c) (arg3 m c) (arg4 m c) (bt t) (st t r) j :=
  (piece_at c t g C hC w hw' v L cur hL (fun r k => hcur r k (by omega)) G Z hG hZ inbG inbZ inbC x r ⟨(x 2).val, (x 2).isLt⟩ hr rfl).trans
    (front_at _ _ _ _ _ _ _ j g _ (hj.trans (congrArg (· + (x 2).val) hC)) w hw v hv)

end Groups

theorem shift_of_cov {sp : Space} (v : View sig .tc sp S536x512 .f32) (X W : FVec Ideal S528x512 .f32) (hW : ∀ y, W y = X y) (L : List (View.Piece (Elt Ideal) S536x512 .f32)) (o w : ℕ) (ho : o + w = 8) (inb) (inb') :
    Shift w X (v.readCov (Val := Elt Ideal) (⟨Rect.unit (s := S536x512) ![8, 0] ![528, 512] inb, W⟩ :: L) (Rect.unit (s := S536x512) ![o, 0] ![528, 512] inb').toLoadRect) :=
  fun a a' k h => (shift_cov v 528 W L o inb inb' a a' k (by omega)).trans (hW _)

theorem shift_of_ld {sp : Space} (v : View sig .tc sp S536x512 .f32) (X W : FVec Ideal S528x512 .f32) (hW : ∀ y, W y = X y) (L : List (View.Piece (Elt Ideal) S536x512 .f32)) (f) (o w : ℕ) (ho : o + w = 8) (inb) (inb') :
    Shift w X (View.ld (View.read (Elt Ideal) v (v.writes (Elt Ideal) f (⟨Rect.unit (s := S536x512) ![8, 0] ![528, 512] inb, W⟩ :: L))) (Rect.unit (s := S536x512) ![o, 0] ![528, 512] inb')) :=
  fun a a' k h => (shift_ld v 528 W L f o inb inb' a a' k (by omega)).trans (hW _)

theorem reads_cov (c : Dev nD) (t : Fin cfg0.N) (g : Fin 4) (C : ℕ) (hC : C = 512 * g.val) (L : List (View.Piece (Elt Ideal) S536x2048 .f32)) (hL : Good m c t L) (hc : Covers C L) (o n : ℕ) (inb) :
    Reads m c t g o n ((View.whole cc0_scratch1).readCov (Val := Elt Ideal) L (Rect.unit (s := S536x2048) ![o, C] ![n, 512] inb).toLoadRect) :=
  fun a k h => load_cov c t g C hC L hL hc o n inb a k h

theorem reads_ld (c : Dev nD) (t : Fin cfg0.N) (g : Fin 4) (C : ℕ) (hC : C = 512 * g.val) (L : List (View.Piece (Elt Ideal) S536x2048 .f32)) (hL : Good m c t L) (hc : Covers C L) (f) (o n : ℕ) (inb) :
    Reads m c t g o n (View.ld (View.read (Elt Ideal) (View.whole cc0_scratch1) ((View.whole cc0_scratch1).writes (Elt Ideal) f L)) (Rect.unit (s := S536x2048) ![o, C] ![n, 512] inb)) :=
  fun a k h => load_ld c t g C hC L hL hc f o n inb a k h

/-- Each group's columns are covered once its tile is stored. -/
theorem cov0 (c : Dev nD) (t : Fin cfg0.N) {B : List (View.Piece (Elt Ideal) S536x2048 .f32)} (hh : Halo B) : Covers 0 (tile0 m c t :: B) :=
  covers_cons 0 _ _ _ hh
theorem cov1 (c : Dev nD) (t : Fin cfg0.N) {B : List (View.Piece (Elt Ideal) S536x2048 .f32)} (hh : Halo B) : Covers 512 (tile1 m c t :: tile0 m c t :: B) :=
  covers_cons 512 _ _ _ (halo_cons (tile0 m c t) _ hh)
theorem cov2 (c : Dev nD) (t : Fin cfg0.N) {B : List (View.Piece (Elt Ideal) S536x2048 .f32)} (hh : Halo B) : Covers 1024 (tile2 m c t :: tile1 m c t :: tile0 m c t :: B) :=
  covers_cons 1024 _ _ _ (halo_cons (tile1 m c t) _ (halo_cons (tile0 m c t) _ hh))
theorem cov3 (c : Dev nD) (t : Fin cfg0.N) {B : List (View.Piece (Elt Ideal) S536x2048 .f32)} (hh : Halo B) : Covers 1536 (tile3 m c t :: tile2 m c t :: tile1 m c t :: tile0 m c t :: B) :=
  covers_cons 1536 _ _ _ (halo_cons (tile2 m c t) _ (halo_cons (tile1 m c t) _ (halo_cons (tile0 m c t) _ hh)))

theorem outA (c : Dev nD) (t : Fin cfg0.N) (ht0 : t.val % 32 = 0) (ht1 : ¬1 ≤ t.val % 32) (r : Fin 512) (j : Fin 2048) :
    (outsAt0 m c t.val t.isLt).1 (ix3 (0 : Fin 1) r j) = front (arg0 m c) (arg1 m c) (arg2 m c) (arg3 m c) (arg4 m c) (bt t) (st t r) j := by
  rw [outsAt0_A m c t ht0 ht1]
  dsimp only
  frame_out
  have hb := good_zero m c t ht0 inb_S536x2048_S24x2048_0_0
  have hh : Halo [⟨Rect.unit (s := S536x2048) ![0, 0] ![24, 2048] inb_S536x2048_S24x2048_0_0, (k0_pay2 (F := Ideal) : S24x2048.Idx → EReal)⟩] := halo_base 0 24 (by omega) rfl _ _
  canon_tiles x h
  · rw [group3]
    have h8 := reads_cov c t 3 1536 rfl _ (good3 hb) (cov3 c t hh) 8 528 inb_S536x2048_S528x512_8_1536
    have h7 := reads_cov c t 3 1536 rfl _ (good3 hb) (cov3 c t hh) 7 528 inb_S536x2048_S528x512_7_1536
    have h24 := reads_cov c t 3 1536 rfl _ (good3 hb) (cov3 c t hh) 24 512 inb_S536x2048_S512x512_24_1536
    exact group_at c t 3 x r j 16 rfl (by omega) _ rfl _ (sixteen c t 3 _ _ _ _ _ h8 h7 (shift_of_cov _ _ _ (level2 _ _) _ 6 2 rfl _ _) (shift_of_cov _ _ _ (level4 _ _ _) _ 4 4 rfl _ _)
      (shift_of_cov _ _ _ (level8 _ _ _ _) _ 0 8 rfl _ _)) h24 1536 3 3584 rfl rfl rfl _ _ _ h1 h2
  · rw [group2]
    have h8 := reads_cov c t 2 1024 rfl _ (good2 hb) (cov2 c t hh) 8 528 inb_S536x2048_S528x512_8_1024
    have h7 := reads_cov c t 2 1024 rfl _ (good2 hb) (cov2 c t hh) 7 528 inb_S536x2048_S528x512_7_1024
    have h24 := reads_cov c t 2 1024 rfl _ (good2 hb) (cov2 c t hh) 24 512 inb_S536x2048_S512x512_24_1024
    exact group_at c t 2 x r j 8 rfl (by omega) _ rfl _ (eight c t 2 _ _ _ _ h8 h7 (shift_of_cov _ _ _ (level2 _ _) _ 6 2 rfl _ _) (shift_of_cov _ _ _ (level4 _ _ _) _ 4 4 rfl _ _)) h24 1024 2 3072 rfl rfl rfl _ _ _ h1 h2
  · rw [group1]
    have h8 := reads_cov c t 1 512 rfl _ (good1 hb) (cov1 c t hh) 8 528 inb_S536x2048_S528x512_8_512
    have h7 := reads_cov c t 1 512 rfl _ (good1 hb) (cov1 c t hh) 7 528 inb_S536x2048_S528x512_7_512
    have h24 := reads_cov c t 1 512 rfl _ (good1 hb) (cov1 c t hh) 24 512 inb_S536x2048_S512x512_24_512
    exact group_at c t 1 x r j 4 rfl (by omega) _ rfl _ (four c t 1 _ _ _ h8 h7 (shift_of_cov _ _ _ (level2 _ _) _ 6 2 rfl _ _)) h24 512 1 2560 rfl rfl rfl _ _ _ h1 h2
  · rw [group0]
    have h8 := reads_cov c t 0 0 rfl _ (good0 hb) (cov0 c t hh) 8 528 inb_S536x2048_S528x512_8_0
    have h7 := reads_cov c t 0 0 rfl _ (good0 hb) (cov0 c t hh) 7 528 inb_S536x2048_S528x512_7_0
    have h24 := reads_cov c t 0 0 rfl _ (good0 hb) (cov0 c t hh) 24 512 inb_S536x2048_S512x512_24_0
    exact group_at c t 0 x r j 2 rfl (by omega) _ rfl _ (two c t 0 _ _ h8 h7) h24 0 0 2048 rfl rfl rfl _ _ _ h1 (h2.trans (Nat.zero_add _).symm)

theorem outB (c : Dev nD) (t : Fin cfg0.N) (ht0 : ¬t.val % 32 = 0) (ht1 : 1 ≤ t.val % 32) (r : Fin 512) (j : Fin 2048) :
    (outsAt0 m c t.val t.isLt).1 (ix3 (0 : Fin 1) r j) = front (arg0 m c) (arg1 m c) (arg2 m c) (arg3 m c) (arg4 m c) (bt t) (st t r) j := by
  rw [outsAt0_B m c t ht0 ht1]
  dsimp only
  frame_out
  have hn : t.val - 1 < cfg0.N := by have := t.isLt; omega
  have hb := good_halo m c t ⟨t.val - 1, hn⟩ (by show t.val = t.val - 1 + 1; omega) ht0 inb_S536x2048_S16x2048_8_0 inb_S536x2048_S16x2048_520_0
    (View.read (Elt Ideal) (View.whole cc0_scratch1) (Memref.IsWhole.unread (Memref.isWhole_whole cc0_scratch1) (outsAt0 m c (t.val - 1) hn).2.1))
    fun z hz => (congrFun (Memref.IsWhole.read_unread _ _) z).trans (kept c (t.val - 1) hn z hz)
  have hh := halo_base 8 16 (by omega) rfl inb_S536x2048_S16x2048_8_0 (k0_pay5 (F := Ideal) (View.ld (Val := Elt Ideal) (e' := .f32)
    (View.read (Elt Ideal) (View.whole cc0_scratch1) (Memref.IsWhole.unread (Memref.isWhole_whole cc0_scratch1) (outsAt0 m c (t.val - 1) hn).2.1)) (Rect.unit (s := S536x2048) ![520, 0] ![16, 2048] inb_S536x2048_S16x2048_520_0)))
  canon_tiles x h
  · rw [group3]
    have h8 := reads_cov c t 3 1536 rfl _ (good3 hb) (cov3 c t hh) 8 528 inb_S536x2048_S528x512_8_1536
    have h7 := fun f => reads_ld c t 3 1536 rfl _ (good3 hb) (cov3 c t hh) f 7 528 inb_S536x2048_S528x512_7_1536
    have h24 := reads_cov c t 3 1536 rfl _ (good3 hb) (cov3 c t hh) 24 512 inb_S536x2048_S512x512_24_1536
    exact group_at c t 3 x r j 16 rfl (by omega) _ rfl _ (sixteen c t 3 _ _ _ _ _ h8 (h7 _) (shift_of_ld _ _ _ (level2 _ _) _ _ 6 2 rfl _ _) (shift_of_ld _ _ _ (level4 _ _ _) _ _ 4 4 rfl _ _)
      (shift_of_ld _ _ _ (level8 _ _ _ _) _ _ 0 8 rfl _ _)) h24 1536 3 3584 rfl rfl rfl _ _ _ h1 h2
  · rw [group2]
    have h8 := reads_cov c t 2 1024 rfl _ (good2 hb) (cov2 c t hh) 8 528 inb_S536x2048_S528x512_8_1024
    have h7 := fun f => reads_ld c t 2 1024 rfl _ (good2 hb) (cov2 c t hh) f 7 528 inb_S536x2048_S528x512_7_1024
    have h24 := reads_cov c t 2 1024 rfl _ (good2 hb) (cov2 c t hh) 24 512 inb_S536x2048_S512x512_24_1024
    exact group_at c t 2 x r j 8 rfl (by omega) _ rfl _ (eight c t 2 _ _ _ _ h8 (h7 _) (shift_of_ld _ _ _ (level2 _ _) _ _ 6 2 rfl _ _) (shift_of_ld _ _ _ (level4 _ _ _) _ _ 4 4 rfl _ _)) h24 1024 2 3072 rfl rfl rfl _ _ _ h1 h2
  · rw [group1]
    have h8 := reads_cov c t 1 512 rfl _ (good1 hb) (cov1 c t hh) 8 528 inb_S536x2048_S528x512_8_512
    have h7 := fun f => reads_ld c t 1 512 rfl _ (good1 hb) (cov1 c t hh) f 7 528 inb_S536x2048_S528x512_7_512
    have h24 := reads_cov c t 1 512 rfl _ (good1 hb) (cov1 c t hh) 24 512 inb_S536x2048_S512x512_24_512
    exact group_at c t 1 x r j 4 rfl (by omega) _ rfl _ (four c t 1 _ _ _ h8 (h7 _) (shift_of_ld _ _ _ (level2 _ _) _ _ 6 2 rfl _ _)) h24 512 1 2560 rfl rfl rfl _ _ _ h1 h2
  · rw [group0]
    have h8 := reads_cov c t 0 0 rfl _ (good0 hb) (cov0 c t hh) 8 528 inb_S536x2048_S528x512_8_0
    have h7 := fun f => reads_ld c t 0 0 rfl _ (good0 hb) (cov0 c t hh) f 7 528 inb_S536x2048_S528x512_7_0
    have h24 := reads_cov c t 0 0 rfl _ (good0 hb) (cov0 c t hh) 24 512 inb_S536x2048_S512x512_24_0
    exact group_at c t 0 x r j 2 rfl (by omega) _ rfl _ (two c t 0 _ _ h8 (h7 _)) h24 0 0 2048 rfl rfl rfl _ _ _ h1 (h2.trans (Nat.zero_add _).symm)

end Cert.Kernel6Ideal.Hand

end
-- ==== Proof.Ref6.lean ====
/-
  The pooling layer's reference, element by element.
-/
module

public import proofs.«01_k».proof.Proof.Tile6
public import proofs.«01_k».proof.Proof.RefVal
public import proofs.«01_k».proof.Proof.Gen.Reference6Ideal
public import proofs.«01_k».proof.Proof.Gen.Reference6Ideal.Run
public import proofs.«01_k».proof.Proof.Gen.Reference6Ideal.Read

@[expose] public section

noncomputable section

namespace Cert.Reference6Ideal.Hand

open Cert.Reference6Ideal Cert.Reference6Ideal.Gen Cert.Reference6Ideal.Read
open Idealize.ShloMosaic Idealize.ShloMosaic.TcCoe
open Cert.Norm
open Cert.Kernel4Ideal.Hand (proj lo hi)
open Cert.Kernel6Ideal.Hand (padded count pooled front front_at grp plc)
open Cert.ReferenceIdeal.Hand (windowed hostWindow_apply ix4_ext zero_f32 one_f32)

variable (x0 : S2x16384x2048.Idx → EReal) (x1 : S2048.Idx → EReal) (x2 : S2048x4096.Idx → EReal) (x3 : S4x512x512.Idx → EReal) (x4 : S2048.Idx → EReal)

theorem window_at (n : ℕ) (hn : 0 < n) (f : S2x16384x512.Idx → EReal) (b : Fin 2) (s : Fin 16384) (k : Fin 512) (q : Fin n) :
    windowed (s := S2x16384x512) (t := S2x16384x512) rfl ![1, n, 1] ![1, 1, 1] ![0, n - 1, 0] f (ix3 b s k) (ix3 (0 : Fin 1) q (0 : Fin 1))
      = if h : n - 1 ≤ s.val + q.val then f (ix3 b ⟨s.val + q.val - (n - 1), by omega⟩ k) else 0 := by
  unfold windowed
  by_cases h : n - 1 ≤ s.val + q.val
  · rw [dif_pos h, dif_pos]
    · refine congrArg f (ix3_ext _ _ _ _ ?_ ?_ ?_)
      · show b.val * 1 + 0 - 0 = b.val; omega
      · show s.val * 1 + q.val - (n - 1) = s.val + q.val - (n - 1); omega
      · show k.val * 1 + 0 - 0 = k.val; omega
    · intro a
      match a with
      | ⟨0, _⟩ => show 0 ≤ b.val * 1 + 0 ∧ b.val * 1 + 0 - 0 < 2; omega
      | ⟨1, _⟩ => show n - 1 ≤ s.val * 1 + q.val ∧ s.val * 1 + q.val - (n - 1) < 16384; omega
      | ⟨2, _⟩ => show 0 ≤ k.val * 1 + 0 ∧ k.val * 1 + 0 - 0 < 512; omega
  · rw [dif_neg h, dif_neg]
    intro hin
    have h1 : n - 1 ≤ s.val * 1 + q.val := (hin 1).1
    omega

/-- A trailing window's sum, from the row itself back. -/
theorem trailing (n : ℕ) (hn : 0 < n) (hi) (hw : S2x16384x512.ReduceWindows ![1, n, 1] ![1, 1, 1] ![0, n - 1, 0] hi S2x16384x512) (f : S2x16384x512.Idx → EReal) (b : Fin 2) (j : Fin 2048) (k : Fin 512)
    (hf : ∀ s : Fin 16384, f (ix3 b s k) = proj x0 x1 x2 b s (lo j)) (s : Fin 16384) :
    Ideal.hostReduceWindowAdd ![1, n, 1] ![1, 1, 1] ![0, n - 1, 0] hi hw f 0 (ix3 b s k) = ∑ i ∈ Finset.range n, padded x0 x1 x2 b j (s.val + 24 - i) := by
  rw [hostWindow_apply]
  refine (sum_idx3 (n0 := 1) (n1 := n) (n2 := 1) _).trans ?_
  rw [Fin.sum_univ_one, ← Finset.sum_range_reflect, ← Fin.sum_univ_eq_sum_range (fun i => padded x0 x1 x2 b j (s.val + 24 - (n - 1 - i))) n]
  refine Finset.sum_congr rfl fun q _ => ?_
  rw [Fin.sum_univ_one, window_at n hn]
  have hq := q.isLt
  have hs := s.isLt
  unfold padded
  by_cases h : n - 1 ≤ s.val + q.val
  · rw [dif_pos h, dif_pos (by omega), hf]
    congr 1
    refine Fin.ext ?_
    show s.val + q.val - (n - 1) = s.val + 24 - (n - 1 - q.val) - 24
    omega
  · rw [dif_neg h, dif_neg (by omega)]

theorem padded_self (b : Fin 2) (j : Fin 2048) (s : Fin 16384) : padded x0 x1 x2 b j (s.val + 24) = proj x0 x1 x2 b s (lo j) := by
  unfold padded
  rw [dif_pos (by omega)]
  congr 1

theorem stream_at (b : Fin 2) (s : Fin 16384) (g : Fin 4) (k : Fin 512) :
    val_main_v16 (F := Ideal) x0 x1 x2 (ix4 b s g k) = proj x0 x1 x2 b s (lo ⟨512 * g.val + k.val, by omega⟩) := by
  rw [val_main_v16_apply, val_main_v14_apply]
  refine Cert.Kernel4Ideal.Hand.ref_proj x0 x1 x2 b s _ _ (ix3_ext _ _ _ _ ?_ ?_ ?_)
  · show (((b.val * 16384 + s.val) * 4 + g.val) * 512 + k.val) / 33554432 = b.val; omega
  · show (((b.val * 16384 + s.val) * 4 + g.val) * 512 + k.val) / 2048 % 16384 = s.val; omega
  · show (((b.val * 16384 + s.val) * 4 + g.val) * 512 + k.val) % 2048 = 512 * g.val + k.val; omega

/-- A window's mean less the row itself. -/
def means (g : Fin 4) (w : ℕ) (v : BitVec 32) (b : Fin 2) (s : Fin 16384) (k : Fin 512) : EReal :=
  Ideal.div (∑ i ∈ Finset.range w, padded x0 x1 x2 b ⟨512 * g.val + k.val, by omega⟩ (s.val + 24 - i)) (count v s.val) - padded x0 x1 x2 b ⟨512 * g.val + k.val, by omega⟩ (s.val + 24)

/-- A group of the stream, as the reference cuts it. -/
def cut (o : ℕ) (h : S2x16384x4x512.Slices ![0, 0, o, 0] S2x16384x1x512) : FVec Ideal S2x16384x512 .f32 :=
  shapeCast _ (extractStridedSlice S2x16384x1x512 ![0, 0, o, 0] (val_main_v16 (F := Ideal) x0 x1 x2) h) shapeCasts_S2x16384x1x512_S2x16384x512

theorem cut_at (g : Fin 4) (o : ℕ) (ho : o = g.val) (h) (b : Fin 2) (s : Fin 16384) (k : Fin 512) :
    cut x0 x1 x2 o h (ix3 b s k) = proj x0 x1 x2 b s (lo ⟨512 * g.val + k.val, by omega⟩) := by
  subst ho
  rw [← stream_at]
  unfold cut
  pointwise

/-- The windows' sizes along the row, as the reference counts them. -/
def counts (v : BitVec 32) : FVec Ideal S2x16384x512 .f32 :=
  broadcastInDim S2x16384x512 ![0, 1, 2] bcast_S1x16384x1_S2x16384x512_0_1_2 (broadcastInDim S1x16384x1 ![1] bcast_S16384_S1x16384x1_1
    (sitofp .f32 (minsi (addi (val_main_v17 (F := Ideal)) (broadcastInDim S16384 ![] bcast_S_S16384 (constantI S_ 32 1#32))) (broadcastInDim S16384 ![] bcast_S_S16384 (constantI S_ 32 v)))
      : FVec Ideal S16384 .f32))

theorem counts_at (v : BitVec 32) (b : Fin 2) (s : Fin 16384) (k : Fin 512) : counts v (ix3 b s k) = count v s.val := by
  unfold counts Cert.Kernel6Ideal.Hand.count val_main_v17
  pointwise

/-- The windows' means less the rows, as the reference takes them. -/
def meant (o n : ℕ) (v : BitVec 32) (h : S2x16384x4x512.Slices ![0, 0, o, 0] S2x16384x1x512) (hw : S2x16384x512.ReduceWindows ![1, n, 1] ![1, 1, 1] ![0, n - 1, 0] ![0, 0, 0] S2x16384x512) : FVec Ideal S2x16384x512 .f32 :=
  subf (Host.divf (Host.reduceWindowAdd ![1, n, 1] ![1, 1, 1] ![0, n - 1, 0] ![0, 0, 0] (cut x0 x1 x2 o h) (val_main_v20 (F := Ideal)) hw h_S_) (counts v)) (cut x0 x1 x2 o h)

theorem meant_at (g : Fin 4) (o n : ℕ) (ho : o = g.val) (hn : 0 < n) (v : BitVec 32) (h) (hw) (i : S2x16384x512.Idx) (b : Fin 2) (s : Fin 16384) (k : Fin 512)
    (h0 : (i 0).val = b.val) (h1 : (i 1).val = s.val) (h2 : (i 2).val = k.val) : meant x0 x1 x2 o n v h hw i = means x0 x1 x2 g n v b s k := by
  obtain rfl : i = ix3 b s k := ix3_ext _ _ _ _ h0 h1 h2
  have hz : val_main_v20 (F := Ideal) (Shape.Idx.first h_S_) = (0 : EReal) := by rw [val_main_v20_apply, val_main_cst_2_apply, zero_f32]
  have hs := trailing x0 x1 x2 n hn _ hw (cut x0 x1 x2 o h) b _ k (fun s => cut_at x0 x1 x2 g o ho h b s k) s
  unfold means meant Host.reduceWindowAdd
  rw [padded_self, ← hs, ← counts_at v b s k, ← cut_at x0 x1 x2 g o ho h b s k, ← hz]
  rfl

theorem mean0 : val_main_v30 (F := Ideal) x0 x1 x2 = meant x0 x1 x2 0 2 2#32 slices_S2x16384x4x512_S2x16384x1x512_0_0_0_0 reduceWindows_S2x16384x512_S2x16384x512_w1s1p0_0_w2s1p1_0_w1s1p0_0 := rfl

theorem mean1 : val_main_v43 (F := Ideal) x0 x1 x2 = meant x0 x1 x2 1 4 4#32 slices_S2x16384x4x512_S2x16384x1x512_0_0_1_0 reduceWindows_S2x16384x512_S2x16384x512_w1s1p0_0_w4s1p3_0_w1s1p0_0 := rfl

theorem mean2 : val_main_v56 (F := Ideal) x0 x1 x2 = meant x0 x1 x2 2 8 8#32 slices_S2x16384x4x512_S2x16384x1x512_0_0_2_0 reduceWindows_S2x16384x512_S2x16384x512_w1s1p0_0_w8s1p7_0_w1s1p0_0 := rfl

theorem mean3 : val_main_v69 (F := Ideal) x0 x1 x2 = meant x0 x1 x2 3 16 16#32 slices_S2x16384x4x512_S2x16384x1x512_0_0_3_0 reduceWindows_S2x16384x512_S2x16384x512_w1s1p0_0_w16s1p15_0_w1s1p0_0 := rfl

theorem stacked (g : Fin 4) (b : Fin 2) (s : Fin 16384) (k : Fin 512) :
    val_main_v74 (F := Ideal) x0 x1 x2 (ix4 b s g k) = means x0 x1 x2 g (2 ^ (g.val + 1)) (BitVec.ofNat 32 (2 ^ (g.val + 1))) b s k := by
  unfold val_main_v74
  concat_tiles i h
  · obtain rfl : g = 0 := Fin.ext h
    rw [val_main_v70_apply, mean0]
    exact meant_at x0 x1 x2 0 0 2 rfl (by omega) 2#32 _ _ _ b s k h0 h1 h3
  · obtain rfl : g = 1 := Fin.ext h
    rw [val_main_v71_apply, mean1]
    exact meant_at x0 x1 x2 1 1 4 rfl (by omega) 4#32 _ _ _ b s k h0 h1 h3
  · obtain rfl : g = 2 := Fin.ext h
    rw [val_main_v72_apply, mean2]
    exact meant_at x0 x1 x2 2 2 8 rfl (by omega) 8#32 _ _ _ b s k h0 h1 h3
  · obtain rfl : g = 3 := Fin.ext h
    rw [val_main_v73_apply, mean3]
    exact meant_at x0 x1 x2 3 3 16 rfl (by omega) 16#32 _ _ _ b s k h0 h1 h3

/-- The reference's result at a token and a column. -/
theorem v83_at (b : Fin 2) (s : Fin 16384) (j : Fin 2048) : val_main_v83 (F := Ideal) x0 x1 x2 x3 x4 (ix3 b s j) = front x0 x1 x2 x3 x4 b s j := by
  have hz : val_main_v15 (F := Ideal) x0 x1 x2 (ix3 b s j) = proj x0 x1 x2 b s (hi j) := by
    rw [val_main_v15_apply]
    exact Cert.Kernel4Ideal.Hand.ref_proj x0 x1 x2 b s (hi j) _ (ix3_ext _ b s (hi j) (by simp [idx_main_v15]) (by simp [idx_main_v15]) (by simp [idx_main_v15, hi, Nat.add_comm]))
  have hj : (⟨512 * (grp j).val + (plc j).val, by have := (grp j).isLt; have := (plc j).isLt; omega⟩ : Fin 2048) = j := Fin.ext (by show 512 * (j.val / 512) + j.val % 512 = j.val; omega)
  have hy : val_main_v77 (F := Ideal) x0 x1 x2 x3 (ix3 b s j) = ∑ k : Fin 512, means x0 x1 x2 (grp j) (2 ^ ((grp j).val + 1)) (BitVec.ofNat 32 (2 ^ ((grp j).val + 1))) b s k * x3 (ix3 (grp j) k (plc j)) := by
    have hi : idx_main_v77 (ix3 b s j) = ix4 b s (grp j) (plc j) := ix4_ext _ _ _ _ _ (flat_batch b s j) (flat_pos b s j)
      (by show ((b.val * 16384 + s.val) * 2048 + j.val) / 512 % 4 = j.val / 512; omega) (by show ((b.val * 16384 + s.val) * 2048 + j.val) % 512 = j.val % 512; omega)
    rw [val_main_v77_apply, val_main_v76_apply, val_main_v75_apply]
    refine Finset.sum_congr rfl fun k _ => ?_
    rw [mul_comm, hi, ← stacked]
    refine congrArg₂ (· * ·) (congrArg (val_main_v74 (F := Ideal) x0 x1 x2) (ix4_ext _ b s (grp j) k rfl rfl rfl rfl)) (congrArg x3 (ix3_ext _ (grp j) k (plc j) rfl rfl rfl))
  have hs : val_main_v79 (F := Ideal) x4 (ix3 b s j) = x4 (ix1 j) := by
    rw [val_main_v79_apply, val_main_v78_apply]
    refine congrArg x4 (funext fun a => Fin.ext ?_)
    match a with
    | ⟨0, _⟩ => rfl
  rw [val_main_v83_apply, val_main_v82_apply, val_main_v80_apply, hy, hs, val_main_v81_apply, val_main_call0_v5_apply, val_main_call0_v4_apply, val_main_call0_cst_0_apply, val_main_call0_v3_apply,
    val_main_call0_v2_apply, val_main_call0_cst_apply, val_main_call0_v1_apply, val_main_call0_v0_apply, one_f32, hz]
  unfold front pooled
  rw [hj]
  rfl

end Cert.Reference6Ideal.Hand

end
-- ==== Proof.Alg6.lean ====
/-
  The pooling layer's value claim: the kernel's tiles are the reference's elements.
-/
module

public import proofs.«01_k».proof.Proof.Ref6

@[expose] public section

noncomputable section

namespace Cert.Kernel6Ideal.Hand

open Cert.Kernel6Ideal Cert.Kernel6Ideal.Gen
open Idealize.ShloMosaic Idealize.ShloMosaic.TcCoe Idealize.SL.Sem
open Cert.Norm

variable (m : (ℓ : Loc nD τ sig) → Buf (Elt Ideal) ℓ)

/-- The reference's result on the kernel's arguments. -/
abbrev pools (c : Dev nD) : S2x16384x2048.Idx → EReal :=
  Cert.Reference6Ideal.Read.val_main_v83 (F := Ideal) (arg0 m c) (arg1 m c) (arg2 m c) (arg3 m c) (arg4 m c)

theorem out_at (c : Dev nD) (t : Fin cfg0.N) (r : Fin 512) (j : Fin 2048) :
    (outsAt0 m c t.val t.isLt).1 (ix3 (0 : Fin 1) r j) = pools m c (ix3 (bt t) (st t r) j) := by
  refine Eq.trans ?_ (Cert.Reference6Ideal.Hand.v83_at _ _ _ _ _ _ _ _).symm
  by_cases h : t.val % 32 = 0
  · exact outA c t h (by omega) r j
  · exact outB c t h (by omega) r j

theorem final (c : Dev nD) : (dats m 0 c).arrAt 5 cfg0.N = pools m c := by
  refine (dats m 0 c).arrAt_eq_of_covers 5 _ (by decide +kernel) fun t hf y => ?_
  blk_simp
  rw [after0_5]
  let r : Fin 512 := ⟨(y 1).val, (y 1).isLt⟩
  let j : Fin 2048 := ⟨(y 2).val, (y 2).isLt⟩
  have hy : y = (ix3 (0 : Fin 1) r j : S1x512x2048.Idx) := ix3_ext _ _ r j (Nat.lt_one_iff.1 (y 0).isLt) rfl rfl
  rw [hy]
  refine (out_at m c t r j).trans (congrArg (pools m c) ?_)
  have hb : (bt t).val = t.val / 32 := rfl
  have hs : (st t r).val = t.val % 32 * 512 + r.val := rfl
  blk_ext [(idx t).2.2.2.2.2.1]

/-- Both programs end with the reference's result on the shared arguments. -/
theorem algebraic : Cert.algebraic_Kernel6Ideal_Reference6Ideal := by
  intro m g m' g' _ hagree
  refine ⟨fun c => pools m c, (θ_run defs _ _).mono (fun r h c => ⟨(h c).1.trans (final m c), (h c).2⟩)
    (Cert.Kernel6Ideal.Value.run_blocks m g), ?_⟩
  refine (θ_run Cert.Reference6Ideal.defs _ _).mono (fun r h c => ⟨(h c).1.trans ?_, (h c).2⟩) (Cert.Reference6Ideal.Value.run (F := Ideal) m' g')
  obtain ⟨h0, h1, h2, h3, h4⟩ := hagree c
  rw [Cert.Reference6Ideal.Read.val_main_v83_eq, h0, h1, h2, h3, h4]

end Cert.Kernel6Ideal.Hand

end
-- ==== Proof.lean ====
/-
  The certificate of the stick-breaking attention: both programs' runs by hand (the launch of `wp_body`), the reference's
  by its generated run; the value claim off the kernel's tiles and the reference's elements.
-/
module

public import proofs.«01_k».proof.Defs
public import proofs.«01_k».proof.Proof.Ref
public import proofs.«01_k».proof.Proof.Launch
public import proofs.«01_k».proof.Proof.Alg
public import proofs.«01_k».proof.Proof.Bits.Launch
public import proofs.«01_k».proof.Proof.Gen.Kernel
public import proofs.«01_k».proof.Proof.Gen.KernelIdeal
public import proofs.«01_k».proof.Proof.Gen.ReferenceIdeal
public import proofs.«01_k».proof.Proof.Out2
public import proofs.«01_k».proof.Proof.Out3
public import proofs.«01_k».proof.Proof.Out4
public import proofs.«01_k».proof.Proof.Out5
public import proofs.«01_k».proof.Proof.Alg6
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import Idealize.ShloMosaic.Adequacy
public import Idealize.ShloMosaic.Init

@[expose] public section

noncomputable section

namespace Cert.Proof

open Idealize.ShloMosaic Idealize.SL.Sem

/-- The kernel's frame on the machine's words. -/
theorem frame_p : Cert.quiescent_Kernel := fun m ρ _ => Cert.Kernel.Hand.run_frame m ρ

/-- The idealized kernel's frame. -/
theorem frame_pi : Cert.quiescent_KernelIdeal := fun m ρ _ => Cert.KernelIdeal.Hand.run_frame m ρ

/-- The reference's frame: it has no semaphore. -/
theorem frame_ri : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- The three named constants. -/
theorem preserves : Cert.preserves_Kernel_KernelIdeal :=
  ⟨IdealRules.named_const.statement Cert.KernelIdeal.κ "cap" .f32 0x42FC0000#32 ⊤ rfl,
    IdealRules.named_const.statement Cert.KernelIdeal.κ "log2e" .f32 0x3FB8AA3B#32 (((Real.log 2)⁻¹ : ℝ) : EReal) rfl,
    IdealRules.named_const.statement Cert.KernelIdeal.κ "mask" .f32 0xF149F2CA#32 ⊥ rfl⟩

/-- The value claim: both programs end with the reference's result on the shared arguments. -/
theorem algebraic : Cert.algebraic_KernelIdeal_ReferenceIdeal := by
  intro m g m' g' _ hagree
  refine ⟨fun c => Cert.KernelIdeal.Hand.result m c, Cert.KernelIdeal.Hand.run_value m g, ?_⟩
  refine (θ_run Cert.ReferenceIdeal.defs _ _).mono (fun r h c => ⟨(h c).1.trans ?_, (h c).2⟩) (Cert.ReferenceIdeal.Value.run (F := Ideal) m' g')
  obtain ⟨h0, h1, h2, h3⟩ := hagree c
  rw [Cert.ReferenceIdeal.Read.val_main_v31_eq, h0, h1, h2, h3]

theorem frame_p2 : Cert.quiescent_Kernel2 := fun m ρ _ => Cert.Kernel2.Gen.frame m ρ

theorem frame_pi2 : Cert.quiescent_Kernel2Ideal := fun m ρ _ => Cert.Kernel2Ideal.Gen.frame m ρ

theorem frame_ri2 : Cert.quiescent_Reference2Ideal := fun m ρ _ =>
  (θ_run Cert.Reference2Ideal.defs _ _).mono (fun r h => ⟨fun c => (h c).2,
      Idealize.ShloMosaic.sem_eq_zero_of_no_sems (by decide) r.2⟩)
    (Cert.Reference2Ideal.Value.run (F := Ideal) m ρ)

theorem frame_p3 : Cert.quiescent_Kernel3 := fun m ρ _ => Cert.Kernel3.Gen.frame m ρ

theorem frame_pi3 : Cert.quiescent_Kernel3Ideal := fun m ρ _ => Cert.Kernel3Ideal.Gen.frame m ρ

theorem frame_ri3 : Cert.quiescent_Reference3Ideal := fun m ρ _ =>
  (θ_run Cert.Reference3Ideal.defs _ _).mono (fun r h => ⟨fun c => (h c).2,
      Idealize.ShloMosaic.sem_eq_zero_of_no_sems (by decide) r.2⟩)
    (Cert.Reference3Ideal.Value.run (F := Ideal) m ρ)

theorem frame_p4 : Cert.quiescent_Kernel4 := fun m ρ _ => Cert.Kernel4.Gen.frame m ρ

theorem frame_pi4 : Cert.quiescent_Kernel4Ideal := fun m ρ _ => Cert.Kernel4Ideal.Gen.frame m ρ

theorem frame_ri4 : Cert.quiescent_Reference4Ideal := fun m ρ _ =>
  (θ_run Cert.Reference4Ideal.defs _ _).mono (fun r h => ⟨fun c => (h c).2.2,
      Idealize.ShloMosaic.sem_eq_zero_of_no_sems (by decide) r.2⟩)
    (Cert.Reference4Ideal.Value.run (F := Ideal) m ρ)

theorem frame_p5 : Cert.quiescent_Kernel5 := fun m ρ _ => Cert.Kernel5.Gen.frame m ρ

theorem frame_pi5 : Cert.quiescent_Kernel5Ideal := fun m ρ _ => Cert.Kernel5Ideal.Gen.frame m ρ

theorem frame_ri5 : Cert.quiescent_Reference5Ideal := fun m ρ _ =>
  (θ_run Cert.Reference5Ideal.defs _ _).mono (fun r h => ⟨fun c => (h c).2.2,
      Idealize.ShloMosaic.sem_eq_zero_of_no_sems (by decide) r.2⟩)
    (Cert.Reference5Ideal.Value.run (F := Ideal) m ρ)

/-- The score scale of the query projection. -/
theorem preserves5 : Cert.preserves_Kernel5_Kernel5Ideal :=
  IdealRules.named_const.statement Cert.Kernel5Ideal.κ "scale" .f32 0x3DB8AA3B#32 (((Real.log 65536)⁻¹ : ℝ) : EReal) rfl

theorem frame_p6 : Cert.quiescent_Kernel6 := fun m ρ _ => Cert.Kernel6.Gen.frame m ρ

theorem frame_pi6 : Cert.quiescent_Kernel6Ideal := fun m ρ _ => Cert.Kernel6Ideal.Gen.frame m ρ

theorem frame_ri6 : Cert.quiescent_Reference6Ideal := fun m ρ _ =>
  (θ_run Cert.Reference6Ideal.defs _ _).mono (fun r h => ⟨fun c => (h c).2,
      Idealize.ShloMosaic.sem_eq_zero_of_no_sems (by decide) r.2⟩)
    (Cert.Reference6Ideal.Value.run (F := Ideal) m ρ)

theorem claim : Cert.Claim :=
  ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts,
    frame_p, frame_pi, frame_ri, frame_p2, frame_pi2, frame_ri2, frame_p3, frame_pi3, frame_ri3, frame_p4, frame_pi4, frame_ri4, frame_p5, frame_pi5, frame_ri5, frame_p6, frame_pi6, frame_ri6,
    preserves, algebraic, trivial, Cert.Kernel2Ideal.Hand.algebraic, trivial, Cert.Kernel3Ideal.Hand.algebraic, trivial, Cert.Kernel4Ideal.Hand.algebraic, preserves5, Cert.Kernel5Ideal.Hand.algebraic, trivial, Cert.Kernel6Ideal.Hand.algebraic⟩

end Cert.Proof

end
